-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "qscale" .f32 0x3E38AA3B#32 (((1 / 8) * (Real.log 2)⁻¹ : ℝ) : EReal)

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v113) = v0 c
          ∧ r.2.mem ((c.tc : Thread Cert.Reference2Ideal.nD Cert.Reference2Ideal.τ).loc Cert.Reference2Ideal.main_v114) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)) (v4 : (c : Dev Cert.Kernel3Ideal.nD) → Buf (Elt Ideal) ((c.tc : Thread Cert.Kernel3Ideal.nD Cert.Kernel3Ideal.τ).loc Cert.Kernel3Ideal.main_v5_4)) (v5 : (c : Dev Cert.Kernel3Ideal.nD) → Buf (Elt Ideal) ((c.tc : Thread Cert.Kernel3Ideal.nD Cert.Kernel3Ideal.τ).loc Cert.Kernel3Ideal.main_v5_5)) (v6 : (c : Dev Cert.Kernel3Ideal.nD) → Buf (Elt Ideal) ((c.tc : Thread Cert.Kernel3Ideal.nD Cert.Kernel3Ideal.τ).loc Cert.Kernel3Ideal.main_v5_6)) (v7 : (c : Dev Cert.Kernel3Ideal.nD) → Buf (Elt Ideal) ((c.tc : Thread Cert.Kernel3Ideal.nD Cert.Kernel3Ideal.τ).loc Cert.Kernel3Ideal.main_v5_7)) (v8 : (c : Dev Cert.Kernel3Ideal.nD) → Buf (Elt Ideal) ((c.tc : Thread Cert.Kernel3Ideal.nD Cert.Kernel3Ideal.τ).loc Cert.Kernel3Ideal.main_v5_8)) (v9 : (c : Dev Cert.Kernel3Ideal.nD) → Buf (Elt Ideal) ((c.tc : Thread Cert.Kernel3Ideal.nD Cert.Kernel3Ideal.τ).loc Cert.Kernel3Ideal.main_v5_9)) (v10 : (c : Dev Cert.Kernel3Ideal.nD) → Buf (Elt Ideal) ((c.tc : Thread Cert.Kernel3Ideal.nD Cert.Kernel3Ideal.τ).loc Cert.Kernel3Ideal.main_v5_10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_v5_4) = v4 c
          ∧ r.2.mem ((c.tc : Thread Cert.Kernel3Ideal.nD Cert.Kernel3Ideal.τ).loc Cert.Kernel3Ideal.main_v5_5) = v5 c
          ∧ r.2.mem ((c.tc : Thread Cert.Kernel3Ideal.nD Cert.Kernel3Ideal.τ).loc Cert.Kernel3Ideal.main_v5_6) = v6 c
          ∧ r.2.mem ((c.tc : Thread Cert.Kernel3Ideal.nD Cert.Kernel3Ideal.τ).loc Cert.Kernel3Ideal.main_v5_7) = v7 c
          ∧ r.2.mem ((c.tc : Thread Cert.Kernel3Ideal.nD Cert.Kernel3Ideal.τ).loc Cert.Kernel3Ideal.main_v5_8) = v8 c
          ∧ r.2.mem ((c.tc : Thread Cert.Kernel3Ideal.nD Cert.Kernel3Ideal.τ).loc Cert.Kernel3Ideal.main_v5_9) = v9 c
          ∧ r.2.mem ((c.tc : Thread Cert.Kernel3Ideal.nD Cert.Kernel3Ideal.τ).loc Cert.Kernel3Ideal.main_v5_10) = v10 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_v28) = v2 c
          ∧ r.2.mem ((c.tc : Thread Cert.Reference3Ideal.nD Cert.Reference3Ideal.τ).loc Cert.Reference3Ideal.main_v31) = v3 c
          ∧ r.2.mem ((c.tc : Thread Cert.Reference3Ideal.nD Cert.Reference3Ideal.τ).loc Cert.Reference3Ideal.main_v34) = v4 c
          ∧ r.2.mem ((c.tc : Thread Cert.Reference3Ideal.nD Cert.Reference3Ideal.τ).loc Cert.Reference3Ideal.main_v37) = v5 c
          ∧ r.2.mem ((c.tc : Thread Cert.Reference3Ideal.nD Cert.Reference3Ideal.τ).loc Cert.Reference3Ideal.main_v42) = v6 c
          ∧ r.2.mem ((c.tc : Thread Cert.Reference3Ideal.nD Cert.Reference3Ideal.τ).loc Cert.Reference3Ideal.main_v45) = v7 c
          ∧ r.2.mem ((c.tc : Thread Cert.Reference3Ideal.nD Cert.Reference3Ideal.τ).loc Cert.Reference3Ideal.main_v46) = v8 c
          ∧ r.2.mem ((c.tc : Thread Cert.Reference3Ideal.nD Cert.Reference3Ideal.τ).loc Cert.Reference3Ideal.main_v48) = v9 c
          ∧ r.2.mem ((c.tc : Thread Cert.Reference3Ideal.nD Cert.Reference3Ideal.τ).loc Cert.Reference3Ideal.main_v50) = v10 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_args.lean ====
abbrev S8x2048x512 : Shape := ⟨3, ![8, 2048, 512]⟩
abbrev S32x4 : Shape := ⟨2, ![32, 4]⟩
abbrev S2x64 : Shape := ⟨2, ![2, 64]⟩
abbrev S128 : Shape := ⟨1, ![128]⟩
abbrev S_ : Shape := ⟨0, ![]⟩

class Facts : Prop where
  bcast_S_S8x2048x512 : S_.BroadcastsInDim S8x2048x512 (![] : Fin 0 → Fin S8x2048x512.rank)
  bcast_S_S32x4 : S_.BroadcastsInDim S32x4 (![] : Fin 0 → Fin S32x4.rank)
  bcast_S_S2x64 : S_.BroadcastsInDim S2x64 (![] : Fin 0 → Fin S2x64.rank)

variable [Facts]

def fn {F : FTy → Type} [FloatOps F] (main_arg0 : FVec F S8x2048x512 .f32) (main_arg1 : FVec F S8x2048x512 .f32) (main_arg2 : FVec F S8x2048x512 .f32) (main_arg3 : FVec F S32x4 .f32) (main_arg4 : FVec F S2x64 .f32) (main_arg5 : FVec F S2x64 .f32) (main_arg6 : FVec F S128 .f32) : IVec S8x2048x512 1 × IVec S8x2048x512 1 × IVec S8x2048x512 1 × IVec S32x4 1 × IVec S2x64 1 × IVec S2x64 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_v3 : FVec F S8x2048x512 .f32 := Host.absf main_arg1
  let main_cst_0 : FVec F S_ .f32 := constant S_ .f32 0x7F800000#32
  let main_v4 : FVec F S8x2048x512 .f32 := broadcastInDim S8x2048x512 ![] bcast_S_S8x2048x512 main_cst_0
  let main_v5 : IVec S8x2048x512 1 := cmpf .olt main_v3 main_v4
  let main_v6 : FVec F S8x2048x512 .f32 := Host.absf main_arg2
  let main_cst_1 : FVec F S_ .f32 := constant S_ .f32 0x7F800000#32
  let main_v7 : FVec F S8x2048x512 .f32 := broadcastInDim S8x2048x512 ![] bcast_S_S8x2048x512 main_cst_1
  let main_v8 : IVec S8x2048x512 1 := cmpf .olt main_v6 main_v7
  let main_v9 : FVec F S32x4 .f32 := Host.absf main_arg3
  let main_cst_2 : FVec F S_ .f32 := constant S_ .f32 0x7F800000#32
  let main_v10 : FVec F S32x4 .f32 := broadcastInDim S32x4 ![] bcast_S_S32x4 main_cst_2
  let main_v11 : IVec S32x4 1 := cmpf .olt main_v9 main_v10
  let main_v12 : FVec F S2x64 .f32 := Host.absf main_arg4
  let main_cst_3 : FVec F S_ .f32 := constant S_ .f32 0x7F800000#32
  let main_v13 : FVec F S2x64 .f32 := broadcastInDim S2x64 ![] bcast_S_S2x64 main_cst_3
  let main_v14 : IVec S2x64 1 := cmpf .olt main_v12 main_v13
  let main_v15 : FVec F S2x64 .f32 := Host.absf main_arg5
  let main_cst_4 : FVec F S_ .f32 := constant S_ .f32 0x7F800000#32
  let main_v16 : FVec F S2x64 .f32 := broadcastInDim S2x64 ![] bcast_S_S2x64 main_cst_4
  let main_v17 : IVec S2x64 1 := cmpf .olt main_v15 main_v16
  (main_v2, main_v5, main_v8, main_v11, main_v14, main_v17)
-- ==== Kernel.lean ====
abbrev S8x2048x512 : Shape := ⟨3, ![8, 2048, 512]⟩
abbrev S32x4 : Shape := ⟨2, ![32, 4]⟩
abbrev S2x64 : Shape := ⟨2, ![2, 64]⟩
abbrev S128 : Shape := ⟨1, ![128]⟩
abbrev S16384x4x128 : Shape := ⟨3, ![16384, 4, 128]⟩
abbrev S4x16384x128 : Shape := ⟨3, ![4, 16384, 128]⟩
abbrev S4x2x256x256 : Shape := ⟨4, ![4, 2, 256, 256]⟩
abbrev S256x256 : Shape := ⟨2, ![256, 256]⟩
abbrev S1x1 : Shape := ⟨2, ![1, 1]⟩
abbrev S1x1x256x256 : Shape := ⟨4, ![1, 1, 256, 256]⟩
abbrev S1x128 : Shape := ⟨2, ![1, 128]⟩
abbrev S16384x512 : Shape := ⟨2, ![16384, 512]⟩
abbrev S1x2048x128 : Shape := ⟨3, ![1, 2048, 128]⟩
abbrev S1x2x256x256 : Shape := ⟨4, ![1, 2, 256, 256]⟩
abbrev S2048x128 : Shape := ⟨2, ![2048, 128]⟩
abbrev S2048x256 : Shape := ⟨2, ![2048, 256]⟩
abbrev S256x128 : Shape := ⟨2, ![256, 128]⟩
abbrev S1x64 : Shape := ⟨2, ![1, 64]⟩
abbrev S1 : Shape := ⟨1, ![1]⟩
abbrev S512x256 : Shape := ⟨2, ![512, 256]⟩
abbrev S1x256x128 : Shape := ⟨3, ![1, 256, 128]⟩
abbrev S512x128 : Shape := ⟨2, ![512, 128]⟩
abbrev S512 : Shape := ⟨1, ![512]⟩
abbrev S512x1 : Shape := ⟨2, ![512, 1]⟩
abbrev S512x2048 : Shape := ⟨2, ![512, 2048]⟩
abbrev S512x1536 : Shape := ⟨2, ![512, 1536]⟩
abbrev S1x512x128 : Shape := ⟨3, ![1, 512, 128]⟩
abbrev S512x512 : Shape := ⟨2, ![512, 512]⟩
abbrev S1x1792x128 : Shape := ⟨3, ![1, 1792, 128]⟩
abbrev S1792x128 : Shape := ⟨2, ![1792, 128]⟩
abbrev S512x1792 : Shape := ⟨2, ![512, 1792]⟩
abbrev S512x1280 : Shape := ⟨2, ![512, 1280]⟩
abbrev S256x1 : Shape := ⟨2, ![256, 1]⟩
abbrev S256 : Shape := ⟨1, ![256]⟩
abbrev S256x2048 : Shape := ⟨2, ![256, 2048]⟩
abbrev S256x512 : Shape := ⟨2, ![256, 512]⟩
abbrev S1792x256 : Shape := ⟨2, ![1792, 256]⟩
abbrev S256x1792 : Shape := ⟨2, ![256, 1792]⟩
abbrev S1x768x128 : Shape := ⟨3, ![1, 768, 128]⟩
abbrev S768x128 : Shape := ⟨2, ![768, 128]⟩
abbrev S512x768 : Shape := ⟨2, ![512, 768]⟩
abbrev S1x1536x128 : Shape := ⟨3, ![1, 1536, 128]⟩
abbrev S1536x128 : Shape := ⟨2, ![1536, 128]⟩
abbrev S512x1024 : Shape := ⟨2, ![512, 1024]⟩
abbrev S1x1024x128 : Shape := ⟨3, ![1, 1024, 128]⟩
abbrev S1024x128 : Shape := ⟨2, ![1024, 128]⟩
abbrev S1x1280x128 : Shape := ⟨3, ![1, 1280, 128]⟩
abbrev S1280x128 : Shape := ⟨2, ![1280, 128]⟩
abbrev S768x256 : Shape := ⟨2, ![768, 256]⟩
abbrev S256x768 : Shape := ⟨2, ![256, 768]⟩
abbrev S1536x256 : Shape := ⟨2, ![1536, 256]⟩
abbrev S256x1536 : Shape := ⟨2, ![256, 1536]⟩
abbrev S1024x256 : Shape := ⟨2, ![1024, 256]⟩
abbrev S256x1024 : Shape := ⟨2, ![256, 1024]⟩
abbrev S1280x256 : Shape := ⟨2, ![1280, 256]⟩
abbrev S256x1280 : Shape := ⟨2, ![256, 1280]⟩

abbrev nBuf : Space → Nat
  | .hbm => 19
  | .vmem => 15
  | .smem => 1
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S32x4, .f32⟩
  | .hbm, ⟨4, _⟩ => ⟨S2x64, .f32⟩
  | .hbm, ⟨5, _⟩ => ⟨S2x64, .f32⟩
  | .hbm, ⟨6, _⟩ => ⟨S128, .f32⟩
  | .hbm, ⟨7, _⟩ => ⟨S16384x4x128, .f32⟩
  | .hbm, ⟨8, _⟩ => ⟨S4x16384x128, .f32⟩
  | .hbm, ⟨9, _⟩ => ⟨S4x16384x128, .bf16⟩
  | .hbm, ⟨10, _⟩ => ⟨S16384x4x128, .f32⟩
  | .hbm, ⟨11, _⟩ => ⟨S4x16384x128, .f32⟩
  | .hbm, ⟨12, _⟩ => ⟨S4x16384x128, .bf16⟩
  | .hbm, ⟨13, _⟩ => ⟨S16384x4x128, .f32⟩
  | .hbm, ⟨14, _⟩ => ⟨S4x16384x128, .f32⟩
  | .hbm, ⟨15, _⟩ => ⟨S4x16384x128, .bf16⟩
  | .hbm, ⟨16, _⟩ => ⟨S4x2x256x256, .f32⟩
  | .hbm, ⟨17, _⟩ => ⟨S1x128, .f32⟩
  | .hbm, ⟨18, _⟩ => ⟨S16384x512, .bf16⟩
  | .local _ .vmem, ⟨0, _⟩ => ⟨S4x2x256x256, .f32⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2x256x256, .f32⟩
  | .local _ .vmem, ⟨8, _⟩ => ⟨S1x2x256x256, .f32⟩
  | .local _ .vmem, ⟨9, _⟩ => ⟨S2x64, .f32⟩
  | .local _ .vmem, ⟨10, _⟩ => ⟨S2x64, .f32⟩
  | .local _ .vmem, ⟨11, _⟩ => ⟨S1x128, .f32⟩
  | .local _ .vmem, ⟨12, _⟩ => ⟨S2048x128, .bf16⟩
  | .local _ .vmem, ⟨13, _⟩ => ⟨S2048x128, .bf16⟩
  | .local _ .vmem, ⟨14, _⟩ => ⟨S2048x256, .bf16⟩
  | .local _ .smem, ⟨0, _⟩ => ⟨S32x4, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg1_0 : Ref sig .tc := ⟨.vmem, 0, rfl⟩
abbrev cc1_stg0_0 : Ref sig .tc := ⟨.vmem, 1, rfl⟩
abbrev cc1_stg0_1 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg7_1 : Ref sig .tc := ⟨.vmem, 13, rfl⟩
abbrev cc1_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14

abbrev nD : Nat := 1
abbrev τ : Topo := Topo.v7x

variable {F : FTy → Type} [FloatOps F]

abbrev grid0 : Pipeline.Grid := .none

abbrev stage0_0 : Fin 1 → Memref sig .tc .smem S32x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1x2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S2x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S2x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S2048x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== KernelIdeal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== ReferenceIdeal.lean ====
abbrev S8x2048x512 : Shape := ⟨3, ![8, 2048, 512]⟩
abbrev S32x4 : Shape := ⟨2, ![32, 4]⟩
abbrev S2x64 : Shape := ⟨2, ![2, 64]⟩
abbrev S128 : Shape := ⟨1, ![128]⟩
abbrev S8x2048x4x2x64 : Shape := ⟨5, ![8, 2048, 4, 2, 64]⟩
abbrev S8x2048x4x128 : Shape := ⟨4, ![8, 2048, 4, 128]⟩
abbrev S2048 : Shape := ⟨1, ![2048]⟩
abbrev S1x64 : Shape := ⟨2, ![1, 64]⟩
abbrev S64 : Shape := ⟨1, ![64]⟩
abbrev S_ : Shape := ⟨0, ![]⟩
abbrev S8x2x4x2048x2048 : Shape := ⟨5, ![8, 2, 4, 2048, 2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x4 : Shape := ⟨3, ![2048, 2048, 4]⟩
abbrev S4x2048x2048 : Shape := ⟨3, ![4, 2048, 2048]⟩
abbrev S1x1x4x2048x2048 : Shape := ⟨5, ![1, 1, 4, 2048, 2048]⟩
abbrev S8x2x4x2048 : Shape := ⟨4, ![8, 2, 4, 2048]⟩
abbrev S8x2x4x2048x1 : Shape := ⟨5, ![8, 2, 4, 2048, 1]⟩
abbrev S8x1x4x2048x2048 : Shape := ⟨5, ![8, 1, 4, 2048, 2048]⟩
abbrev S8x4x2048x2048 : Shape := ⟨4, ![8, 4, 2048, 2048]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S16384x512 : Shape := ⟨2, ![16384, 512]⟩

abbrev nBuf : Space → Nat
  | .hbm => 134
  | .vmem => 0
  | .smem => 0
  | _ => 0

abbrev hbmTy0_0 (i : Nat) : BufTy := match i % 128 with
  | 0 => ⟨S8x2048x512, .f32⟩
  | 1 => ⟨S8x2048x512, .f32⟩
  | 2 => ⟨S8x2048x512, .f32⟩
  | 3 => ⟨S32x4, .f32⟩
  | 4 => ⟨S2x64, .f32⟩
  | 5 => ⟨S2x64, .f32⟩
  | 6 => ⟨S128, .f32⟩
  | 7 => ⟨S8x2048x4x2x64, .f32⟩
  | 8 => ⟨S8x2048x4x2x64, .f32⟩
  | 9 => ⟨S8x2048x4x128, .f32⟩
  | 10 => ⟨S2048, .i32⟩
  | 11 => ⟨S1x64, .f32⟩
  | 12 => ⟨S64, .f32⟩
  | 13 => ⟨S1x64, .f32⟩
  | 14 => ⟨S64, .f32⟩
  | 15 => ⟨S64, .f32⟩
  | 16 => ⟨S_, .f32⟩
  | 17 => ⟨S_, .f32⟩
  | 18 => ⟨S_, .f32⟩
  | 19 => ⟨S1x64, .f32⟩
  | 20 => ⟨S64, .f32⟩
  | 21 => ⟨S1x64, .f32⟩
  | 22 => ⟨S64, .f32⟩
  | 23 => ⟨S64, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S8x2x4x2048x2048, .f32⟩
  | 31 => ⟨S_, .f32⟩
  | 32 => ⟨S8x2x4x2048x2048, .f32⟩
  | 33 => ⟨S8x2x4x2048x2048, .f32⟩
  | 34 => ⟨S2048x1, .i32⟩
  | 35 => ⟨S1x2048, .i32⟩
  | 36 => ⟨S2048x2048, .i32⟩
  | 37 => ⟨S2048x2048, .i32⟩
  | 38 => ⟨S2048x2048, .i32⟩
  | 39 => ⟨S_, .i32⟩
  | 40 => ⟨S2048x2048, .i32⟩
  | 41 => ⟨S2048x2048, .i32⟩
  | 42 => ⟨S_, .i32⟩
  | 43 => ⟨S2048x2048, .i32⟩
  | 44 => ⟨S2048x2048, .i32⟩
  | 45 => ⟨S2048x2048, .f32⟩
  | 46 => ⟨S_, .f32⟩
  | 47 => ⟨S2048x2048, .f32⟩
  | 48 => ⟨S2048x2048, .f32⟩
  | 49 => ⟨S2048x2048, .f32⟩
  | 50 => ⟨S_, .f32⟩
  | 51 => ⟨S2048x2048, .f32⟩
  | 52 => ⟨S2048x2048, .f32⟩
  | 53 => ⟨S_, .f32⟩
  | 54 => ⟨S2048x2048, .f32⟩
  | 55 => ⟨S2048x2048, .f32⟩
  | 56 => ⟨S2048x2048, .i32⟩
  | 57 => ⟨S_, .i32⟩
  | 58 => ⟨S2048x2048, .i32⟩
  | 59 => ⟨S2048x2048, .i32⟩
  | 60 => ⟨S_, .i32⟩
  | 61 => ⟨S2048x2048, .i32⟩
  | 62 => ⟨S2048x2048, .i32⟩
  | 63 => ⟨S_, .i32⟩
  | 64 => ⟨S2048x2048, .i32⟩
  | 65 => ⟨S2048x2048, .i1⟩
  | 66 => ⟨S2048x2048, .i32⟩
  | 67 => ⟨S_, .i32⟩
  | 68 => ⟨S2048x2048, .i32⟩
  | 69 => ⟨S2048x2048, .i1⟩
  | 70 => ⟨S_, .i32⟩
  | 71 => ⟨S2048x2048, .i32⟩
  | 72 => ⟨S2048x2048, .i32⟩
  | 73 => ⟨S2048x2048, .i32⟩
  | 74 => ⟨S2048x2048x1, .i32⟩
  | 75 => ⟨S2048x2048x4, .f32⟩
  | 76 => ⟨S4x2048x2048, .f32⟩
  | 77 => ⟨S1x2048, .i32⟩
  | 78 => ⟨S2048x1, .i32⟩
  | 79 => ⟨S2048x2048, .i32⟩
  | 80 => ⟨S2048x2048, .i32⟩
  | 81 => ⟨S2048x2048, .i1⟩
  | 82 => ⟨S1x1x4x2048x2048, .f32⟩
  | 83 => ⟨S8x2x4x2048x2048, .f32⟩
  | 84 => ⟨S8x2x4x2048x2048, .f32⟩
  | 85 => ⟨S_, .f32⟩
  | 86 => ⟨S_, .f32⟩
  | 87 => ⟨S8x2x4x2048x2048, .i1⟩
  | 88 => ⟨S8x2x4x2048x2048, .f32⟩
  | 89 => ⟨S8x2x4x2048x2048, .f32⟩
  | 90 => ⟨S_, .f32⟩
  | 91 => ⟨S8x2x4x2048, .f32⟩
  | 92 => ⟨S_, .f32⟩
  | 93 => ⟨S8x2x4x2048, .f32⟩
  | 94 => ⟨S8x2x4x2048, .f32⟩
  | 95 => ⟨S8x2x4x2048x1, .f32⟩
  | 96 => ⟨S8x2x4x2048x2048, .f32⟩
  | 97 => ⟨S8x2x4x2048x2048, .f32⟩
  | 98 => ⟨S8x2x4x2048x2048, .f32⟩
  | 99 => ⟨S_, .f32⟩
  | 100 => ⟨S8x2x4x2048, .f32⟩
  | 101 => ⟨S8x2x4x2048x1, .f32⟩
  | 102 => ⟨S8x2x4x2048x2048, .f32⟩
  | 103 => ⟨S8x2x4x2048x2048, .f32⟩
  | 104 => ⟨S8x1x4x2048x2048, .f32⟩
  | 105 => ⟨S8x4x2048x2048, .f32⟩
  | 106 => ⟨S8x1x4x2048x2048, .f32⟩
  | 107 => ⟨S8x4x2048x2048, .f32⟩
  | 108 => ⟨S8x4x2048x2048, .f32⟩
  | 109 => ⟨S8x4x2048x2048, .f32⟩
  | 110 => ⟨S8x4x2048x2048, .f32⟩
  | 111 => ⟨S8x4x128x2048, .f32⟩
  | 112 => ⟨S8x2048x4x128, .f32⟩
  | 113 => ⟨S8x2048x4x128, .f32⟩
  | 114 => ⟨S_, .f32⟩
  | 115 => ⟨S8x2048x4, .f32⟩
  | 116 => ⟨S8x2048x4x1, .f32⟩
  | 117 => ⟨S_, .f32⟩
  | 118 => ⟨S8x2048x4x1, .f32⟩
  | 119 => ⟨S8x2048x4x1, .f32⟩
  | 120 => ⟨S_, .f32⟩
  | 121 => ⟨S8x2048x4x1, .f32⟩
  | 122 => ⟨S8x2048x4x1, .f32⟩
  | 123 => ⟨S8x2048x4x1, .f32⟩
  | 124 => ⟨S8x2048x4x128, .f32⟩
  | 125 => ⟨S8x2048x4x128, .f32⟩
  | 126 => ⟨S1x1x1x128, .f32⟩
  | 127 => ⟨S8x2048x4x128, .f32⟩
  | _ => ⟨S8x2048x512, .f32⟩

abbrev hbmTy0_1 (i : Nat) : BufTy := match i % 128 with
  | 0 => ⟨S8x2048x4x128, .f32⟩
  | 1 => ⟨S_, .f32⟩
  | 2 => ⟨S8x2048x4x128, .f32⟩
  | 3 => ⟨S8x2048x4x128, .f32⟩
  | 4 => ⟨S16384x512, .f32⟩
  | 5 => ⟨S16384x512, .bf16⟩
  | _ => ⟨S8x2048x512, .f32⟩

abbrev hbmTy (i : Nat) : BufTy := match i / 128 with
  | 0 => hbmTy0_0 i
  | 1 => hbmTy0_1 i
  | _ => ⟨S8x2048x512, .f32⟩

abbrev bufTy : (tb : Table) → Fin (tcTables nBuf tb) → BufTy
  | .hbm, ⟨i, _⟩ => hbmTy i
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_v28 : Ref sig .tc := ⟨.hbm, 40, rfl⟩
abbrev main_v29 : Ref sig .tc := ⟨.hbm, 41, rfl⟩
abbrev main_c_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_c_8 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_10 : Ref sig .tc := ⟨.hbm, 67, rfl⟩
abbrev main_v48 : Ref sig .tc := ⟨.hbm, 68, rfl⟩
abbrev main_v49 : Ref sig .tc := ⟨.hbm, 69, rfl⟩
abbrev main_c_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_16 : Ref sig .tc := ⟨.hbm, 114, rfl⟩
abbrev main_v86 : Ref sig .tc := ⟨.hbm, 115, rfl⟩
abbrev main_v87 : Ref sig .tc := ⟨.hbm, 116, rfl⟩
abbrev main_cst_17 : Ref sig .tc := ⟨.hbm, 117, rfl⟩
abbrev main_v88 : Ref sig .tc := ⟨.hbm, 118, rfl⟩
abbrev main_v89 : Ref sig .tc := ⟨.hbm, 119, rfl⟩
abbrev main_cst_18 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_19 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x512 : Shape := ⟨3, ![8, 2048, 512]⟩
abbrev S128x4x1024 : Shape := ⟨3, ![128, 4, 1024]⟩
abbrev S128x4x512 : Shape := ⟨3, ![128, 4, 512]⟩
abbrev S1024x1024 : Shape := ⟨2, ![1024, 1024]⟩
abbrev S6x1024 : Shape := ⟨2, ![6, 1024]⟩
abbrev S1024x2816 : Shape := ⟨2, ![1024, 2816]⟩
abbrev S2816x1024 : Shape := ⟨2, ![2816, 1024]⟩
abbrev S1024x11x1x256 : Shape := ⟨4, ![1024, 11, 1, 256]⟩
abbrev S1024x11x2x256 : Shape := ⟨4, ![1024, 11, 2, 256]⟩
abbrev S1024x5632 : Shape := ⟨2, ![1024, 5632]⟩
abbrev S16384x1024 : Shape := ⟨2, ![16384, 1024]⟩
abbrev S16384x512 : Shape := ⟨2, ![16384, 512]⟩
abbrev S_ : Shape := ⟨0, ![]⟩
abbrev S128x8x1024 : Shape := ⟨3, ![128, 8, 1024]⟩
abbrev S128x8x512 : Shape := ⟨3, ![128, 8, 512]⟩
abbrev S1024x512 : Shape := ⟨2, ![1024, 512]⟩
abbrev S512x1024 : Shape := ⟨2, ![512, 1024]⟩
abbrev S512x512 : Shape := ⟨2, ![512, 512]⟩
abbrev S512x2816 : Shape := ⟨2, ![512, 2816]⟩
abbrev S1x1024 : Shape := ⟨2, ![1, 1024]⟩
abbrev S512 : Shape := ⟨1, ![512]⟩
abbrev S512x1 : Shape := ⟨2, ![512, 1]⟩
abbrev S512x256 : Shape := ⟨2, ![512, 256]⟩

abbrev nBuf : Space → Nat
  | .hbm => 37
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S128x4x1024, .f32⟩
  | .hbm, ⟨4, _⟩ => ⟨S128x4x512, .f32⟩
  | .hbm, ⟨5, _⟩ => ⟨S128x4x512, .f32⟩
  | .hbm, ⟨6, _⟩ => ⟨S1024x1024, .f32⟩
  | .hbm, ⟨7, _⟩ => ⟨S6x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024x11x1x256, .f32⟩
  | .hbm, ⟨12, _⟩ => ⟨S1024x11x1x256, .f32⟩
  | .hbm, ⟨13, _⟩ => ⟨S1024x11x2x256, .f32⟩
  | .hbm, ⟨14, _⟩ => ⟨S1024x5632, .f32⟩
  | .hbm, ⟨15, _⟩ => ⟨S16384x1024, .f32⟩
  | .hbm, ⟨16, _⟩ => ⟨S16384x512, .f32⟩
  | .hbm, ⟨17, _⟩ => ⟨S16384x512, .bf16⟩
  | .hbm, ⟨18, _⟩ => ⟨S16384x512, .f32⟩
  | .hbm, ⟨19, _⟩ => ⟨S16384x512, .bf16⟩
  | .hbm, ⟨20, _⟩ => ⟨S_, .i32⟩
  | .hbm, ⟨21, _⟩ => ⟨S_, .f32⟩
  | .hbm, ⟨22, _⟩ => ⟨S128x8x1024, .f32⟩
  | .hbm, ⟨23, _⟩ => ⟨S1024x1024, .f32⟩
  | .hbm, ⟨24, _⟩ => ⟨S_, .i32⟩
  | .hbm, ⟨25, _⟩ => ⟨S_, .f32⟩
  | .hbm, ⟨26, _⟩ => ⟨S128x8x512, .f32⟩
  | .hbm, ⟨27, _⟩ => ⟨S1024x512, .f32⟩
  | .hbm, ⟨28, _⟩ => ⟨S_, .i32⟩
  | .hbm, ⟨29, _⟩ => ⟨S_, .f32⟩
  | .hbm, ⟨30, _⟩ => ⟨S128x8x512, .f32⟩
  | .hbm, ⟨31, _⟩ => ⟨S1024x512, .f32⟩
  | .hbm, ⟨32, _⟩ => ⟨S1024x1024, .bf16⟩
  | .hbm, ⟨33, _⟩ => ⟨S1024x5632, .bf16⟩
  | .hbm, ⟨34, _⟩ => ⟨S2816x1024, .bf16⟩
  | .hbm, ⟨35, _⟩ => ⟨S16384x1024, .f32⟩
  | .hbm, ⟨36, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1024x1024, .bf16⟩
  | .local _ .vmem, ⟨13, _⟩ => ⟨S6x1024, .f32⟩
  | .local _ .vmem, ⟨14, _⟩ => ⟨S1024x5632, .bf16⟩
  | .local _ .vmem, ⟨15, _⟩ => ⟨S2816x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_call1_v0 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_call2_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32 : BitVec 32 := 32#32
  let v0 : BitVec 1 := Scalar.cmpi .slt arg0 c32_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S8x2048x1024 : Shape := ⟨3, ![8, 2048, 1024]⟩
abbrev S8x2048x512 : Shape := ⟨3, ![8, 2048, 512]⟩
abbrev S128x4x1024 : Shape := ⟨3, ![128, 4, 1024]⟩
abbrev S128x4x512 : Shape := ⟨3, ![128, 4, 512]⟩
abbrev S1024x1024 : Shape := ⟨2, ![1024, 1024]⟩
abbrev S6x1024 : Shape := ⟨2, ![6, 1024]⟩
abbrev S1024x2816 : Shape := ⟨2, ![1024, 2816]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S128x4 : Shape := ⟨2, ![128, 4]⟩
abbrev S128x4x1 : Shape := ⟨3, ![128, 4, 1]⟩
abbrev S8x2048x2816 : Shape := ⟨3, ![8, 2048, 2816]⟩
abbrev S128x4x2816 : Shape := ⟨3, ![128, 4, 2816]⟩
abbrev S128x8x1024 : Shape := ⟨3, ![128, 8, 1024]⟩
abbrev S16384x1024 : Shape := ⟨2, ![16384, 1024]⟩

abbrev nBuf : Space → Nat
  | .hbm => 164
  | .vmem => 0
  | .smem => 0
  | _ => 0

abbrev hbmTy0_0 (i : Nat) : BufTy := match i % 128 with
  | 0 => ⟨S8x2048x1024, .f32⟩
  | 1 => ⟨S8x2048x512, .f32⟩
  | 2 => ⟨S8x2048x512, .f32⟩
  | 3 => ⟨S128x4x1024, .f32⟩
  | 4 => ⟨S128x4x512, .f32⟩
  | 5 => ⟨S128x4x512, .f32⟩
  | 6 => ⟨S1024x1024, .f32⟩
  | 7 => ⟨S6x1024, .f32⟩
  | 8 => ⟨S1024x2816, .f32⟩
  | 9 => ⟨S1024x2816, .f32⟩
  | 10 => ⟨S2816x1024, .f32⟩
  | 11 => ⟨S8x2048x1024, .f32⟩
  | 12 => ⟨S8x2048x1024, .f32⟩
  | 13 => ⟨S1x1024, .f32⟩
  | 14 => ⟨S1024, .f32⟩
  | 15 => ⟨S8x2048x1024, .f32⟩
  | 16 => ⟨S_, .f32⟩
  | 17 => ⟨S8x2048, .f32⟩
  | 18 => ⟨S8x2048x1, .f32⟩
  | 19 => ⟨S_, .f32⟩
  | 20 => ⟨S8x2048x1, .f32⟩
  | 21 => ⟨S8x2048x1, .f32⟩
  | 22 => ⟨S_, .f32⟩
  | 23 => ⟨S8x2048x1, .f32⟩
  | 24 => ⟨S8x2048x1, .f32⟩
  | 25 => ⟨S8x2048x1, .f32⟩
  | 26 => ⟨S8x2048x1024, .f32⟩
  | 27 => ⟨S8x2048x1024, .f32⟩
  | 28 => ⟨S1x1x1024, .f32⟩
  | 29 => ⟨S8x2048x1024, .f32⟩
  | 30 => ⟨S8x2048x1024, .f32⟩
  | 31 => ⟨S8x2048x1024, .f32⟩
  | 32 => ⟨S128x4x1024, .f32⟩
  | 33 => ⟨S128x4x1024, .f32⟩
  | 34 => ⟨S1x1024, .f32⟩
  | 35 => ⟨S1024, .f32⟩
  | 36 => ⟨S128x4x1024, .f32⟩
  | 37 => ⟨S_, .f32⟩
  | 38 => ⟨S128x4, .f32⟩
  | 39 => ⟨S128x4x1, .f32⟩
  | 40 => ⟨S_, .f32⟩
  | 41 => ⟨S128x4x1, .f32⟩
  | 42 => ⟨S128x4x1, .f32⟩
  | 43 => ⟨S_, .f32⟩
  | 44 => ⟨S128x4x1, .f32⟩
  | 45 => ⟨S128x4x1, .f32⟩
  | 46 => ⟨S128x4x1, .f32⟩
  | 47 => ⟨S128x4x1024, .f32⟩
  | 48 => ⟨S128x4x1024, .f32⟩
  | 49 => ⟨S1x1x1024, .f32⟩
  | 50 => ⟨S128x4x1024, .f32⟩
  | 51 => ⟨S128x4x1024, .f32⟩
  | 52 => ⟨S128x4x1024, .f32⟩
  | 53 => ⟨S1x1024, .f32⟩
  | 54 => ⟨S1024, .f32⟩
  | 55 => ⟨S1x1024, .f32⟩
  | 56 => ⟨S1024, .f32⟩
  | 57 => ⟨S8x2048x1024, .f32⟩
  | 58 => ⟨S_, .f32⟩
  | 59 => ⟨S8x2048, .f32⟩
  | 60 => ⟨S8x2048x1, .f32⟩
  | 61 => ⟨S_, .f32⟩
  | 62 => ⟨S8x2048x1, .f32⟩
  | 63 => ⟨S8x2048x1, .f32⟩
  | 64 => ⟨S_, .f32⟩
  | 65 => ⟨S8x2048x1, .f32⟩
  | 66 => ⟨S8x2048x1, .f32⟩
  | 67 => ⟨S8x2048x1, .f32⟩
  | 68 => ⟨S8x2048x1024, .f32⟩
  | 69 => ⟨S8x2048x1024, .f32⟩
  | 70 => ⟨S1x1x1024, .f32⟩
  | 71 => ⟨S8x2048x1024, .f32⟩
  | 72 => ⟨S8x2048x1024, .f32⟩
  | 73 => ⟨S8x2048x2816, .f32⟩
  | 74 => ⟨S8x2048x2816, .f32⟩
  | 75 => ⟨S8x2048x2816, .f32⟩
  | 76 => ⟨S_, .f32⟩
  | 77 => ⟨S8x2048x2816, .f32⟩
  | 78 => ⟨S8x2048x2816, .f32⟩
  | 79 => ⟨S_, .f32⟩
  | 80 => ⟨S8x2048x2816, .f32⟩
  | 81 => ⟨S8x2048x2816, .f32⟩
  | 82 => ⟨S8x2048x2816, .f32⟩
  | 83 => ⟨S8x2048x2816, .f32⟩
  | 84 => ⟨S8x2048x2816, .f32⟩
  | 85 => ⟨S8x2048x1024, .f32⟩
  | 86 => ⟨S8x2048x1024, .f32⟩
  | 87 => ⟨S_, .f32⟩
  | 88 => ⟨S8x2048, .f32⟩
  | 89 => ⟨S8x2048x1, .f32⟩
  | 90 => ⟨S_, .f32⟩
  | 91 => ⟨S8x2048x1, .f32⟩
  | 92 => ⟨S8x2048x1, .f32⟩
  | 93 => ⟨S_, .f32⟩
  | 94 => ⟨S8x2048x1, .f32⟩
  | 95 => ⟨S8x2048x1, .f32⟩
  | 96 => ⟨S8x2048x1, .f32⟩
  | 97 => ⟨S8x2048x1024, .f32⟩
  | 98 => ⟨S8x2048x1024, .f32⟩
  | 99 => ⟨S1x1x1024, .f32⟩
  | 100 => ⟨S8x2048x1024, .f32⟩
  | 101 => ⟨S8x2048x1024, .f32⟩
  | 102 => ⟨S_, .f32⟩
  | 103 => ⟨S8x2048x1024, .f32⟩
  | 104 => ⟨S8x2048x1024, .f32⟩
  | 105 => ⟨S8x2048x1024, .f32⟩
  | 106 => ⟨S1x1024, .f32⟩
  | 107 => ⟨S1024, .f32⟩
  | 108 => ⟨S1x1024, .f32⟩
  | 109 => ⟨S1024, .f32⟩
  | 110 => ⟨S128x4x1024, .f32⟩
  | 111 => ⟨S_, .f32⟩
  | 112 => ⟨S128x4, .f32⟩
  | 113 => ⟨S128x4x1, .f32⟩
  | 114 => ⟨S_, .f32⟩
  | 115 => ⟨S128x4x1, .f32⟩
  | 116 => ⟨S128x4x1, .f32⟩
  | 117 => ⟨S_, .f32⟩
  | 118 => ⟨S128x4x1, .f32⟩
  | 119 => ⟨S128x4x1, .f32⟩
  | 120 => ⟨S128x4x1, .f32⟩
  | 121 => ⟨S128x4x1024, .f32⟩
  | 122 => ⟨S128x4x1024, .f32⟩
  | 123 => ⟨S1x1x1024, .f32⟩
  | 124 => ⟨S128x4x1024, .f32⟩
  | 125 => ⟨S128x4x1024, .f32⟩
  | 126 => ⟨S128x4x2816, .f32⟩
  | 127 => ⟨S128x4x2816, .f32⟩
  | _ => ⟨S8x2048x1024, .f32⟩

abbrev hbmTy0_1 (i : Nat) : BufTy := match i % 128 with
  | 0 => ⟨S128x4x2816, .f32⟩
  | 1 => ⟨S_, .f32⟩
  | 2 => ⟨S128x4x2816, .f32⟩
  | 3 => ⟨S128x4x2816, .f32⟩
  | 4 => ⟨S_, .f32⟩
  | 5 => ⟨S128x4x2816, .f32⟩
  | 6 => ⟨S128x4x2816, .f32⟩
  | 7 => ⟨S128x4x2816, .f32⟩
  | 8 => ⟨S128x4x2816, .f32⟩
  | 9 => ⟨S128x4x2816, .f32⟩
  | 10 => ⟨S128x4x1024, .f32⟩
  | 11 => ⟨S128x4x1024, .f32⟩
  | 12 => ⟨S_, .f32⟩
  | 13 => ⟨S128x4, .f32⟩
  | 14 => ⟨S128x4x1, .f32⟩
  | 15 => ⟨S_, .f32⟩
  | 16 => ⟨S128x4x1, .f32⟩
  | 17 => ⟨S128x4x1, .f32⟩
  | 18 => ⟨S_, .f32⟩
  | 19 => ⟨S128x4x1, .f32⟩
  | 20 => ⟨S128x4x1, .f32⟩
  | 21 => ⟨S128x4x1, .f32⟩
  | 22 => ⟨S128x4x1024, .f32⟩
  | 23 => ⟨S128x4x1024, .f32⟩
  | 24 => ⟨S1x1x1024, .f32⟩
  | 25 => ⟨S128x4x1024, .f32⟩
  | 26 => ⟨S128x4x1024, .f32⟩
  | 27 => ⟨S_, .f32⟩
  | 28 => ⟨S128x4x1024, .f32⟩
  | 29 => ⟨S128x4x1024, .f32⟩
  | 30 => ⟨S128x4x1024, .f32⟩
  | 31 => ⟨S_, .i32⟩
  | 32 => ⟨S_, .f32⟩
  | 33 => ⟨S128x8x1024, .f32⟩
  | 34 => ⟨S16384x1024, .f32⟩
  | 35 => ⟨S1024x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_8 : Ref sig .tc := ⟨.hbm, 87, rfl⟩
abbrev main_v59 : Ref sig .tc := ⟨.hbm, 88, rfl⟩
abbrev main_v60 : Ref sig .tc := ⟨.hbm, 89, rfl⟩
abbrev main_cst_9 : Ref sig .tc := ⟨.hbm, 90, rfl⟩
abbrev main_v61 : Ref sig .tc := ⟨.hbm, 91, rfl⟩
abbrev main_v62 : Ref sig .tc := ⟨.hbm, 92, rfl⟩
abbrev main_cst_10 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_11 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_12 : Ref sig .tc := ⟨.hbm, 111, rfl⟩
abbrev main_v79 : Ref sig .tc := ⟨.hbm, 112, rfl⟩
abbrev main_v80 : Ref sig .tc := ⟨.hbm, 113, rfl⟩
abbrev main_cst_13 : Ref sig .tc := ⟨.hbm, 114, rfl⟩
abbrev main_v81 : Ref sig .tc := ⟨.hbm, 115, rfl⟩
abbrev main_v82 : Ref sig .tc := ⟨.hbm, 116, rfl⟩
abbrev main_cst_14 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_call1_v0 : Ref sig .tc := ⟨.hbm, 127, rfl⟩
abbrev main_call1_v1 : Ref sig .tc := ⟨.hbm, 128, rfl⟩
abbrev main_call1_cst : Ref sig .tc := ⟨.hbm, 129, rfl⟩
abbrev main_call1_v2 : Ref sig .tc := ⟨.hbm, 130, rfl⟩
abbrev main_call1_v3 : Ref sig .tc := ⟨.hbm, 131, rfl⟩
abbrev main_call1_cst_0 : Ref sig .tc := ⟨.hbm, 132, rfl⟩
abbrev main_call1_v4 : Ref sig .tc := ⟨.hbm, 133, rfl⟩
abbrev main_call1_v5 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_15 : Ref sig .tc := ⟨.hbm, 140, rfl⟩
abbrev main_v97 : Ref sig .tc := ⟨.hbm, 141, rfl⟩
abbrev main_v98 : Ref sig .tc := ⟨.hbm, 142, rfl⟩
abbrev main_cst_16 : Ref sig .tc := ⟨.hbm, 143, rfl⟩
abbrev main_v99 : Ref sig .tc := ⟨.hbm, 144, rfl⟩
abbrev main_v100 : Ref sig .tc := ⟨.hbm, 145, rfl⟩
abbrev main_cst_17 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_18 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_c : Ref sig .tc := ⟨.hbm, 159, rfl⟩
abbrev main_call2_v0 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩

abbrev nD : Nat := 1
abbrev τ : Topo := Topo.v7x

variable {F : FTy → Type} [FloatOps F]
-- ==== Kernel3.lean ====
abbrev S8x2048x1024 : Shape := ⟨3, ![8, 2048, 1024]⟩
abbrev S6x1024 : Shape := ⟨2, ![6, 1024]⟩
abbrev S1024x3592 : Shape := ⟨2, ![1024, 3592]⟩
abbrev S2x1024x2816 : Shape := ⟨3, ![2, 1024, 2816]⟩
abbrev S2x2816x1024 : Shape := ⟨3, ![2, 2816, 1024]⟩
abbrev S1x1024x1024 : Shape := ⟨3, ![1, 1024, 1024]⟩
abbrev S_ : Shape := ⟨0, ![]⟩
abbrev S1024x3712 : Shape := ⟨2, ![1024, 3712]⟩
abbrev S1x1024x3712 : Shape := ⟨3, ![1, 1024, 3712]⟩
abbrev S16384x1024 : Shape := ⟨2, ![16384, 1024]⟩
abbrev S1x1024 : Shape := ⟨2, ![1, 1024]⟩
abbrev S4x16384x128 : Shape := ⟨3, ![4, 16384, 128]⟩
abbrev S65536x128 : Shape := ⟨2, ![65536, 128]⟩
abbrev S16384x512 : Shape := ⟨2, ![16384, 512]⟩
abbrev S16384x128 : Shape := ⟨2, ![16384, 128]⟩
abbrev S64x8x256 : Shape := ⟨3, ![64, 8, 256]⟩
abbrev S1024x5632 : Shape := ⟨2, ![1024, 5632]⟩
abbrev S2816x1024 : Shape := ⟨2, ![2816, 1024]⟩
abbrev S1024x1024 : Shape := ⟨2, ![1024, 1024]⟩
abbrev S512x1024 : Shape := ⟨2, ![512, 1024]⟩
abbrev S1x32x2816 : Shape := ⟨3, ![1, 32, 2816]⟩
abbrev S1x176x1024 : Shape := ⟨3, ![1, 176, 1024]⟩
abbrev S1x32x1024 : Shape := ⟨3, ![1, 32, 1024]⟩
abbrev S4x512x128 : Shape := ⟨3, ![4, 512, 128]⟩
abbrev S2048x128 : Shape := ⟨2, ![2048, 128]⟩
abbrev S512x512 : Shape := ⟨2, ![512, 512]⟩
abbrev S512x128 : Shape := ⟨2, ![512, 128]⟩
abbrev S2x8x256 : Shape := ⟨3, ![2, 8, 256]⟩
abbrev S32x5632 : Shape := ⟨2, ![32, 5632]⟩
abbrev S176x1024 : Shape := ⟨2, ![176, 1024]⟩
abbrev S32x1024 : Shape := ⟨2, ![32, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S1x512x128 : Shape := ⟨3, ![1, 512, 128]⟩
abbrev S1x1024x128 : Shape := ⟨3, ![1, 1024, 128]⟩
abbrev S1024x128 : Shape := ⟨2, ![1024, 128]⟩
abbrev S128x512 : Shape := ⟨2, ![128, 512]⟩
abbrev S8x512 : Shape := ⟨2, ![8, 512]⟩
abbrev S8x256 : Shape := ⟨2, ![8, 256]⟩
abbrev S1x8x256 : Shape := ⟨3, ![1, 8, 256]⟩
abbrev S1x32x256 : Shape := ⟨3, ![1, 32, 256]⟩
abbrev S32x256 : Shape := ⟨2, ![32, 256]⟩

abbrev nBuf : Space → Nat
  | .hbm => 28
  | .vmem => 40
  | .smem => 0
  | _ => 0

abbrev bufTy : (tb : Table) → Fin (tcTables nBuf tb) → BufTy
  | .hbm, ⟨0, _⟩ => ⟨S8x2048x1024, .f32⟩
  | .hbm, ⟨1, _⟩ => ⟨S6x1024, .f32⟩
  | .hbm, ⟨2, _⟩ => ⟨S1024x3592, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S1x1024x1024, .f32⟩
  | .hbm, ⟨7, _⟩ => ⟨S_, .i32⟩
  | .hbm, ⟨8, _⟩ => ⟨S_, .f32⟩
  | .hbm, ⟨9, _⟩ => ⟨S1024x3712, .f32⟩
  | .hbm, ⟨10, _⟩ => ⟨S1024x3712, .bf16⟩
  | .hbm, ⟨11, _⟩ => ⟨S1x1024x3712, .bf16⟩
  | .hbm, ⟨12, _⟩ => ⟨S16384x1024, .f32⟩
  | .hbm, ⟨13, _⟩ => ⟨S1x1024, .f32⟩
  | .hbm, ⟨14, _⟩ => ⟨S4x16384x128, .bf16⟩
  | .hbm, ⟨15, _⟩ => ⟨S65536x128, .f32⟩
  | .hbm, ⟨16, _⟩ => ⟨S65536x128, .f32⟩
  | .hbm, ⟨17, _⟩ => ⟨S4x16384x128, .bf16⟩
  | .hbm, ⟨18, _⟩ => ⟨S4x16384x128, .bf16⟩
  | .hbm, ⟨19, _⟩ => ⟨S4x16384x128, .bf16⟩
  | .hbm, ⟨20, _⟩ => ⟨S4x16384x128, .bf16⟩
  | .hbm, ⟨21, _⟩ => ⟨S4x16384x128, .bf16⟩
  | .hbm, ⟨22, _⟩ => ⟨S16384x512, .f32⟩
  | .hbm, ⟨23, _⟩ => ⟨S16384x128, .f32⟩
  | .hbm, ⟨24, _⟩ => ⟨S64x8x256, .f32⟩
  | .hbm, ⟨25, _⟩ => ⟨S1024x5632, .bf16⟩
  | .hbm, ⟨26, _⟩ => ⟨S2816x1024, .bf16⟩
  | .hbm, ⟨27, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x3712, .bf16⟩
  | .local _ .vmem, ⟨4, _⟩ => ⟨S1x32x2816, .f32⟩
  | .local _ .vmem, ⟨5, _⟩ => ⟨S1x32x2816, .f32⟩
  | .local _ .vmem, ⟨6, _⟩ => ⟨S1x32x2816, .f32⟩
  | .local _ .vmem, ⟨7, _⟩ => ⟨S1x32x2816, .f32⟩
  | .local _ .vmem, ⟨8, _⟩ => ⟨S1x176x1024, .f32⟩
  | .local _ .vmem, ⟨9, _⟩ => ⟨S1x176x1024, .f32⟩
  | .local _ .vmem, ⟨10, _⟩ => ⟨S1x32x1024, .f32⟩
  | .local _ .vmem, ⟨11, _⟩ => ⟨S1x32x1024, .f32⟩
  | .local _ .vmem, ⟨12, _⟩ => ⟨S4x512x128, .bf16⟩
  | .local _ .vmem, ⟨13, _⟩ => ⟨S4x512x128, .bf16⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S4x512x128, .bf16⟩
  | .local _ .vmem, ⟨19, _⟩ => ⟨S4x512x128, .bf16⟩
  | .local _ .vmem, ⟨20, _⟩ => ⟨S4x512x128, .bf16⟩
  | .local _ .vmem, ⟨21, _⟩ => ⟨S4x512x128, .bf16⟩
  | .local _ .vmem, ⟨22, _⟩ => ⟨S4x512x128, .bf16⟩
  | .local _ .vmem, ⟨23, _⟩ => ⟨S4x512x128, .bf16⟩
  | .local _ .vmem, ⟨24, _⟩ => ⟨S4x512x128, .bf16⟩
  | .local _ .vmem, ⟨25, _⟩ => ⟨S4x512x128, .bf16⟩
  | .local _ .vmem, ⟨26, _⟩ => ⟨S4x512x128, .bf16⟩
  | .local _ .vmem, ⟨27, _⟩ => ⟨S4x512x128, .bf16⟩
  | .local _ .vmem, ⟨28, _⟩ => ⟨S512x512, .f32⟩
  | .local _ .vmem, ⟨29, _⟩ => ⟨S512x512, .f32⟩
  | .local _ .vmem, ⟨30, _⟩ => ⟨S512x128, .f32⟩
  | .local _ .vmem, ⟨31, _⟩ => ⟨S512x128, .f32⟩
  | .local _ .vmem, ⟨32, _⟩ => ⟨S2x8x256, .f32⟩
  | .local _ .vmem, ⟨33, _⟩ => ⟨S2x8x256, .f32⟩
  | .local _ .vmem, ⟨34, _⟩ => ⟨S32x5632, .bf16⟩
  | .local _ .vmem, ⟨35, _⟩ => ⟨S32x5632, .bf16⟩
  | .local _ .vmem, ⟨36, _⟩ => ⟨S176x1024, .bf16⟩
  | .local _ .vmem, ⟨37, _⟩ => ⟨S176x1024, .bf16⟩
  | .local _ .vmem, ⟨38, _⟩ => ⟨S32x1024, .bf16⟩
  | .local _ .vmem, ⟨39, _⟩ => ⟨S32x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_v5_6 : Ref sig .tc := ⟨.hbm, 20, rfl⟩
abbrev main_v5_7 : Ref sig .tc := ⟨.hbm, 21, rfl⟩
abbrev main_v5_8 : Ref sig .tc := ⟨.hbm, 22, rfl⟩
abbrev main_v5_9 : Ref sig .tc := ⟨.hbm, 23, rfl⟩
abbrev main_v5_10 : Ref sig .tc := ⟨.hbm, 24, rfl⟩
abbrev main_v5_11 : Ref sig .tc := ⟨.hbm, 25, rfl⟩
abbrev main_v5_12 : Ref sig .tc := ⟨.hbm, 26, rfl⟩
abbrev main_v5_13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let c0_i32_7 : BitVec 32 := 0#32
  ![c1_i32_5.toNat, v16.toNat, c0_i32_6.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let c0_i32_7 : BitVec 32 := 0#32
  ![c1_i32_5.toNat, v16.toNat, c0_i32_6.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  ![c1_i32_4.toNat, v16.toNat, c0_i32_5.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_19 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_20 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x8x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x5632 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S176x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference3Ideal.lean ====
abbrev S8x2048x1024 : Shape := ⟨3, ![8, 2048, 1024]⟩
abbrev S6x1024 : Shape := ⟨2, ![6, 1024]⟩
abbrev S1024x3592 : Shape := ⟨2, ![1024, 3592]⟩
abbrev S2x1024x2816 : Shape := ⟨3, ![2, 1024, 2816]⟩
abbrev S2x2816x1024 : Shape := ⟨3, ![2, 2816, 1024]⟩
abbrev S1x1024x1024 : Shape := ⟨3, ![1, 1024, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3592 : Shape := ⟨3, ![8, 2048, 3592]⟩
abbrev S8x2048x512 : Shape := ⟨3, ![8, 2048, 512]⟩
abbrev S8x2048x8 : Shape := ⟨3, ![8, 2048, 8]⟩
abbrev S16384x4x128 : Shape := ⟨3, ![16384, 4, 128]⟩
abbrev S4x16384x128 : Shape := ⟨3, ![4, 16384, 128]⟩
abbrev S65536x128 : Shape := ⟨2, ![65536, 128]⟩
abbrev S16384x512 : Shape := ⟨2, ![16384, 512]⟩
abbrev S16384x8 : Shape := ⟨2, ![16384, 8]⟩
abbrev S16384x128 : Shape := ⟨2, ![16384, 128]⟩
abbrev S64x256x8 : Shape := ⟨3, ![64, 256, 8]⟩
abbrev S64x8x256 : Shape := ⟨3, ![64, 8, 256]⟩

abbrev nBuf : Space → Nat
  | .hbm => 64
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S6x1024, .f32⟩
  | .hbm, ⟨2, _⟩ => ⟨S1024x3592, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S1x1024x1024, .f32⟩
  | .hbm, ⟨7, _⟩ => ⟨S1x1024, .f32⟩
  | .hbm, ⟨8, _⟩ => ⟨S1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x2048x3592, .f32⟩
  | .hbm, ⟨26, _⟩ => ⟨S8x2048x512, .f32⟩
  | .hbm, ⟨27, _⟩ => ⟨S8x2048x512, .f32⟩
  | .hbm, ⟨28, _⟩ => ⟨S8x2048x512, .f32⟩
  | .hbm, ⟨29, _⟩ => ⟨S8x2048x512, .f32⟩
  | .hbm, ⟨30, _⟩ => ⟨S8x2048x512, .f32⟩
  | .hbm, ⟨31, _⟩ => ⟨S8x2048x512, .f32⟩
  | .hbm, ⟨32, _⟩ => ⟨S8x2048x512, .f32⟩
  | .hbm, ⟨33, _⟩ => ⟨S8x2048x8, .f32⟩
  | .hbm, ⟨34, _⟩ => ⟨S16384x4x128, .f32⟩
  | .hbm, ⟨35, _⟩ => ⟨S4x16384x128, .f32⟩
  | .hbm, ⟨36, _⟩ => ⟨S4x16384x128, .bf16⟩
  | .hbm, ⟨37, _⟩ => ⟨S65536x128, .f32⟩
  | .hbm, ⟨38, _⟩ => ⟨S65536x128, .f32⟩
  | .hbm, ⟨39, _⟩ => ⟨S16384x4x128, .f32⟩
  | .hbm, ⟨40, _⟩ => ⟨S4x16384x128, .f32⟩
  | .hbm, ⟨41, _⟩ => ⟨S4x16384x128, .bf16⟩
  | .hbm, ⟨42, _⟩ => ⟨S16384x4x128, .f32⟩
  | .hbm, ⟨43, _⟩ => ⟨S4x16384x128, .f32⟩
  | .hbm, ⟨44, _⟩ => ⟨S4x16384x128, .bf16⟩
  | .hbm, ⟨45, _⟩ => ⟨S16384x4x128, .f32⟩
  | .hbm, ⟨46, _⟩ => ⟨S4x16384x128, .f32⟩
  | .hbm, ⟨47, _⟩ => ⟨S4x16384x128, .bf16⟩
  | .hbm, ⟨48, _⟩ => ⟨S_, .f32⟩
  | .hbm, ⟨49, _⟩ => ⟨S8x2048x512, .f32⟩
  | .hbm, ⟨50, _⟩ => ⟨S8x2048x512, .f32⟩
  | .hbm, ⟨51, _⟩ => ⟨S16384x4x128, .f32⟩
  | .hbm, ⟨52, _⟩ => ⟨S4x16384x128, .f32⟩
  | .hbm, ⟨53, _⟩ => ⟨S4x16384x128, .bf16⟩
  | .hbm, ⟨54, _⟩ => ⟨S16384x4x128, .f32⟩
  | .hbm, ⟨55, _⟩ => ⟨S4x16384x128, .f32⟩
  | .hbm, ⟨56, _⟩ => ⟨S4x16384x128, .bf16⟩
  | .hbm, ⟨57, _⟩ => ⟨S16384x512, .f32⟩
  | .hbm, ⟨58, _⟩ => ⟨S16384x8, .f32⟩
  | .hbm, ⟨59, _⟩ => ⟨S_, .i32⟩
  | .hbm, ⟨60, _⟩ => ⟨S_, .f32⟩
  | .hbm, ⟨61, _⟩ => ⟨S16384x128, .f32⟩
  | .hbm, ⟨62, _⟩ => ⟨S64x256x8, .f32⟩
  | .hbm, ⟨63, _⟩ => ⟨S64x8x256, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c : Ref sig .tc := ⟨.hbm, 59, rfl⟩
abbrev main_call0_v0 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== Proof.Attn.Softmax.lean ====
module

public import Idealize.ShloMosaic.Lib.Pointwise

@[expose] public section

noncomputable section

namespace Cert.Attn
open Idealize.ShloMosaic

/-- The unnormalised causal weight of key `j` for a query at position `i` with logits `L`. -/
def wt (L : Fin 2048 → ℝ) (i : ℕ) (j : Fin 2048) : ℝ := if (j : ℕ) ≤ i then Real.exp (L j) else 0

/-- A causal weight is not negative. -/
theorem wt_nonneg (L : Fin 2048 → ℝ) (i : ℕ) (j : Fin 2048) : 0 ≤ wt L i j := by
  unfold wt; split
  · exact (Real.exp_pos _).le
  · exact le_refl _

/-- The causal weights of a query have a positive sum: the first key is always visible. -/
theorem wt_sum_pos (L : Fin 2048 → ℝ) (i : ℕ) : 0 < ∑ j, wt L i j := by
  refine Finset.sum_pos' (fun j _ => wt_nonneg L i j) ⟨⟨0, by omega⟩, Finset.mem_univ _, ?_⟩
  unfold wt; rw [if_pos (Nat.zero_le _)]; exact Real.exp_pos _

/-- A finite sum of reals, read in the extended reals. -/
theorem coe_sum {ι : Type} [Fintype ι] (f : ι → ℝ) : ∑ j, ((f j : ℝ) : EReal) = ((∑ j, f j : ℝ) : EReal) := by
  classical
  refine Finset.induction_on (Finset.univ : Finset ι) ?_ ?_
  · simp
  · intro a s ha ih
    rw [Finset.sum_insert ha, Finset.sum_insert ha, ih, EReal.coe_add]

/-- A bound of masked logits one of which is real is itself real. -/
theorem exists_real {N : ℕ} (i : ℕ) (hi : i < N) (f : Fin N → ℝ) (Y : Fin N → EReal)
    (hY : ∀ j : Fin N, Y j = if (j : ℕ) ≤ i then ((f j : ℝ) : EReal) else ⊥)
    (M : EReal) (hlt : (∀ j, Y j < ⊤) → M < ⊤) (hge : ∀ j, Y j ≤ M) : ∃ m : ℝ, M = (m : EReal) := by
  have h1 : M ≠ ⊤ := (hlt (fun j => by
    rw [hY j]; split
    · exact EReal.coe_lt_top _
    · exact bot_lt_top)).ne
  have h2 : M ≠ ⊥ := by
    have := hge ⟨i, hi⟩
    rw [hY, if_pos (le_refl _)] at this
    intro h; rw [h] at this
    exact absurd this (not_le.mpr (EReal.bot_lt_coe _))
  exact ⟨M.toReal, (EReal.coe_toReal h1 h2).symm⟩

/-- Sums over the first `N` keys and over all keys agree when the later keys have weight zero. -/
theorem sum_ext {N : ℕ} (hN : N ≤ 2048) (f : Fin 2048 → ℝ) (h0 : ∀ j : Fin 2048, N ≤ (j : ℕ) → f j = 0) :
    ∑ j : Fin N, f ⟨j, lt_of_lt_of_le j.isLt hN⟩ = ∑ j, f j := by
  have h := Finset.sum_map (Finset.univ : Finset (Fin N)) (Fin.castLEEmb hN) f
  have e : ∑ j : Fin N, f ⟨j, lt_of_lt_of_le j.isLt hN⟩ = ∑ j : Fin N, f ((Fin.castLEEmb hN) j) := rfl
  rw [e, ← h]
  refine Finset.sum_subset (Finset.subset_univ _) fun j _ hj => h0 j ?_
  by_contra hc
  exact hj (Finset.mem_map.mpr ⟨⟨j, by omega⟩, Finset.mem_univ _, rfl⟩)

/-- Base-two exponential of a shifted, rescaled logit: the natural exponential up to a factor that does not depend on the key. -/
theorem rpow_shift (L c m : ℝ) :
    Real.rpow 2 ((L - c) * (Real.log 2)⁻¹ - m) = Real.exp (-c - m * Real.log 2) * Real.exp L := by
  have h2 : Real.log 2 ≠ 0 := (Real.log_pos (by norm_num)).ne'
  rw [← Real.exp_add]
  rw [show Real.rpow 2 ((L - c) * (Real.log 2)⁻¹ - m) = (2 : ℝ) ^ ((L - c) * (Real.log 2)⁻¹ - m) from rfl,
    Real.rpow_def_of_pos (by norm_num)]
  congr 1
  field_simp
  ring

/-- One component of a tile: the ratio of the weighted sum of the values and the sum of the weights is the
    softmax-weighted mean over all keys, whatever real number the exponents were shifted by. -/
theorem kernel_ratio {N : ℕ} (hN : N ≤ 2048) (i : ℕ) (hi : i < N) (L : Fin 2048 → ℝ) (c : ℝ) (Y : Fin N → EReal)
    (hY : ∀ j : Fin N, Y j = if (j : ℕ) ≤ i then (((L ⟨j, lt_of_lt_of_le j.isLt hN⟩ - c) * (Real.log 2)⁻¹ : ℝ) : EReal) else ⊥)
    (M : EReal) (hlt : (∀ j, Y j < ⊤) → M < ⊤) (hge : ∀ j, Y j ≤ M)
    (vr : Fin 2048 → ℝ) (v : Fin N → EReal) (hv : ∀ j : Fin N, v j = ((vr ⟨j, lt_of_lt_of_le j.isLt hN⟩ : ℝ) : EReal))
    (o : Fin N → EReal) (ho : ∀ j, o j = 1) :
    Ideal.div (∑ j, Ideal.exp2 (Y j - M) * v j) (∑ j, Ideal.exp2 (Y j - M) * o j)
      = (((∑ j, wt L i j * vr j) / ∑ j, wt L i j : ℝ) : EReal) := by
  obtain ⟨m, rfl⟩ := exists_real i hi (fun j => (L ⟨j, lt_of_lt_of_le j.isLt hN⟩ - c) * (Real.log 2)⁻¹) Y hY M hlt hge
  set s : ℝ := Real.exp (-c - m * Real.log 2) with hs
  have hs0 : s ≠ 0 := (Real.exp_pos _).ne'
  have he : ∀ j : Fin N, Ideal.exp2 (Y j - (m : EReal)) = ((s * wt L i ⟨j, lt_of_lt_of_le j.isLt hN⟩ : ℝ) : EReal) := by
    intro j
    rw [hY j]
    unfold wt
    split
    · rw [← EReal.coe_sub, Ideal.exp2_coe, rpow_shift]
    · rw [EReal.bot_sub, Ideal.exp2_bot, mul_zero, EReal.coe_zero]
  have hz : ∀ j : Fin 2048, N ≤ (j : ℕ) → wt L i j = 0 := fun j hj => by
    unfold wt; rw [if_neg (by omega)]
  have hA : ∑ j : Fin N, Ideal.exp2 (Y j - (m : EReal)) * v j = ((s * ∑ j, wt L i j * vr j : ℝ) : EReal) := by
    rw [← sum_ext hN (fun j => wt L i j * vr j) (fun j hj => by rw [hz j hj, zero_mul]), Finset.mul_sum, ← coe_sum]
    refine Finset.sum_congr rfl fun j _ => ?_
    rw [he, hv, ← EReal.coe_mul, mul_assoc]
  have hB : ∑ j : Fin N, Ideal.exp2 (Y j - (m : EReal)) * o j = ((s * ∑ j, wt L i j : ℝ) : EReal) := by
    rw [← sum_ext hN (fun j => wt L i j) hz, Finset.mul_sum, ← coe_sum]
    refine Finset.sum_congr rfl fun j _ => ?_
    rw [he, ho, mul_one]
  have hW := (wt_sum_pos L i).ne'
  rw [hA, hB, Ideal.div_coe (mul_ne_zero hs0 hW), ← EReal.coe_mul]
  congr 1
  field_simp

/-- The softmax of masked logits at a key is its causal weight over the sum of the weights. -/
theorem ref_weight (i : ℕ) (hi : i < 2048) (L : Fin 2048 → ℝ) (X : Fin 2048 → EReal)
    (hX : ∀ j : Fin 2048, X j = if (j : ℕ) ≤ i then ((L j : ℝ) : EReal) else ⊥)
    (M : EReal) (hlt : (∀ j, X j < ⊤) → M < ⊤) (hge : ∀ j, X j ≤ M) (j : Fin 2048) :
    Ideal.div (Ideal.exp (X j - M)) (∑ j', Ideal.exp (X j' - M)) = ((wt L i j / ∑ j', wt L i j' : ℝ) : EReal) := by
  obtain ⟨m, rfl⟩ := exists_real i hi L X hX M hlt hge
  set s : ℝ := Real.exp (-m) with hs
  have hs0 : s ≠ 0 := (Real.exp_pos _).ne'
  have he : ∀ j : Fin 2048, Ideal.exp (X j - (m : EReal)) = ((s * wt L i j : ℝ) : EReal) := by
    intro j
    rw [hX j]
    unfold wt
    split
    · rw [← EReal.coe_sub, Ideal.exp_coe, sub_eq_add_neg, Real.exp_add, mul_comm]
    · rw [EReal.bot_sub, Ideal.exp_bot, mul_zero, EReal.coe_zero]
  have hB : ∑ j', Ideal.exp (X j' - (m : EReal)) = ((s * ∑ j, wt L i j : ℝ) : EReal) := by
    rw [Finset.mul_sum, ← coe_sum]
    exact Finset.sum_congr rfl fun j _ => he j
  have hW := (wt_sum_pos L i).ne'
  rw [hB, he, Ideal.div_coe (mul_ne_zero hs0 hW), ← EReal.coe_mul]
  congr 1
  field_simp

/-- Weighting the values by the difference of two normalised weights is the difference of the two weighted means. -/
theorem diff_sum (w0 w1 v : Fin 2048 → ℝ) (lam W0 W1 : ℝ) :
    ∑ j, (((w0 j / W0 : ℝ) : EReal) - (lam : EReal) * ((w1 j / W1 : ℝ) : EReal)) * ((v j : ℝ) : EReal)
      = ((((∑ j, w0 j * v j) / W0 - lam * ((∑ j, w1 j * v j) / W1)) : ℝ) : EReal) := by
  have e : ∀ j, (((w0 j / W0 : ℝ) : EReal) - (lam : EReal) * ((w1 j / W1 : ℝ) : EReal)) * ((v j : ℝ) : EReal)
      = (((w0 j / W0 - lam * (w1 j / W1)) * v j : ℝ) : EReal) := fun j => by
    rw [← EReal.coe_mul, ← EReal.coe_sub, ← EReal.coe_mul]
  rw [Finset.sum_congr rfl fun j _ => e j, coe_sum]
  congr 1
  rw [Finset.sum_div, Finset.sum_div, Finset.mul_sum, ← Finset.sum_sub_distrib]
  refine Finset.sum_congr rfl fun j _ => ?_
  ring

/-- A running maximum from minus infinity bounds every entry. -/
theorem le_fold {ι : Type} [Fintype ι] (f : ι → EReal) (j : ι) : f j ≤ Finset.fold max ⊥ f Finset.univ :=
  (Finset.le_fold_max _).mpr (.inr ⟨j, Finset.mem_univ _, le_refl _⟩)

/-- A running maximum of entries below infinity is below infinity. -/
theorem fold_lt {ι : Type} [Fintype ι] (f : ι → EReal) (h : ∀ j, f j < ⊤) : Finset.fold max ⊥ f Finset.univ < ⊤ :=
  (Finset.fold_max_lt _).mpr ⟨bot_lt_top, fun j _ => h j⟩

end Cert.Attn
-- ==== Proof.Attn.Base.lean ====
module

public import proofs.«01_k».proof.Proof.Gen.KernelIdeal.Skeleton
public import proofs.«01_k».proof.Proof.Attn.Softmax
public import Idealize.ShloMosaic.Lib.Pointwise

@[expose] public section

set_option maxRecDepth 16384

noncomputable section

namespace Cert.KernelIdeal.Attn
open Idealize.ShloMosaic Idealize.ShloMosaic.TcCoe Idealize.SL.Sem
open Cert.KernelIdeal Cert.KernelIdeal.Gen Cert.Attn

/-- The lane number of every entry of a query tile. -/
abbrev lanes : IVec S256x128 32 := iota Kind.tc S256x128 32 [1] iota_S256x128_d1_w32

/-- The first 64 lanes are those of the first component. -/
theorem sel_lt (x : Fin 128) (a b : EReal) :
    Scalar.select (IntOp.cmpi .slt (BitVec.ofNat 32 (x : ℕ)) 64#32) a b = if (x : ℕ) < 64 then a else b := by
  have h : ∀ x : Fin 128, IntOp.cmpi .slt (BitVec.ofNat 32 (x : ℕ)) 64#32 = if (x : ℕ) < 64 then 1#1 else 0#1 := by decide +kernel
  rw [h x]; split <;> rfl

/-- The other 64 lanes are those of the second component. -/
theorem sel_ge (x : Fin 128) (a b : EReal) :
    Scalar.select (IntOp.cmpi .sge (BitVec.ofNat 32 (x : ℕ)) 64#32) a b = if (x : ℕ) < 64 then b else a := by
  have h : ∀ x : Fin 128, IntOp.cmpi .sge (BitVec.ofNat 32 (x : ℕ)) 64#32 = if (x : ℕ) < 64 then 0#1 else 1#1 := by decide +kernel
  rw [h x]; split <;> rfl

/-- The pattern the row maxima start from is minus infinity. -/
theorem neg_inf : Ideal.ofBits .f32 4286578688#32 = ⊥ := by simp [Ideal.ofBits, Ideal.ieee]

/-- The zero pattern is zero. -/
theorem zero_bf16 : Ideal.ofBits .bf16 0#16 = 0 := by simp [Ideal.ofBits, Ideal.ieee]

/-- The two copies of a query tile, one per component, each with the other component's lanes put to zero. -/
def qm (q : Vec Ideal S1x256x128 .bf16) (r : Fin 512) (x : Fin 128) : EReal :=
  if h : (r : ℕ) < 256 then (if (x : ℕ) < 64 then q (ix3 0 ⟨r, h⟩ x) else 0)
  else (if (x : ℕ) < 64 then 0 else q (ix3 0 ⟨r - 256, by omega⟩ x))

/-- The row maximum of the three parts of a tile's logits bounds them and is below infinity when they are. -/
theorem max3 {A B C : Type} [Fintype A] [Fintype B] [Fintype C] (f : A → EReal) (g : B → EReal) (h : C → EReal) :
    let M := max (max (Finset.fold max ⊥ f Finset.univ) (Finset.fold max ⊥ g Finset.univ)) (Finset.fold max ⊥ h Finset.univ)
    (∀ a, f a ≤ M) ∧ (∀ b, g b ≤ M) ∧ (∀ c, h c ≤ M) ∧ ((∀ a, f a < ⊤) → (∀ b, g b < ⊤) → (∀ c, h c < ⊤) → M < ⊤) :=
  ⟨fun a => (le_fold f a).trans ((le_max_left _ _).trans (le_max_left _ _)),
   fun b => (le_fold g b).trans ((le_max_right _ _).trans (le_max_left _ _)),
   fun c => (le_fold h c).trans (le_max_right _ _),
   fun h1 h2 h3 => max_lt (max_lt (fold_lt f h1) (fold_lt g h2)) (fold_lt h h3)⟩

/-- The same for two parts. -/
theorem max2 {B C : Type} [Fintype B] [Fintype C] (g : B → EReal) (h : C → EReal) :
    let M := max (Finset.fold max ⊥ g Finset.univ) (Finset.fold max ⊥ h Finset.univ)
    (∀ b, g b ≤ M) ∧ (∀ c, h c ≤ M) ∧ ((∀ b, g b < ⊤) → (∀ c, h c < ⊤) → M < ⊤) :=
  ⟨fun b => (le_fold g b).trans (le_max_left _ _), fun c => (le_fold h c).trans (le_max_right _ _),
   fun h2 h3 => max_lt (fold_lt g h2) (fold_lt h h3)⟩

/-- A query tile's scores against the first `N` keys. -/
def sc {N : ℕ} (q : Vec Ideal S1x256x128 .bf16) (k : Fin N → Fin 128 → EReal) (r : Fin 512) (j : Fin N) : EReal :=
  (∑ x : Fin 128, qm q r x * k j x) * Named.named (F := Ideal) κ "qscale" (φ := .f32) 1043900987#32

/-- A query tile's logits against the first `N` keys: the scores plus the tabulated biases of the last two key tiles. -/
def lg {N : ℕ} (q : Vec Ideal S1x256x128 .bf16) (k : Fin N → Fin 128 → EReal) (dg nr : FVec Ideal S512x256 .f32)
    (r : Fin 512) (j : Fin N) : EReal :=
  if h : (j : ℕ) + 512 < N then sc q k r j
  else if h' : (j : ℕ) + 256 < N then sc q k r j + nr (ix2 r ⟨(j : ℕ) + 512 - N, by omega⟩)
  else sc q k r j + dg (ix2 r ⟨(j : ℕ) + 256 - N, by omega⟩)

/-- The far keys' logits carry no bias. -/
theorem lg_far {N : ℕ} (q : Vec Ideal S1x256x128 .bf16) (k : Fin N → Fin 128 → EReal) (dg nr : FVec Ideal S512x256 .f32)
    (r : Fin 512) (j : Fin N) (h : (j : ℕ) + 512 < N) : lg q k dg nr r j = sc q k r j := by
  unfold lg; rw [dif_pos h]

/-- The logits of the last key tile but one. -/
theorem lg_near {N : ℕ} (q : Vec Ideal S1x256x128 .bf16) (k : Fin N → Fin 128 → EReal) (dg nr : FVec Ideal S512x256 .f32)
    (r : Fin 512) (j : Fin N) (x : Fin 256) (h : (j : ℕ) + 512 = N + x) : lg q k dg nr r j = sc q k r j + nr (ix2 r x) := by
  have hx := x.isLt
  unfold lg; rw [dif_neg (by omega), dif_pos (by omega)]
  have e : (⟨(j : ℕ) + 512 - N, by omega⟩ : Fin 256) = x := Fin.ext (by show (j : ℕ) + 512 - N = x; omega)
  simp only [e]

/-- The logits of the last key tile. -/
theorem lg_diag {N : ℕ} (q : Vec Ideal S1x256x128 .bf16) (k : Fin N → Fin 128 → EReal) (dg nr : FVec Ideal S512x256 .f32)
    (r : Fin 512) (j : Fin N) (x : Fin 256) (h : (j : ℕ) + 256 = N + x) : lg q k dg nr r j = sc q k r j + dg (ix2 r x) := by
  have hx := x.isLt
  unfold lg; rw [dif_neg (by omega), dif_neg (by omega)]
  have e : (⟨(j : ℕ) + 256 - N, by omega⟩ : Fin 256) = x := Fin.ext (by show (j : ℕ) + 256 - N = x; omega)
  simp only [e]

/-- The row bound of a tile with far keys bounds its logits, and is below infinity when they are. -/
theorem bound3 {N : ℕ} (q : Vec Ideal S1x256x128 .bf16) (k : Fin N → Fin 128 → EReal) (dg nr : FVec Ideal S512x256 .f32)
    (r : Fin 512) (far : ℕ) (hf : far + 512 = N) (M : EReal)
    (hM : M = max (max (Finset.fold max ⊥ (fun x : Fin far => sc q k r ⟨x, by omega⟩) Finset.univ)
      (Finset.fold max ⊥ (fun x : Fin 256 => sc q k r ⟨far + x, by omega⟩ + nr (ix2 r x)) Finset.univ))
      (Finset.fold max ⊥ (fun x : Fin 256 => sc q k r ⟨far + 256 + x, by omega⟩ + dg (ix2 r x)) Finset.univ)) :
    ((∀ j, lg q k dg nr r j < ⊤) → M < ⊤) ∧ ∀ j, lg q k dg nr r j ≤ M := by
  have hf1 : ∀ x : Fin far, sc q k r ⟨x, by omega⟩ = lg q k dg nr r ⟨x, by omega⟩ := fun x =>
    (lg_far q k dg nr r _ (by show (x : ℕ) + 512 < N; omega)).symm
  have hn1 : ∀ x : Fin 256, sc q k r ⟨far + x, by omega⟩ + nr (ix2 r x) = lg q k dg nr r ⟨far + x, by omega⟩ := fun x =>
    (lg_near q k dg nr r _ x (by show far + (x : ℕ) + 512 = N + x; omega)).symm
  have hd1 : ∀ x : Fin 256, sc q k r ⟨far + 256 + x, by omega⟩ + dg (ix2 r x) = lg q k dg nr r ⟨far + 256 + x, by omega⟩ := fun x =>
    (lg_diag q k dg nr r _ x (by show far + 256 + (x : ℕ) + 256 = N + x; omega)).symm
  obtain ⟨a, b, c, d⟩ := max3 (fun x : Fin far => sc q k r ⟨x, by omega⟩) (fun x : Fin 256 => sc q k r ⟨far + x, by omega⟩ + nr (ix2 r x))
    (fun x : Fin 256 => sc q k r ⟨far + 256 + x, by omega⟩ + dg (ix2 r x))
  rw [← hM] at a b c d
  refine ⟨fun h => d (fun x => ?_) (fun x => ?_) (fun x => ?_), fun j => ?_⟩
  · show sc q k r ⟨x, by omega⟩ < ⊤
    rw [hf1]; exact h _
  · show sc q k r ⟨far + x, by omega⟩ + nr (ix2 r x) < ⊤
    rw [hn1]; exact h _
  · show sc q k r ⟨far + 256 + x, by omega⟩ + dg (ix2 r x) < ⊤
    rw [hd1]; exact h _
  · have hj := j.isLt
    by_cases h1 : (j : ℕ) < far
    · exact (hf1 ⟨j, h1⟩).symm.le.trans (a ⟨j, h1⟩)
    by_cases h2 : (j : ℕ) < far + 256
    · have hq : lg q k dg nr r ⟨far + (j - far), by omega⟩ ≤ M := (hn1 ⟨j - far, by omega⟩).symm.le.trans (b ⟨j - far, by omega⟩)
      have e : (⟨far + (j - far), by omega⟩ : Fin N) = j := Fin.ext (by show far + ((j : ℕ) - far) = j; omega)
      rwa [e] at hq
    · have hq : lg q k dg nr r ⟨far + 256 + (j - far - 256), by omega⟩ ≤ M := (hd1 ⟨j - far - 256, by omega⟩).symm.le.trans (c ⟨j - far - 256, by omega⟩)
      have e : (⟨far + 256 + (j - far - 256), by omega⟩ : Fin N) = j := Fin.ext (by show far + 256 + ((j : ℕ) - far - 256) = j; omega)
      rwa [e] at hq

/-- The same for the second query tile, which has no far keys. -/
theorem bound2 (q : Vec Ideal S1x256x128 .bf16) (k : Fin 512 → Fin 128 → EReal) (dg nr : FVec Ideal S512x256 .f32)
    (r : Fin 512) (M : EReal)
    (hM : M = max (Finset.fold max ⊥ (fun x : Fin 256 => sc q k r ⟨x, by omega⟩ + nr (ix2 r x)) Finset.univ)
      (Finset.fold max ⊥ (fun x : Fin 256 => sc q k r ⟨256 + x, by omega⟩ + dg (ix2 r x)) Finset.univ)) :
    ((∀ j, lg q k dg nr r j < ⊤) → M < ⊤) ∧ ∀ j, lg q k dg nr r j ≤ M := by
  have hn1 : ∀ x : Fin 256, sc q k r ⟨x, by omega⟩ + nr (ix2 r x) = lg q k dg nr r ⟨x, by omega⟩ := fun x =>
    (lg_near q k dg nr r _ x (by show (x : ℕ) + 512 = 512 + x; omega)).symm
  have hd1 : ∀ x : Fin 256, sc q k r ⟨256 + x, by omega⟩ + dg (ix2 r x) = lg q k dg nr r ⟨256 + x, by omega⟩ := fun x =>
    (lg_diag q k dg nr r _ x (by show 256 + (x : ℕ) + 256 = 512 + x; omega)).symm
  obtain ⟨b, c, d⟩ := max2 (fun x : Fin 256 => sc q k r ⟨x, by omega⟩ + nr (ix2 r x))
    (fun x : Fin 256 => sc q k r ⟨256 + x, by omega⟩ + dg (ix2 r x))
  rw [← hM] at b c d
  refine ⟨fun h => d (fun x => ?_) (fun x => ?_), fun j => ?_⟩
  · show sc q k r ⟨x, by omega⟩ + nr (ix2 r x) < ⊤
    rw [hn1]; exact h _
  · show sc q k r ⟨256 + x, by omega⟩ + dg (ix2 r x) < ⊤
    rw [hd1]; exact h _
  · have hj := j.isLt
    by_cases h2 : (j : ℕ) < 256
    · exact (hn1 ⟨j, h2⟩).symm.le.trans (b ⟨j, h2⟩)
    · have hq : lg q k dg nr r ⟨256 + (j - 256), by omega⟩ ≤ M := (hd1 ⟨j - 256, by omega⟩).symm.le.trans (c ⟨j - 256, by omega⟩)
      have e : (⟨256 + (j - 256), by omega⟩ : Fin 512) = j := Fin.ext (by show 256 + ((j : ℕ) - 256) = j; omega)
      rwa [e] at hq

/-- The same for the first query tile, whose keys are all in its own tile. -/
theorem bound1 (q : Vec Ideal S1x256x128 .bf16) (k : Fin 256 → Fin 128 → EReal) (dg nr : FVec Ideal S512x256 .f32)
    (r : Fin 512) (M : EReal)
    (hM : M = Finset.fold max ⊥ (fun x : Fin 256 => sc q k r x + dg (ix2 r x)) Finset.univ) :
    ((∀ j, lg q k dg nr r j < ⊤) → M < ⊤) ∧ ∀ j, lg q k dg nr r j ≤ M := by
  have hd1 : ∀ x : Fin 256, sc q k r x + dg (ix2 r x) = lg q k dg nr r x := fun x =>
    (lg_diag q k dg nr r _ x (by omega)).symm
  subst hM
  simp only [hd1]
  exact ⟨fold_lt _, le_fold _⟩

/-- Probabilities `p` of a tile, up to a positive factor per row: base-two exponentials of the logits less a row bound. -/
def IsProbs {N : ℕ} (p : Fin 512 → Fin N → EReal) (y : Fin 512 → Fin N → EReal) : Prop :=
  ∃ M : Fin 512 → EReal, (∀ r j, p r j = Ideal.exp2 (y r j - M r)) ∧ (∀ r, (∀ j, y r j < ⊤) → M r < ⊤) ∧ ∀ r j, y r j ≤ M r

/-- The closing of a query row: the head norm over its 128 entries, the gain and the fixed factor. -/
def fin (o : Fin 128 → EReal) (g : Vec Ideal S1x128 .f32) (d : Fin 128) : EReal :=
  o d * Ideal.rsqrt (Ideal.div (∑ x : Fin 128, o x * o x) (Ideal.ofBits .f32 1124073472#32) + Ideal.ofBits .f32 897988541#32)
    * g (ix2 0 d) * Ideal.ofBits .f32 1061997773#32

/-- The difference of the two components' weighted means of a query row. -/
def outRow {N : ℕ} (lam : EReal) (p : Fin 512 → Fin N → EReal) (vx : Fin N → Fin 256 → EReal) (r : Fin 256) (d : Fin 128) : EReal :=
  Ideal.div (∑ j : Fin N, p ⟨r, by omega⟩ j * vx j ⟨d, by omega⟩) (∑ j : Fin N, p ⟨r, by omega⟩ j * vx j ⟨128, by omega⟩)
    - lam * Ideal.div (∑ j : Fin N, p ⟨256 + r, by omega⟩ j * vx j ⟨d, by omega⟩) (∑ j : Fin N, p ⟨256 + r, by omega⟩ j * vx j ⟨128, by omega⟩)

end Cert.KernelIdeal.Attn
-- ==== Proof.Attn.Bucket.lean ====
module

public import Idealize.ShloMosaic.Lib.Pointwise

@[expose] public section

set_option maxRecDepth 16384

noncomputable section

namespace Cert.Attn
open Idealize.ShloMosaic Idealize.ShloMosaic.TcCoe Idealize.SL.Sem

/-- The constant the logarithm is divided by: the single-precision logarithm of eight. -/
abbrev cc : ℝ := 8721810 / 4194304

theorem cst_cc : Ideal.ofBits .f32 1074075026#32 = ((cc : ℝ) : EReal) := by
  simp [Ideal.ofBits, Ideal.ieee, -EReal.coe_mul]; norm_num

/-- The constant sixteen. -/
theorem cst_16 : Ideal.ofBits .f32 1098907648#32 = ((16 : ℝ) : EReal) := by
  simp [Ideal.ofBits, Ideal.ieee, -EReal.coe_mul]; norm_num

theorem cst_2 : Ideal.ofBits .f32 1073741824#32 = ((2 : ℝ) : EReal) := by
  simp [Ideal.ofBits, Ideal.ieee, -EReal.coe_mul]; norm_num

theorem cst_3 : Ideal.ofBits .f32 1077936128#32 = ((3 : ℝ) : EReal) := by
  simp [Ideal.ofBits, Ideal.ieee, -EReal.coe_mul]; norm_num

theorem cst_4 : Ideal.ofBits .f32 1082130432#32 = ((4 : ℝ) : EReal) := by
  simp [Ideal.ofBits, Ideal.ieee, -EReal.coe_mul]; norm_num

theorem cst_5 : Ideal.ofBits .f32 1084227584#32 = ((5 : ℝ) : EReal) := by
  simp [Ideal.ofBits, Ideal.ieee, -EReal.coe_mul]; norm_num

theorem cst_6 : Ideal.ofBits .f32 1086324736#32 = ((6 : ℝ) : EReal) := by
  simp [Ideal.ofBits, Ideal.ieee, -EReal.coe_mul]; norm_num

theorem cst_7 : Ideal.ofBits .f32 1088421888#32 = ((7 : ℝ) : EReal) := by
  simp [Ideal.ofBits, Ideal.ieee, -EReal.coe_mul]; norm_num

theorem cst_8 : Ideal.ofBits .f32 1090519040#32 = ((8 : ℝ) : EReal) := by
  simp [Ideal.ofBits, Ideal.ieee, -EReal.coe_mul]; norm_num

theorem cst_9 : Ideal.ofBits .f32 1091567616#32 = ((9 : ℝ) : EReal) := by
  simp [Ideal.ofBits, Ideal.ieee, -EReal.coe_mul]; norm_num

theorem cst_10 : Ideal.ofBits .f32 1092616192#32 = ((10 : ℝ) : EReal) := by
  simp [Ideal.ofBits, Ideal.ieee, -EReal.coe_mul]; norm_num

theorem cst_11 : Ideal.ofBits .f32 1093664768#32 = ((11 : ℝ) : EReal) := by
  simp [Ideal.ofBits, Ideal.ieee, -EReal.coe_mul]; norm_num

theorem cst_12 : Ideal.ofBits .f32 1094713344#32 = ((12 : ℝ) : EReal) := by
  simp [Ideal.ofBits, Ideal.ieee, -EReal.coe_mul]; norm_num

theorem cst_13 : Ideal.ofBits .f32 1095761920#32 = ((13 : ℝ) : EReal) := by
  simp [Ideal.ofBits, Ideal.ieee, -EReal.coe_mul]; norm_num

theorem cst_14 : Ideal.ofBits .f32 1096810496#32 = ((14 : ℝ) : EReal) := by
  simp [Ideal.ofBits, Ideal.ieee, -EReal.coe_mul]; norm_num

theorem cst_15 : Ideal.ofBits .f32 1097859072#32 = ((15 : ℝ) : EReal) := by
  simp [Ideal.ofBits, Ideal.ieee, -EReal.coe_mul]; norm_num

/-- The position of a distance on the logarithmic scale, in buckets above the sixteenth. -/
def xr (m : ℕ) : ℝ := Real.log (((max m 16 : ℕ) : ℝ) * (1 / 16)) * (1 / cc) * 16

theorem xr_nonneg (m : ℕ) : 0 ≤ xr m := by
  have h : (16 : ℝ) ≤ ((max m 16 : ℕ) : ℝ) := by exact_mod_cast le_max_right m 16
  have : 0 ≤ Real.log (((max m 16 : ℕ) : ℝ) * (1 / 16)) := Real.log_nonneg (by linarith)
  unfold xr cc; positivity

/-- A distance below four thousand lies less than three thousand buckets up. -/
theorem xr_lt (m : ℕ) (hm : m < 4096) : xr m < 3000 := by
  have h : ((max m 16 : ℕ) : ℝ) ≤ 4096 := by exact_mod_cast max_le hm.le (by norm_num)
  have h0 : (16 : ℝ) ≤ ((max m 16 : ℕ) : ℝ) := by exact_mod_cast le_max_right m 16
  have := Real.log_le_sub_one_of_pos (x := ((max m 16 : ℕ) : ℝ) * (1 / 16)) (by linarith)
  unfold xr cc
  nlinarith

/-- A distance above 256 lies at least fifteen buckets up. -/
theorem xr_far (m : ℕ) (hm : 256 ≤ m) : 15 ≤ xr m := by
  have h : (16 : ℝ) ≤ ((max m 16 : ℕ) : ℝ) * (1 / 16) := by
    have : (256 : ℝ) ≤ ((max m 16 : ℕ) : ℝ) := by exact_mod_cast hm.trans (le_max_left m 16)
    linarith
  have h1 : Real.log 16 ≤ Real.log (((max m 16 : ℕ) : ℝ) * (1 / 16)) := Real.log_le_log (by norm_num) h
  have h2 : Real.log 16 = 4 * Real.log 2 := by
    rw [show (16 : ℝ) = 2 ^ 4 by norm_num, Real.log_pow]; norm_num
  have h3 := Real.one_sub_inv_le_log_of_pos (x := 2) (by norm_num)
  unfold xr cc
  nlinarith

/-- The bucket of a distance. -/
def bucket (m : ℕ) : Fin 32 := if h : m < 16 then ⟨m, by omega⟩ else ⟨min 31 (16 + ⌊xr m⌋₊), by omega⟩

theorem bucket_far (m : ℕ) (hm : 256 ≤ m) : bucket m = 31 := by
  have : 15 ≤ ⌊xr m⌋₊ := Nat.le_floor (by exact_mod_cast xr_far m hm)
  rw [bucket, dif_neg (by omega)]
  exact Fin.ext (by show min 31 (16 + ⌊xr m⌋₊) = 31; omega)

/-- Select on equality of two small words. -/
theorem sel_eq {α : Type} (m i : ℕ) (hm : m < 4096) (hi : i < 4096) (a b : α) :
    Scalar.select (IntOp.cmpi .eq (BitVec.ofNat 32 m) (BitVec.ofNat 32 i)) a b = if m = i then a else b := by
  have : (BitVec.ofNat 32 m == BitVec.ofNat 32 i) = decide (m = i) := by
    rw [Bool.eq_iff_iff, beq_iff_eq, decide_eq_true_iff]
    constructor
    · intro h
      have := congrArg BitVec.toNat h
      simp only [BitVec.toNat_ofNat] at this
      omega
    · rintro rfl; rfl
  simp only [Scalar.select, IntOp.cmpi, this]
  by_cases h : m = i <;> simp [h]

theorem toInt_small (m : ℕ) (hm : m < 2147483648) : (BitVec.ofNat 32 m).toInt = m := by
  rw [BitVec.toInt_eq_toNat_of_lt] <;> simp only [BitVec.toNat_ofNat] <;> omega

theorem slt_small (m i : ℕ) (hm : m < 2147483648) (hi : i < 2147483648) :
    (BitVec.ofNat 32 m).slt (BitVec.ofNat 32 i) = decide (m < i) := by
  rw [Bool.eq_iff_iff, decide_eq_true_iff, BitVec.slt_iff_toInt_lt, toInt_small m hm, toInt_small i hi]
  exact Nat.cast_lt

theorem maxsi_small (m i : ℕ) (hm : m < 2147483648) (hi : i < 2147483648) :
    IntOp.maxsi (BitVec.ofNat 32 m) (BitVec.ofNat 32 i) = BitVec.ofNat 32 (max m i) := by
  rw [IntOp.maxsi, slt_small i m hi hm]
  by_cases h : i < m
  · simp [h, max_eq_left h.le]
  · simp [h, max_eq_right (not_lt.mp h)]

theorem minsi_small (m i : ℕ) (hm : m < 2147483648) (hi : i < 2147483648) :
    IntOp.minsi (BitVec.ofNat 32 m) (BitVec.ofNat 32 i) = BitVec.ofNat 32 (min m i) := by
  rw [IntOp.minsi, slt_small m i hm hi]
  by_cases h : m < i
  · simp [h, min_eq_left h.le]
  · simp [h, min_eq_right (not_lt.mp h)]

theorem subi_small (m i : ℕ) (hm : m < 2147483648) (hi : i ≤ m) :
    IntOp.subi (BitVec.ofNat 32 m) (BitVec.ofNat 32 i) = BitVec.ofNat 32 (m - i) := by
  apply BitVec.eq_of_toNat_eq
  simp only [IntOp.subi, BitVec.toNat_sub, BitVec.toNat_ofNat]
  omega

theorem addi_small (m i : ℕ) :
    IntOp.addi (BitVec.ofNat 32 m) (BitVec.ofNat 32 i) = BitVec.ofNat 32 (m + i) := by
  apply BitVec.eq_of_toNat_eq
  simp only [IntOp.addi, BitVec.toNat_add, BitVec.toNat_ofNat]
  omega

/-- The larger of a nonpositive difference and zero is zero. -/
theorem subi_neg (m i : ℕ) (hi : i < 4096) (h : m ≤ i) :
    IntOp.maxsi (IntOp.subi (BitVec.ofNat 32 m) (BitVec.ofNat 32 i)) 0#32 = BitVec.ofNat 32 0 := by
  rcases h.eq_or_lt with rfl | h
  · rw [subi_small m m (by omega) le_rfl, Nat.sub_self]; rfl
  have e : (IntOp.subi (BitVec.ofNat 32 m) (BitVec.ofNat 32 i)).toInt < 0 := by
    have : (IntOp.subi (BitVec.ofNat 32 m) (BitVec.ofNat 32 i)).toNat = 4294967296 + m - i := by
      simp only [IntOp.subi, BitVec.toNat_sub, BitVec.toNat_ofNat]; omega
    rw [BitVec.toInt_eq_toNat_cond, this, if_neg (by omega)]
    omega
  rw [IntOp.maxsi, if_neg]
  rw [BitVec.slt_iff_toInt_lt]
  simp only [BitVec.toInt_zero]
  omega

/-- The word of a distance, from the difference of the positions. -/
theorem dist_word (m i : ℕ) (hm : m < 4096) (hi : i < 4096) :
    IntOp.maxsi (IntOp.subi (BitVec.ofNat 32 m) (BitVec.ofNat 32 i)) 0#32 = BitVec.ofNat 32 (m - i) := by
  by_cases h : i ≤ m
  · rw [subi_small m i (by omega) h]
    exact (maxsi_small (m - i) 0 (by omega) (by omega)).trans (by rw [max_eq_left (Nat.zero_le _)])
  · rw [subi_neg m i hi (by omega), Nat.sub_eq_zero_of_le (by omega)]

/-- The logarithmic position the programs compute is `xr`. -/
theorem x_real (m : ℕ) (hm : m < 4096) :
    Ideal.div (Ideal.log (Ideal.div (((IntOp.maxsi (BitVec.ofNat 32 m) 16#32).toInt : ℝ) : EReal)
      (Ideal.ofBits .f32 1098907648#32))) (Ideal.ofBits .f32 1074075026#32) * Ideal.ofBits .f32 1098907648#32
      = ((xr m : ℝ) : EReal) := by
  have h : IntOp.maxsi (BitVec.ofNat 32 m) 16#32 = BitVec.ofNat 32 (max m 16) := maxsi_small m 16 (by omega) (by omega)
  have hp : (0 : ℝ) < ((max m 16 : ℕ) : ℝ) * (1 / 16) := by
    have : (16 : ℝ) ≤ ((max m 16 : ℕ) : ℝ) := by exact_mod_cast le_max_right m 16
    linarith
  rw [h, toInt_small _ (by omega), cst_16, cst_cc, Int.cast_natCast, Ideal.div_coe (y := 16) (by norm_num), ← EReal.coe_mul,
    Ideal.log_coe, if_neg (not_le.mpr hp), Ideal.div_coe (y := cc) (by norm_num), ← EReal.coe_mul, ← EReal.coe_mul]
  rfl

/-- The kernel's choice of a table entry: by the logarithmic position, then by the exact distance. -/
def chain (X : EReal) (n : BitVec 32) (T : Fin 32 → EReal) : EReal :=
  (Scalar.select (IntOp.cmpi .eq n 15#32) (T 15)
  (Scalar.select (IntOp.cmpi .eq n 14#32) (T 14)
  (Scalar.select (IntOp.cmpi .eq n 13#32) (T 13)
  (Scalar.select (IntOp.cmpi .eq n 12#32) (T 12)
  (Scalar.select (IntOp.cmpi .eq n 11#32) (T 11)
  (Scalar.select (IntOp.cmpi .eq n 10#32) (T 10)
  (Scalar.select (IntOp.cmpi .eq n 9#32) (T 9)
  (Scalar.select (IntOp.cmpi .eq n 8#32) (T 8)
  (Scalar.select (IntOp.cmpi .eq n 7#32) (T 7)
  (Scalar.select (IntOp.cmpi .eq n 6#32) (T 6)
  (Scalar.select (IntOp.cmpi .eq n 5#32) (T 5)
  (Scalar.select (IntOp.cmpi .eq n 4#32) (T 4)
  (Scalar.select (IntOp.cmpi .eq n 3#32) (T 3)
  (Scalar.select (IntOp.cmpi .eq n 2#32) (T 2)
  (Scalar.select (IntOp.cmpi .eq n 1#32) (T 1)
  (Scalar.select (IntOp.cmpi .eq n 0#32) (T 0)
  (if Ideal.ofBits .f32 1097859072#32 ≤ X then T 31 else
  (if Ideal.ofBits .f32 1096810496#32 ≤ X then T 30 else
  (if Ideal.ofBits .f32 1095761920#32 ≤ X then T 29 else
  (if Ideal.ofBits .f32 1094713344#32 ≤ X then T 28 else
  (if Ideal.ofBits .f32 1093664768#32 ≤ X then T 27 else
  (if Ideal.ofBits .f32 1092616192#32 ≤ X then T 26 else
  (if Ideal.ofBits .f32 1091567616#32 ≤ X then T 25 else
  (if Ideal.ofBits .f32 1090519040#32 ≤ X then T 24 else
  (if Ideal.ofBits .f32 1088421888#32 ≤ X then T 23 else
  (if Ideal.ofBits .f32 1086324736#32 ≤ X then T 22 else
  (if Ideal.ofBits .f32 1084227584#32 ≤ X then T 21 else
  (if Ideal.ofBits .f32 1082130432#32 ≤ X then T 20 else
  (if Ideal.ofBits .f32 1077936128#32 ≤ X then T 19 else
  (if Ideal.ofBits .f32 1073741824#32 ≤ X then T 18 else
  (if 1 ≤ X then T 17 else
  T 16)))))))))))))))))))))))))))))))

theorem le_pos (i : ℕ) (x : ℝ) (hx : 0 ≤ x) : (((i : ℝ) : EReal) ≤ ((x : ℝ) : EReal)) = (i ≤ ⌊x⌋₊) := by
  rw [EReal.coe_le_coe_iff, Nat.le_floor_iff hx]

/-- The chosen entry is the one of the bucket. -/
theorem chain_eq (m : ℕ) (hm : m < 4096) (T : Fin 32 → EReal) :
    chain ((xr m : ℝ) : EReal) (BitVec.ofNat 32 m) T = T (bucket m) := by
  have e : ∀ i : ℕ, i < 16 → ∀ a b : EReal,
      Scalar.select (IntOp.cmpi .eq (BitVec.ofNat 32 m) (BitVec.ofNat 32 i)) a b = if m = i then a else b :=
    fun i hi a b => sel_eq m i hm (by omega) a b
  have c1 : (1 : EReal) = ((((1 : ℕ) : ℝ)) : EReal) := by norm_num
  have l : ∀ i : ℕ, (((i : ℝ) : EReal) ≤ ((xr m : ℝ) : EReal)) = (i ≤ ⌊xr m⌋₊) := fun i => le_pos i _ (xr_nonneg m)
  unfold chain
  rw [e 15 (by omega), e 14 (by omega), e 13 (by omega), e 12 (by omega), e 11 (by omega), e 10 (by omega), e 9 (by omega), e 8 (by omega), e 7 (by omega), e 6 (by omega), e 5 (by omega), e 4 (by omega), e 3 (by omega), e 2 (by omega), e 1 (by omega), e 0 (by omega)]
  by_cases h : m < 16
  · rw [show bucket m = ⟨m, by omega⟩ from dif_pos h]
    clear l c1 e
    interval_cases m <;> simp only [↓reduceIte, Nat.reduceEqDiff, OfNat.zero_ne_ofNat, OfNat.ofNat_ne_zero, zero_ne_one, one_ne_zero, OfNat.one_ne_ofNat, OfNat.ofNat_ne_one] <;> rfl
  · rw [if_neg (show ¬ m = 15 by omega), if_neg (show ¬ m = 14 by omega), if_neg (show ¬ m = 13 by omega), if_neg (show ¬ m = 12 by omega), if_neg (show ¬ m = 11 by omega), if_neg (show ¬ m = 10 by omega), if_neg (show ¬ m = 9 by omega), if_neg (show ¬ m = 8 by omega), if_neg (show ¬ m = 7 by omega), if_neg (show ¬ m = 6 by omega), if_neg (show ¬ m = 5 by omega), if_neg (show ¬ m = 4 by omega), if_neg (show ¬ m = 3 by omega), if_neg (show ¬ m = 2 by omega), if_neg (show ¬ m = 1 by omega), if_neg (show ¬ m = 0 by omega)]
    have l1 : (1 ≤ ((xr m : ℝ) : EReal)) = (1 ≤ ⌊xr m⌋₊) := by
      rw [c1]; exact_mod_cast l 1
    have l2 : (Ideal.ofBits .f32 1073741824#32 ≤ ((xr m : ℝ) : EReal)) = (2 ≤ ⌊xr m⌋₊) := by
      rw [cst_2]; exact_mod_cast l 2
    have l3 : (Ideal.ofBits .f32 1077936128#32 ≤ ((xr m : ℝ) : EReal)) = (3 ≤ ⌊xr m⌋₊) := by
      rw [cst_3]; exact_mod_cast l 3
    have l4 : (Ideal.ofBits .f32 1082130432#32 ≤ ((xr m : ℝ) : EReal)) = (4 ≤ ⌊xr m⌋₊) := by
      rw [cst_4]; exact_mod_cast l 4
    have l5 : (Ideal.ofBits .f32 1084227584#32 ≤ ((xr m : ℝ) : EReal)) = (5 ≤ ⌊xr m⌋₊) := by
      rw [cst_5]; exact_mod_cast l 5
    have l6 : (Ideal.ofBits .f32 1086324736#32 ≤ ((xr m : ℝ) : EReal)) = (6 ≤ ⌊xr m⌋₊) := by
      rw [cst_6]; exact_mod_cast l 6
    have l7 : (Ideal.ofBits .f32 1088421888#32 ≤ ((xr m : ℝ) : EReal)) = (7 ≤ ⌊xr m⌋₊) := by
      rw [cst_7]; exact_mod_cast l 7
    have l8 : (Ideal.ofBits .f32 1090519040#32 ≤ ((xr m : ℝ) : EReal)) = (8 ≤ ⌊xr m⌋₊) := by
      rw [cst_8]; exact_mod_cast l 8
    have l9 : (Ideal.ofBits .f32 1091567616#32 ≤ ((xr m : ℝ) : EReal)) = (9 ≤ ⌊xr m⌋₊) := by
      rw [cst_9]; exact_mod_cast l 9
    have l10 : (Ideal.ofBits .f32 1092616192#32 ≤ ((xr m : ℝ) : EReal)) = (10 ≤ ⌊xr m⌋₊) := by
      rw [cst_10]; exact_mod_cast l 10
    have l11 : (Ideal.ofBits .f32 1093664768#32 ≤ ((xr m : ℝ) : EReal)) = (11 ≤ ⌊xr m⌋₊) := by
      rw [cst_11]; exact_mod_cast l 11
    have l12 : (Ideal.ofBits .f32 1094713344#32 ≤ ((xr m : ℝ) : EReal)) = (12 ≤ ⌊xr m⌋₊) := by
      rw [cst_12]; exact_mod_cast l 12
    have l13 : (Ideal.ofBits .f32 1095761920#32 ≤ ((xr m : ℝ) : EReal)) = (13 ≤ ⌊xr m⌋₊) := by
      rw [cst_13]; exact_mod_cast l 13
    have l14 : (Ideal.ofBits .f32 1096810496#32 ≤ ((xr m : ℝ) : EReal)) = (14 ≤ ⌊xr m⌋₊) := by
      rw [cst_14]; exact_mod_cast l 14
    have l15 : (Ideal.ofBits .f32 1097859072#32 ≤ ((xr m : ℝ) : EReal)) = (15 ≤ ⌊xr m⌋₊) := by
      rw [cst_15]; exact_mod_cast l 15
    simp only [l1, l2, l3, l4, l5, l6, l7, l8, l9, l10, l11, l12, l13, l14, l15]
    have hb : bucket m = ⟨min 31 (16 + ⌊xr m⌋₊), by omega⟩ := dif_neg h
    rw [hb]
    clear hb l c1 e l1 l2 l3 l4 l5 l6 l7 l8 l9 l10 l11 l12 l13 l14 l15
    generalize hq : (⟨min 31 (16 + ⌊xr m⌋₊), _⟩ : Fin 32) = w
    have hw : (w : ℕ) = min 31 (16 + ⌊xr m⌋₊) := by rw [← hq]
    clear hq
    generalize ⌊xr m⌋₊ = f at hw ⊢
    by_cases hf : 15 ≤ f
    · rw [if_pos hf]; exact congrArg T (Fin.ext (by rw [hw]; show 31 = min 31 (16 + f); omega))
    · have : f < 15 := by omega
      interval_cases f <;> simp only [Nat.reduceLeDiff, ↓reduceIte, nonpos_iff_eq_zero, OfNat.ofNat_ne_zero, one_ne_zero, Nat.one_le_ofNat, le_refl] <;>
        exact congrArg T (Fin.ext hw.symm)

/-- The reference's bucket, as a word. -/
theorem ref_word (m : ℕ) (hm : m < 4096) :
    Scalar.select (IntOp.cmpi .slt (BitVec.ofNat 32 m) 16#32) (BitVec.ofNat 32 m)
      (IntOp.minsi (IntOp.addi 16#32 (Ideal.fptosi 32 ((xr m : ℝ) : EReal))) 31#32) = BitVec.ofNat 32 (bucket m : ℕ) := by
  have hs : (BitVec.ofNat 32 m).slt 16#32 = decide (m < 16) := slt_small m 16 (by omega) (by omega)
  have hx := xr_nonneg m
  have hl : ⌊xr m⌋₊ < 3000 := (Nat.floor_lt hx).mpr (by exact_mod_cast xr_lt m hm)
  have hf : Ideal.fptosi 32 ((xr m : ℝ) : EReal) = BitVec.ofNat 32 ⌊xr m⌋₊ := by
    rw [Ideal.fptosi, Ideal.toIntClamped_coe, if_pos hx, ← Int.natCast_floor_eq_floor hx]
    generalize ⌊xr m⌋₊ = f at hl
    rw [show max (-((2 ^ (32 - 1) : ℕ) : ℤ)) (min (((2 ^ (32 - 1) : ℕ) : ℤ) - 1) (f : ℤ)) = (f : ℤ) by norm_num; omega]
    exact BitVec.ofInt_natCast ..
  have hw : IntOp.minsi (IntOp.addi 16#32 (BitVec.ofNat 32 ⌊xr m⌋₊)) 31#32 = BitVec.ofNat 32 (min (16 + ⌊xr m⌋₊) 31) := by
    rw [show IntOp.addi 16#32 (BitVec.ofNat 32 ⌊xr m⌋₊) = BitVec.ofNat 32 (16 + ⌊xr m⌋₊) from addi_small 16 _]
    exact minsi_small _ 31 (by omega) (by omega)
  rw [hf, hw]
  simp only [Scalar.select, IntOp.cmpi, hs]
  by_cases h : m < 16
  · simp [h, bucket]
  · simp [h, bucket, min_comm]

end Cert.Attn
-- ==== Proof.Attn.Row.lean ====
module

public import proofs.«01_k».proof.Proof.Attn.Base
public import proofs.«01_k».proof.Proof.Attn.Bucket

@[expose] public section

set_option maxRecDepth 16384

noncomputable section

namespace Cert.Attn
open Idealize.ShloMosaic Idealize.ShloMosaic.TcCoe Idealize.SL.Sem

/-- The score of a query and a key in one component: the product over that component's 64 lanes. -/
def dot (c : Fin 2) (q k : Fin 128 → ℝ) : ℝ :=
  ∑ e : Fin 64, q ⟨64 * (c : ℕ) + (e : ℕ), by omega⟩ * k ⟨64 * (c : ℕ) + (e : ℕ), by omega⟩

/-- The logit of query `i` and key `j`: the scaled score and the bias of the distance's bucket. -/
def logit (c : Fin 2) (q k : Fin 2048 → Fin 128 → ℝ) (T : Fin 32 → ℝ) (i : ℕ) (hi : i < 2048) (j : Fin 2048) : ℝ :=
  dot c (q ⟨i, hi⟩) (k j) * (1 / 8) + T (bucket (i - (j : ℕ)))

/-- The softmax mean of the values in one component. -/
def mean (c : Fin 2) (q k v : Fin 2048 → Fin 128 → ℝ) (T : Fin 32 → ℝ) (i : ℕ) (hi : i < 2048) (d : Fin 128) : ℝ :=
  (∑ j, wt (logit c q k T i hi) i j * v j d) / ∑ j, wt (logit c q k T i hi) i j

/-- One row of the differential attention: the difference of the components' means. -/
def row (q k v : Fin 2048 → Fin 128 → ℝ) (T : Fin 32 → ℝ) (lam : ℝ) (i : ℕ) (hi : i < 2048) (d : Fin 128) : ℝ :=
  mean 0 q k v T i hi d - lam * mean 1 q k v T i hi d

/-- A sum over 128 lanes that keeps only the first 64. -/
theorem half0 (f : Fin 128 → ℝ) : ∑ x : Fin 128, (if (x : ℕ) < 64 then f x else 0) = ∑ e : Fin 64, f ⟨64 * 0 + (e : ℕ), by omega⟩ := by
  rw [show (∑ x : Fin 128, (if (x : ℕ) < 64 then f x else 0)) = ∑ x : Fin (64 + 64), (if (x : ℕ) < 64 then f x else 0) from rfl,
    Fin.sum_univ_add]
  have h2 : ∑ e : Fin 64, (if ((Fin.natAdd 64 e : Fin (64 + 64)) : ℕ) < 64 then f (Fin.natAdd 64 e) else 0) = 0 :=
    Finset.sum_eq_zero fun e _ => if_neg (by simp)
  rw [h2, add_zero]
  refine Finset.sum_congr rfl fun e _ => ?_
  rw [if_pos (by simp)]
  exact congrArg f (Fin.ext (by simp))

/-- A sum over 128 lanes that keeps only the last 64. -/
theorem half1 (f : Fin 128 → ℝ) : ∑ x : Fin 128, (if (x : ℕ) < 64 then 0 else f x) = ∑ e : Fin 64, f ⟨64 * 1 + (e : ℕ), by omega⟩ := by
  rw [show (∑ x : Fin 128, (if (x : ℕ) < 64 then 0 else f x)) = ∑ x : Fin (64 + 64), (if (x : ℕ) < 64 then 0 else f x) from rfl,
    Fin.sum_univ_add]
  have h2 : ∑ e : Fin 64, (if ((Fin.castAdd 64 e : Fin (64 + 64)) : ℕ) < 64 then 0 else f (Fin.castAdd 64 e)) = 0 :=
    Finset.sum_eq_zero fun e _ => if_pos (by simp)
  rw [h2, zero_add]
  refine Finset.sum_congr rfl fun e _ => ?_
  rw [if_neg (by simp)]
  exact congrArg f (Fin.ext (by show 64 + (e : ℕ) = 64 * 1 + (e : ℕ); omega))

end Cert.Attn

namespace Cert.KernelIdeal.Attn
open Idealize.ShloMosaic Idealize.ShloMosaic.TcCoe Idealize.SL.Sem
open Cert.KernelIdeal Cert.KernelIdeal.Gen Cert.Attn

/-- The name of the query scale stands for an eighth of the reciprocal of the logarithm of two. -/
theorem named_qscale : Named.named (F := Ideal) κ "qscale" (φ := .f32) 1043900987#32 = (((1 / 8) * (Real.log 2)⁻¹ : ℝ) : EReal) := rfl

/-- The tabulated bias of a distance, as a real number. -/
def biasR (T : Fin 32 → ℝ) (m : ℕ) : ℝ := (T (bucket m) - T 31) * (Real.log 2)⁻¹

/-- A row of the stacked tile is one of its 512. -/
theorem srow_lt (c : Fin 2) (r : Fin 256) : 256 * (c : ℕ) + (r : ℕ) < 512 := by omega

/-- A tile's query is one of the sequence's. -/
theorem qlt {N : ℕ} (hN : N ≤ 2048) (h256 : 256 ≤ N) (r : Fin 256) : N - 256 + (r : ℕ) < 2048 := by omega

/-- A value column is one of the scratch's. -/
theorem dlt (d : Fin 128) : (d : ℕ) < 256 := by omega

/-- The column of ones is one of the scratch's. -/
theorem olt : 128 < 256 := by omega

/-- The row of the stacked query tile that holds row `r` for component `c`. -/
abbrev srow (c : Fin 2) (r : Fin 256) : Fin 512 := ⟨256 * (c : ℕ) + (r : ℕ), srow_lt c r⟩

variable {N : ℕ} (hN : N ≤ 2048) (h256 : 256 ≤ N)
  (qr kr vr : Fin 2048 → Fin 128 → ℝ) (T : Fin 32 → ℝ)
  (q : Vec Ideal S1x256x128 .bf16) (hq : ∀ (r : Fin 256) (x : Fin 128), q (ix3 0 r x) = ((qr ⟨N - 256 + (r : ℕ), qlt hN h256 r⟩ x : ℝ) : EReal))
  (k : Fin N → Fin 128 → EReal) (hk : ∀ (j : Fin N) (x : Fin 128), k j x = ((kr ⟨j, j.isLt.trans_le hN⟩ x : ℝ) : EReal))

include hq hk in
/-- The kernel's scores: the component's product, times the named scale. -/
theorem sc_real (c : Fin 2) (r : Fin 256) (j : Fin N) :
    sc q k (srow c r) j = ((dot c (qr ⟨N - 256 + (r : ℕ), qlt hN h256 r⟩) (kr ⟨j, j.isLt.trans_le hN⟩) * (1 / 8) * (Real.log 2)⁻¹ : ℝ) : EReal) := by
  unfold sc
  rw [named_qscale]
  have e : ∀ x : Fin 128, qm q (srow c r) x * k j x =
      (((if (c : ℕ) = 0 then (if (x : ℕ) < 64 then qr ⟨N - 256 + (r : ℕ), qlt hN h256 r⟩ x * kr ⟨j, j.isLt.trans_le hN⟩ x else 0)
        else (if (x : ℕ) < 64 then 0 else qr ⟨N - 256 + (r : ℕ), qlt hN h256 r⟩ x * kr ⟨j, j.isLt.trans_le hN⟩ x)) : ℝ) : EReal) := by
    intro x
    rw [hk]
    unfold qm
    by_cases hc : (c : ℕ) = 0
    · rw [dif_pos (by show 256 * (c : ℕ) + (r : ℕ) < 256; omega), if_pos hc]
      have e1 : (⟨256 * (c : ℕ) + (r : ℕ), by omega⟩ : Fin 256) = r := Fin.ext (by show 256 * (c : ℕ) + (r : ℕ) = r; omega)
      by_cases hx : (x : ℕ) < 64
      · rw [if_pos hx, if_pos hx, e1, hq, ← EReal.coe_mul]
      · rw [if_neg hx, if_neg hx, zero_mul, EReal.coe_zero]
    · rw [dif_neg (by show ¬ 256 * (c : ℕ) + (r : ℕ) < 256; omega), if_neg hc]
      have e1 : (⟨256 * (c : ℕ) + (r : ℕ) - 256, by omega⟩ : Fin 256) = r := Fin.ext (by show 256 * (c : ℕ) + (r : ℕ) - 256 = r; omega)
      by_cases hx : (x : ℕ) < 64
      · rw [if_pos hx, if_pos hx, zero_mul, EReal.coe_zero]
      · rw [if_neg hx, if_neg hx, e1, hq, ← EReal.coe_mul]
  rw [Finset.sum_congr rfl fun x _ => e x, coe_sum, ← EReal.coe_mul]
  congr 1
  rw [mul_assoc]
  congr 1
  unfold dot
  fin_cases c
  · exact half0 (fun x => qr ⟨N - 256 + (r : ℕ), qlt hN h256 r⟩ x * kr ⟨j, j.isLt.trans_le hN⟩ x)
  · exact half1 (fun x => qr ⟨N - 256 + (r : ℕ), qlt hN h256 r⟩ x * kr ⟨j, j.isLt.trans_le hN⟩ x)

variable (dg nr : FVec Ideal S512x256 .f32)
  (hdg : ∀ (c : Fin 2) (r x : Fin 256), dg (ix2 (srow c r) x) = if (x : ℕ) ≤ (r : ℕ) then ((biasR T ((r : ℕ) - (x : ℕ)) : ℝ) : EReal) else ⊥)
  (hnr : ∀ (c : Fin 2) (r x : Fin 256), nr (ix2 (srow c r) x) = ((biasR T (256 + (r : ℕ) - (x : ℕ)) : ℝ) : EReal))

include hq hk hdg hnr in
/-- The kernel's logits: in base two and less the last bucket's bias, and minus infinity past the query. -/
theorem lg_real (c : Fin 2) (r : Fin 256) (j : Fin N) :
    lg q k dg nr (srow c r) j = if (j : ℕ) ≤ N - 256 + (r : ℕ) then
      (((logit c qr kr T (N - 256 + (r : ℕ)) (qlt hN h256 r) ⟨j, j.isLt.trans_le hN⟩ - T 31) * (Real.log 2)⁻¹ : ℝ) : EReal) else ⊥ := by
  have hj := j.isLt
  have hr := r.isLt
  unfold lg
  rw [sc_real hN h256 qr kr q hq k hk c r j]
  by_cases h1 : (j : ℕ) + 512 < N
  · rw [dif_pos h1, if_pos (by omega)]
    congr 1
    unfold logit
    rw [bucket_far _ (by show 256 ≤ N - 256 + (r : ℕ) - (j : ℕ); omega)]
    ring
  rw [dif_neg h1]
  by_cases h2 : (j : ℕ) + 256 < N
  · rw [dif_pos h2, if_pos (by omega), hnr, ← EReal.coe_add]
    congr 1
    unfold logit biasR
    rw [show 256 + (r : ℕ) - ((j : ℕ) + 512 - N) = N - 256 + (r : ℕ) - (j : ℕ) by omega]
    show _ = (dot c _ _ * (1 / 8) + T (bucket (N - 256 + (r : ℕ) - (j : ℕ))) - T 31) * (Real.log 2)⁻¹
    ring
  rw [dif_neg h2, hdg]
  by_cases h3 : (j : ℕ) + 256 - N ≤ (r : ℕ)
  · rw [if_pos h3, if_pos (by omega), ← EReal.coe_add]
    congr 1
    unfold logit biasR
    rw [show (r : ℕ) - ((j : ℕ) + 256 - N) = N - 256 + (r : ℕ) - (j : ℕ) by omega]
    show _ = (dot c _ _ * (1 / 8) + T (bucket (N - 256 + (r : ℕ) - (j : ℕ))) - T 31) * (Real.log 2)⁻¹
    ring
  · rw [if_neg h3, if_neg (by omega), EReal.add_bot]

variable (p : Fin 512 → Fin N → EReal) (hp : IsProbs p (lg q k dg nr))
  (vx : Fin N → Fin 256 → EReal)
  (hv : ∀ (j : Fin N) (d : Fin 128), vx j ⟨d, dlt d⟩ = ((vr ⟨j, j.isLt.trans_le hN⟩ d : ℝ) : EReal))
  (h1 : ∀ j : Fin N, vx j ⟨128, olt⟩ = 1) (lam : ℝ)

include hq hk hdg hnr hp hv h1 in
/-- A tile's row is the differential attention's row. -/
theorem outRow_real (r : Fin 256) (d : Fin 128) :
    outRow (lam : EReal) p vx r d = ((row qr kr vr T lam (N - 256 + (r : ℕ)) (qlt hN h256 r) d : ℝ) : EReal) := by
  obtain ⟨M, hpe, hM, hge⟩ := hp
  have key : ∀ c : Fin 2, Ideal.div (∑ j : Fin N, p (srow c r) j * vx j ⟨d, dlt d⟩) (∑ j : Fin N, p (srow c r) j * vx j ⟨128, olt⟩)
      = ((mean c qr kr vr T (N - 256 + (r : ℕ)) (qlt hN h256 r) d : ℝ) : EReal) := by
    intro c
    have := kernel_ratio hN (N - 256 + (r : ℕ)) (by omega) (logit c qr kr T (N - 256 + (r : ℕ)) (qlt hN h256 r)) (T 31)
      (lg q k dg nr (srow c r)) (fun j => lg_real hN h256 qr kr T q hq k hk dg nr hdg hnr c r j) (M (srow c r)) (hM _) (hge _)
      (fun j => vr j d) (fun j => vx j ⟨d, dlt d⟩) (fun j => hv j d) (fun j => vx j ⟨128, olt⟩) h1
    have ep : ∀ j, p (srow c r) j = Ideal.exp2 (lg q k dg nr (srow c r) j - M (srow c r)) := fun j => hpe (srow c r) j
    simp only [ep]
    exact this
  unfold outRow row
  have e0 : (⟨(r : ℕ), by omega⟩ : Fin 512) = srow 0 r := Fin.ext (by show (r : ℕ) = 256 * 0 + (r : ℕ); omega)
  have e1 : (⟨256 + (r : ℕ), by omega⟩ : Fin 512) = srow 1 r := Fin.ext (by show 256 + (r : ℕ) = 256 * 1 + (r : ℕ); omega)
  rw [e0, e1, key 0, key 1, ← EReal.coe_mul, ← EReal.coe_sub]

end Cert.KernelIdeal.Attn
-- ==== Proof.Attn.Sides.lean ====
module

public import proofs.«01_k».proof.Proof.Gen.KernelIdeal.Frame
public import Idealize.ShloMosaic.Lib.Pointwise
public import Idealize.ShloMosaic.Lib.Pipeline.ValueKit
public import proofs.«01_k».proof.Proof.Attn.Row

@[expose] public section

set_option maxRecDepth 16384

noncomputable section

namespace Cert.KernelIdeal.Attn
open Idealize.ShloMosaic Idealize.ShloMosaic.TcCoe Idealize.SL.Sem
open Cert.KernelIdeal Cert.KernelIdeal.Gen Cert.Attn

/-- The values with their column of ones, entry by entry. -/
def vxG (v : Vec Ideal S1x2048x128 .bf16) (y : S2048x256.Idx) : EReal :=
  if h : (y 1 : ℕ) < 128 then v (ix3 0 (y 0) ⟨y 1, h⟩) else if (y 1 : ℕ) = 128 then 1 else 0

/-- The column of ones. -/
theorem ones_at (j : Fin 2048) (x : Fin 128) : k1_pay3 (F := Ideal) (ix2 j x) = if (x : ℕ) = 0 then 1 else 0 := by
  pointwise [k1_pay3]
  have hx := x.isLt
  by_cases h : (x : ℕ) = 0
  · have e : x = 0 := Fin.ext h
    subst e
    simp [Ideal.ofBits, Ideal.ieee, -EReal.coe_mul]
    norm_num
    rfl
  · rw [if_neg h]
    have : ¬ ((BitVec.ofNat 32 (x : ℕ)) = 0#32) := by
      intro hh
      have := congrArg BitVec.toNat hh
      rw [BitVec.toNat_ofNat, Nat.mod_eq_of_lt (by omega)] at this
      exact h this
    have hb : (BitVec.ofNat 32 (x : ℕ) == 0#32) = false := by simpa using this
    simp [hb, IntOp.cmpi, Scalar.select, Ideal.ofBits, Ideal.ieee]

/-- What a tile loads of the scratch that holds the values and the column of ones. -/
theorem vx_at (vw : View sig .tc .vmem S2048x256 .bf16) (N : ℕ) (inb : ∀ a, (![0, 0] : Fin 2 → ℕ) a + (![N, 256] : Fin 2 → ℕ) a ≤ S2048x256.size a)
    (v : Vec Ideal S1x2048x128 .bf16) (j : Fin N) (e : Fin 256) (hj : (j : ℕ) < 2048) :
    vw.readCov (Val := Elt Ideal) [⟨Rect.unit ![0, 128] ![2048, 128] inb_S2048x256_S2048x128_0_128, k1_pay3 (F := Ideal)⟩,
      ⟨Rect.unit ![0, 0] ![2048, 128] inb_S2048x256_S2048x128_0_0, k1_pay2 (F := Ideal) v⟩]
      (Rect.unit (s := S2048x256) ![0, 0] ![N, 256] inb).toLoadRect (ix2 j e) = vxG v (ix2 ⟨j, hj⟩ e) := by
  rw [View.readCov_eq_canon']
  have hidx : (Rect.unit (s := S2048x256) ![0, 0] ![N, 256] inb).toLoadRect.idx (ix2 j e) = ix2 ⟨j, hj⟩ e := by
    funext a
    match a with
    | ⟨0, _⟩ => exact Fin.ext (by show 0 + 1 * (j : ℕ) = j; omega)
    | ⟨1, _⟩ => exact Fin.ext (by show 0 + 1 * (e : ℕ) = e; omega)
  refine (congrArg (View.canon (Val := Elt Ideal) _) hidx).trans ?_
  canon_tiles x h
  case piece0 =>
    idx_vars x
    rw [ones_at]
    have h1' : (e : ℕ) = 128 + (x1 : ℕ) := h1
    unfold vxG
    rw [dif_neg (by show ¬ (e : ℕ) < 128; omega)]
    show _ = if (e : ℕ) = 128 then (1 : EReal) else 0
    by_cases hx : (x1 : ℕ) = 0
    · rw [if_pos hx, if_pos (by omega)]
    · rw [if_neg hx, if_neg (by omega)]
  case piece1 =>
    idx_vars x
    have h0' : (j : ℕ) = (x0 : ℕ) := h0
    have h1' : (e : ℕ) = (x1 : ℕ) := h1
    unfold vxG
    rw [dif_pos (by show (e : ℕ) < 128; omega)]
    pointwise [k1_pay2]
    exact congrArg v ((ix3_inj ..).2 ⟨rfl, Fin.ext h0'.symm, Fin.ext h1'.symm⟩)

/-- The scalar weight of the second component: real when the two vectors are. -/
theorem lam_at (a b : Vec Ideal S2x64 .f32) (ar br : Fin 2 → Fin 64 → ℝ) (ha : ∀ i x, a (ix2 i x) = (ar i x : EReal))
    (hb : ∀ i x, b (ix2 i x) = (br i x : EReal)) :
    k1_pay5 (F := Ideal) a b (ix2 0 0) = ((Real.exp (∑ x, ar 0 x * br 0 x) - Real.exp (∑ x, ar 1 x * br 1 x) + 13421773 / 67108864 : ℝ) : EReal) := by
  pointwise [k1_pay5]
  simp only [ha, hb, ← EReal.coe_mul, coe_sum]
  have c5 : Ideal.ofBits .f32 1045220557#32 = ((13421773 / 67108864 : ℝ) : EReal) := by
    simp [Ideal.ofBits, Ideal.ieee, -EReal.coe_mul]; norm_num
  rw [c5, Ideal.exp_coe, Ideal.exp_coe, ← EReal.coe_sub, ← EReal.coe_add]

/-- The bias of the diagonal tile, once for each component. -/
theorem pay6_at (w : Vec Ideal S1x1x256x256 .f32) (c : Fin 2) (r x : Fin 256) :
    k1_pay6 (F := Ideal) w (ix2 (srow c r) x) = w (ix4 0 0 r x) := by
  pointwise [k1_pay6]
  have hc := c.isLt
  have hr := r.isLt
  by_cases h : 256 * (c : ℕ) + (r : ℕ) < 256
  · rw [dif_pos h]
    exact congrArg w ((ix4_inj ..).2 ⟨rfl, rfl, Fin.ext (by show 256 * (c : ℕ) + (r : ℕ) = r; omega), rfl⟩)
  · rw [dif_neg h]
    exact congrArg w ((ix4_inj ..).2 ⟨rfl, rfl, Fin.ext (by show 256 * (c : ℕ) + (r : ℕ) - 256 = r; omega), rfl⟩)

/-- The bias of the tile before the diagonal, once for each component. -/
theorem pay7_at (w : Vec Ideal S1x1x256x256 .f32) (c : Fin 2) (r x : Fin 256) :
    k1_pay7 (F := Ideal) w (ix2 (srow c r) x) = w (ix4 0 0 r x) := by
  pointwise [k1_pay7]
  have hc := c.isLt
  have hr := r.isLt
  by_cases h : 256 * (c : ℕ) + (r : ℕ) < 256
  · rw [dif_pos h]
    exact congrArg w ((ix4_inj ..).2 ⟨rfl, rfl, Fin.ext (by show 256 * (c : ℕ) + (r : ℕ) = r; omega), rfl⟩)
  · rw [dif_neg h]
    exact congrArg w ((ix4_inj ..).2 ⟨rfl, rfl, Fin.ext (by show 256 * (c : ℕ) + (r : ℕ) - 256 = r; omega), rfl⟩)

end Cert.KernelIdeal.Attn
-- ==== Proof.Attn.Tile0.lean ====
module

public import proofs.«01_k».proof.Proof.Gen.KernelIdeal.Skeleton
public import proofs.«01_k».proof.Proof.Attn.Softmax
public import Idealize.ShloMosaic.Lib.Pointwise
public import proofs.«01_k».proof.Proof.Attn.Base

@[expose] public section

set_option maxRecDepth 16384

noncomputable section

namespace Cert.KernelIdeal.Attn
open Idealize.ShloMosaic Idealize.ShloMosaic.TcCoe Idealize.SL.Sem
open Cert.KernelIdeal Cert.KernelIdeal.Gen Cert.Attn

/-- Tile 0's stored probabilities. -/
def P0 (q : Vec Ideal S1x256x128 .bf16) (k : Vec Ideal S1x256x128 .bf16) (dg nr : FVec Ideal S512x256 .f32) : FVec Ideal S512x256 .bf16 :=
  k1_pay8 lanes k1_pay4 dg q k

/-- What tile 0 stores, from its probabilities and the values with their column of ones. -/
def F0 (lam : FVec Ideal S1x1 .f32) (p : FVec Ideal S512x256 .bf16) (vx : Vec Ideal S256x256 .bf16) (g : Vec Ideal S1x128 .f32) : FVec Ideal S256x128 .bf16 :=
  k1_pay25 lam p vx g

/-- Tile 0's rows, entry by entry. -/
theorem F0_at (lam : FVec Ideal S1x1 .f32) (p : FVec Ideal S512x256 .bf16) (vx : Vec Ideal S256x256 .bf16) (g : Vec Ideal S1x128 .f32)
    (r : Fin 256) (d : Fin 128) :
    F0 lam p vx g (ix2 r d) = fin (outRow (lam (ix2 0 0)) (fun r j => p (ix2 r j)) (fun j e => vx (ix2 j e)) r) g d := by
  pointwise [F0, k1_pay25]
  unfold fin outRow
  rfl

/-- Tile 0's row bound. -/
def M0 (q : Vec Ideal S1x256x128 .bf16) (k : Vec Ideal S1x256x128 .bf16) (dg nr : FVec Ideal S512x256 .f32) (r : Fin 512) : EReal :=
  (Finset.fold max ⊥ (fun x : Fin 256 => sc q (fun j x => k (ix3 0 j x)) r x + dg (ix2 r x)) Finset.univ)

/-- Tile 0's probabilities, entry by entry. -/
theorem P0_at (q : Vec Ideal S1x256x128 .bf16) (k : Vec Ideal S1x256x128 .bf16) (dg nr : FVec Ideal S512x256 .f32) (r : Fin 512) (j : Fin 256) :
    P0 q k dg nr (ix2 r j) = Ideal.exp2 (lg q (fun j x => k (ix3 0 j x)) dg nr r j - M0 q k dg nr r) := by
  pointwise [P0, k1_pay4, k1_pay8]
  simp only [sel_lt, sel_ge, neg_inf, zero_bf16]
  unfold lg
  have hj := j.isLt
  rw [dif_neg (show ¬ (j : ℕ) + 512 < 256 by omega), dif_neg (show ¬ (j : ℕ) + 256 < 256 by omega)]
  have e2 : (⟨(j : ℕ) + 256 - 256, by omega⟩ : Fin 256) = j := Fin.ext (by show (j : ℕ) + 256 - 256 = j; omega)
  simp only [e2]
  unfold M0 sc qm; rfl

/-- Tile 0's probabilities are its logits' exponentials up to a factor per row. -/
theorem probs0 (q : Vec Ideal S1x256x128 .bf16) (k : Vec Ideal S1x256x128 .bf16) (dg nr : FVec Ideal S512x256 .f32) :
    IsProbs (fun r j => P0 q k dg nr (ix2 r j)) (lg q (fun j x => k (ix3 0 j x)) dg nr) :=
  ⟨M0 q k dg nr, P0_at q k dg nr,
   fun r => (bound1 q (fun j x => k (ix3 0 j x)) dg nr r _ rfl).1,
   fun r => (bound1 q (fun j x => k (ix3 0 j x)) dg nr r _ rfl).2⟩

end Cert.KernelIdeal.Attn
-- ==== Proof.Attn.Tile1.lean ====
module

public import proofs.«01_k».proof.Proof.Gen.KernelIdeal.Skeleton
public import proofs.«01_k».proof.Proof.Attn.Softmax
public import Idealize.ShloMosaic.Lib.Pointwise
public import proofs.«01_k».proof.Proof.Attn.Base

@[expose] public section

set_option maxRecDepth 16384

noncomputable section

namespace Cert.KernelIdeal.Attn
open Idealize.ShloMosaic Idealize.ShloMosaic.TcCoe Idealize.SL.Sem
open Cert.KernelIdeal Cert.KernelIdeal.Gen Cert.Attn

/-- Tile 1's stored probabilities. -/
def P1 (q : Vec Ideal S1x256x128 .bf16) (k : Vec Ideal S1x512x128 .bf16) (dg nr : FVec Ideal S512x256 .f32) : FVec Ideal S512x512 .bf16 :=
  k1_pay15 (k1_pay12 lanes k1_pay4 dg q k) (k1_pay13 lanes k1_pay4 nr q k) (k1_pay14 lanes k1_pay4 nr q k)

/-- What tile 1 stores, from its probabilities and the values with their column of ones. -/
def F1 (lam : FVec Ideal S1x1 .f32) (p : FVec Ideal S512x512 .bf16) (vx : Vec Ideal S512x256 .bf16) (g : Vec Ideal S1x128 .f32) : FVec Ideal S256x128 .bf16 :=
  k1_pay30 (k1_pay29 lam p vx) g

/-- Tile 1's rows, entry by entry. -/
theorem F1_at (lam : FVec Ideal S1x1 .f32) (p : FVec Ideal S512x512 .bf16) (vx : Vec Ideal S512x256 .bf16) (g : Vec Ideal S1x128 .f32)
    (r : Fin 256) (d : Fin 128) :
    F1 lam p vx g (ix2 r d) = fin (outRow (lam (ix2 0 0)) (fun r j => p (ix2 r j)) (fun j e => vx (ix2 j e)) r) g d := by
  pointwise [F1, k1_pay29, k1_pay30]
  unfold fin outRow
  rfl

/-- Tile 1's row bound. -/
def M1 (q : Vec Ideal S1x256x128 .bf16) (k : Vec Ideal S1x512x128 .bf16) (dg nr : FVec Ideal S512x256 .f32) (r : Fin 512) : EReal :=
  (max (Finset.fold max ⊥ (fun x : Fin 256 => sc q (fun j x => k (ix3 0 j x)) r ⟨x, by omega⟩ + nr (ix2 r x)) Finset.univ)
      (Finset.fold max ⊥ (fun x : Fin 256 => sc q (fun j x => k (ix3 0 j x)) r ⟨256 + x, by omega⟩ + dg (ix2 r x)) Finset.univ))

/-- Tile 1's probabilities, entry by entry. -/
theorem P1_at (q : Vec Ideal S1x256x128 .bf16) (k : Vec Ideal S1x512x128 .bf16) (dg nr : FVec Ideal S512x256 .f32) (r : Fin 512) (j : Fin 512) :
    P1 q k dg nr (ix2 r j) = Ideal.exp2 (lg q (fun j x => k (ix3 0 j x)) dg nr r j - M1 q k dg nr r) := by
  pointwise [P1, k1_pay11, k1_pay12, k1_pay13, k1_pay14, k1_pay15, k1_pay4]
  simp only [sel_lt, sel_ge, neg_inf, zero_bf16]
  unfold lg
  have hj := j.isLt
  rw [dif_neg (show ¬ (j : ℕ) + 512 < 512 by omega)]
  by_cases h2 : (j : ℕ) < 256
  · rw [dif_pos h2, dif_pos (show (j : ℕ) + 256 < 512 by omega)]
    have e2 : (⟨(j : ℕ), by omega⟩ : Fin 256) = ⟨(j : ℕ) + 512 - 512, by omega⟩ := Fin.ext (by show (j : ℕ) = (j : ℕ) + 512 - 512; omega)
    simp only [e2]
    unfold M1 sc qm; rfl
  · rw [dif_neg h2, dif_neg (show ¬ (j : ℕ) + 256 < 512 by omega)]
    have e : (⟨256 + ((j : ℕ) - 256), by omega⟩ : Fin 512) = j := Fin.ext (by show 256 + ((j : ℕ) - 256) = j; omega)
    have e2 : (⟨(j : ℕ) - 256, by omega⟩ : Fin 256) = ⟨(j : ℕ) + 256 - 512, by omega⟩ := Fin.ext (by show (j : ℕ) - 256 = (j : ℕ) + 256 - 512; omega)
    simp only [e, e2]
    unfold M1 sc qm; rfl

/-- Tile 1's probabilities are its logits' exponentials up to a factor per row. -/
theorem probs1 (q : Vec Ideal S1x256x128 .bf16) (k : Vec Ideal S1x512x128 .bf16) (dg nr : FVec Ideal S512x256 .f32) :
    IsProbs (fun r j => P1 q k dg nr (ix2 r j)) (lg q (fun j x => k (ix3 0 j x)) dg nr) :=
  ⟨M1 q k dg nr, P1_at q k dg nr,
   fun r => (bound2 q (fun j x => k (ix3 0 j x)) dg nr r _ rfl).1,
   fun r => (bound2 q (fun j x => k (ix3 0 j x)) dg nr r _ rfl).2⟩

end Cert.KernelIdeal.Attn
-- ==== Proof.Attn.Tile2.lean ====
module

public import proofs.«01_k».proof.Proof.Gen.KernelIdeal.Skeleton
public import proofs.«01_k».proof.Proof.Attn.Softmax
public import Idealize.ShloMosaic.Lib.Pointwise
public import proofs.«01_k».proof.Proof.Attn.Base

@[expose] public section

set_option maxRecDepth 16384

noncomputable section

namespace Cert.KernelIdeal.Attn
open Idealize.ShloMosaic Idealize.ShloMosaic.TcCoe Idealize.SL.Sem
open Cert.KernelIdeal Cert.KernelIdeal.Gen Cert.Attn

/-- Tile 2's stored probabilities. -/
def P2 (q : Vec Ideal S1x256x128 .bf16) (k : Vec Ideal S1x768x128 .bf16) (dg nr : FVec Ideal S512x256 .f32) : FVec Ideal S512x768 .bf16 :=
  k1_pay43 (k1_pay40 lanes k1_pay4 dg nr q k) (k1_pay41 lanes k1_pay4 dg nr q k) (k1_pay42 lanes k1_pay4 dg nr q k)

/-- What tile 2 stores, from its probabilities and the values with their column of ones. -/
def F2 (lam : FVec Ideal S1x1 .f32) (p : FVec Ideal S512x768 .bf16) (vx : Vec Ideal S768x256 .bf16) (g : Vec Ideal S1x128 .f32) : FVec Ideal S256x128 .bf16 :=
  k1_pay51 (k1_pay49 lam p vx) (k1_pay50 g)

/-- Tile 2's rows, entry by entry. -/
theorem F2_at (lam : FVec Ideal S1x1 .f32) (p : FVec Ideal S512x768 .bf16) (vx : Vec Ideal S768x256 .bf16) (g : Vec Ideal S1x128 .f32)
    (r : Fin 256) (d : Fin 128) :
    F2 lam p vx g (ix2 r d) = fin (outRow (lam (ix2 0 0)) (fun r j => p (ix2 r j)) (fun j e => vx (ix2 j e)) r) g d := by
  pointwise [F2, k1_pay49, k1_pay50, k1_pay51]
  unfold fin outRow
  rfl

/-- Tile 2's row bound. -/
def M2 (q : Vec Ideal S1x256x128 .bf16) (k : Vec Ideal S1x768x128 .bf16) (dg nr : FVec Ideal S512x256 .f32) (r : Fin 512) : EReal :=
  (max (max (Finset.fold max ⊥ (fun x : Fin 256 => sc q (fun j x => k (ix3 0 j x)) r ⟨x, by omega⟩) Finset.univ)
      (Finset.fold max ⊥ (fun x : Fin 256 => sc q (fun j x => k (ix3 0 j x)) r ⟨256 + x, by omega⟩ + nr (ix2 r x)) Finset.univ))
      (Finset.fold max ⊥ (fun x : Fin 256 => sc q (fun j x => k (ix3 0 j x)) r ⟨512 + x, by omega⟩ + dg (ix2 r x)) Finset.univ))

/-- Tile 2's probabilities, entry by entry. -/
theorem P2_at (q : Vec Ideal S1x256x128 .bf16) (k : Vec Ideal S1x768x128 .bf16) (dg nr : FVec Ideal S512x256 .f32) (r : Fin 512) (j : Fin 768) :
    P2 q k dg nr (ix2 r j) = Ideal.exp2 (lg q (fun j x => k (ix3 0 j x)) dg nr r j - M2 q k dg nr r) := by
  pointwise [P2, k1_pay35, k1_pay36, k1_pay37, k1_pay38, k1_pay39, k1_pay4, k1_pay40, k1_pay41, k1_pay42, k1_pay43]
  simp only [sel_lt, sel_ge, neg_inf, zero_bf16]
  unfold lg
  have hj := j.isLt
  by_cases h1 : (j : ℕ) < 256
  · rw [dif_pos h1, dif_pos (show (j : ℕ) + 512 < 768 by omega)]
    unfold M2 sc qm; rfl
  rw [dif_neg h1, dif_neg (show ¬ (j : ℕ) + 512 < 768 by omega)]
  by_cases h2 : (j : ℕ) - 256 < 256
  · rw [dif_pos h2, dif_pos (show (j : ℕ) + 256 < 768 by omega)]
    have e : (⟨256 + ((j : ℕ) - 256), by omega⟩ : Fin 768) = j := Fin.ext (by show 256 + ((j : ℕ) - 256) = j; omega)
    have e2 : (⟨(j : ℕ) - 256, by omega⟩ : Fin 256) = ⟨(j : ℕ) + 512 - 768, by omega⟩ := Fin.ext (by show (j : ℕ) - 256 = (j : ℕ) + 512 - 768; omega)
    simp only [e, e2]
    unfold M2 sc qm; rfl
  · rw [dif_neg h2, dif_neg (show ¬ (j : ℕ) + 256 < 768 by omega)]
    have e : (⟨512 + ((j : ℕ) - 256 - 256), by omega⟩ : Fin 768) = j := Fin.ext (by show 512 + ((j : ℕ) - 256 - 256) = j; omega)
    have e2 : (⟨(j : ℕ) - 256 - 256, by omega⟩ : Fin 256) = ⟨(j : ℕ) + 256 - 768, by omega⟩ := Fin.ext (by show (j : ℕ) - 256 - 256 = (j : ℕ) + 256 - 768; omega)
    simp only [e, e2]
    unfold M2 sc qm; rfl

/-- Tile 2's probabilities are its logits' exponentials up to a factor per row. -/
theorem probs2 (q : Vec Ideal S1x256x128 .bf16) (k : Vec Ideal S1x768x128 .bf16) (dg nr : FVec Ideal S512x256 .f32) :
    IsProbs (fun r j => P2 q k dg nr (ix2 r j)) (lg q (fun j x => k (ix3 0 j x)) dg nr) :=
  ⟨M2 q k dg nr, P2_at q k dg nr,
   fun r => (bound3 q (fun j x => k (ix3 0 j x)) dg nr r 256 rfl _ rfl).1,
   fun r => (bound3 q (fun j x => k (ix3 0 j x)) dg nr r 256 rfl _ rfl).2⟩

end Cert.KernelIdeal.Attn
-- ==== Proof.Attn.Tile3.lean ====
module

public import proofs.«01_k».proof.Proof.Gen.KernelIdeal.Skeleton
public import proofs.«01_k».proof.Proof.Attn.Softmax
public import Idealize.ShloMosaic.Lib.Pointwise
public import proofs.«01_k».proof.Proof.Attn.Base

@[expose] public section

set_option maxRecDepth 16384

noncomputable section

namespace Cert.KernelIdeal.Attn
open Idealize.ShloMosaic Idealize.ShloMosaic.TcCoe Idealize.SL.Sem
open Cert.KernelIdeal Cert.KernelIdeal.Gen Cert.Attn

/-- Tile 3's stored probabilities. -/
def P3 (q : Vec Ideal S1x256x128 .bf16) (k : Vec Ideal S1x1024x128 .bf16) (dg nr : FVec Ideal S512x256 .f32) : FVec Ideal S512x1024 .bf16 :=
  k1_pay46 lanes k1_pay4 dg nr (k1_pay45 q) (64#32) k

/-- What tile 3 stores, from its probabilities and the values with their column of ones. -/
def F3 (lam : FVec Ideal S1x1 .f32) (p : FVec Ideal S512x1024 .bf16) (vx : Vec Ideal S1024x256 .bf16) (g : Vec Ideal S1x128 .f32) : FVec Ideal S256x128 .bf16 :=
  k1_pay55 lam p vx g

/-- Tile 3's rows, entry by entry. -/
theorem F3_at (lam : FVec Ideal S1x1 .f32) (p : FVec Ideal S512x1024 .bf16) (vx : Vec Ideal S1024x256 .bf16) (g : Vec Ideal S1x128 .f32)
    (r : Fin 256) (d : Fin 128) :
    F3 lam p vx g (ix2 r d) = fin (outRow (lam (ix2 0 0)) (fun r j => p (ix2 r j)) (fun j e => vx (ix2 j e)) r) g d := by
  pointwise [F3, k1_pay55]
  unfold fin outRow
  rfl

/-- Tile 3's row bound. -/
def M3 (q : Vec Ideal S1x256x128 .bf16) (k : Vec Ideal S1x1024x128 .bf16) (dg nr : FVec Ideal S512x256 .f32) (r : Fin 512) : EReal :=
  (max (max (Finset.fold max ⊥ (fun x : Fin 512 => sc q (fun j x => k (ix3 0 j x)) r ⟨x, by omega⟩) Finset.univ)
      (Finset.fold max ⊥ (fun x : Fin 256 => sc q (fun j x => k (ix3 0 j x)) r ⟨512 + x, by omega⟩ + nr (ix2 r x)) Finset.univ))
      (Finset.fold max ⊥ (fun x : Fin 256 => sc q (fun j x => k (ix3 0 j x)) r ⟨768 + x, by omega⟩ + dg (ix2 r x)) Finset.univ))

/-- Tile 3's probabilities, entry by entry. -/
theorem P3_at (q : Vec Ideal S1x256x128 .bf16) (k : Vec Ideal S1x1024x128 .bf16) (dg nr : FVec Ideal S512x256 .f32) (r : Fin 512) (j : Fin 1024) :
    P3 q k dg nr (ix2 r j) = Ideal.exp2 (lg q (fun j x => k (ix3 0 j x)) dg nr r j - M3 q k dg nr r) := by
  pointwise [P3, k1_pay4, k1_pay45, k1_pay46]
  simp only [sel_lt, sel_ge, neg_inf, zero_bf16]
  unfold lg
  have hj := j.isLt
  by_cases h1 : (j : ℕ) < 512
  · rw [dif_pos h1, dif_pos (show (j : ℕ) + 512 < 1024 by omega)]
    unfold M3 sc qm; rfl
  rw [dif_neg h1, dif_neg (show ¬ (j : ℕ) + 512 < 1024 by omega)]
  by_cases h2 : (j : ℕ) - 512 < 256
  · rw [dif_pos h2, dif_pos (show (j : ℕ) + 256 < 1024 by omega)]
    have e : (⟨512 + ((j : ℕ) - 512), by omega⟩ : Fin 1024) = j := Fin.ext (by show 512 + ((j : ℕ) - 512) = j; omega)
    have e2 : (⟨(j : ℕ) - 512, by omega⟩ : Fin 256) = ⟨(j : ℕ) + 512 - 1024, by omega⟩ := Fin.ext (by show (j : ℕ) - 512 = (j : ℕ) + 512 - 1024; omega)
    simp only [e, e2]
    unfold M3 sc qm; rfl
  · rw [dif_neg h2, dif_neg (show ¬ (j : ℕ) + 256 < 1024 by omega)]
    have e : (⟨768 + ((j : ℕ) - 512 - 256), by omega⟩ : Fin 1024) = j := Fin.ext (by show 768 + ((j : ℕ) - 512 - 256) = j; omega)
    have e2 : (⟨(j : ℕ) - 512 - 256, by omega⟩ : Fin 256) = ⟨(j : ℕ) + 256 - 1024, by omega⟩ := Fin.ext (by show (j : ℕ) - 512 - 256 = (j : ℕ) + 256 - 1024; omega)
    simp only [e, e2]
    unfold M3 sc qm; rfl

/-- Tile 3's probabilities are its logits' exponentials up to a factor per row. -/
theorem probs3 (q : Vec Ideal S1x256x128 .bf16) (k : Vec Ideal S1x1024x128 .bf16) (dg nr : FVec Ideal S512x256 .f32) :
    IsProbs (fun r j => P3 q k dg nr (ix2 r j)) (lg q (fun j x => k (ix3 0 j x)) dg nr) :=
  ⟨M3 q k dg nr, P3_at q k dg nr,
   fun r => (bound3 q (fun j x => k (ix3 0 j x)) dg nr r 512 rfl _ rfl).1,
   fun r => (bound3 q (fun j x => k (ix3 0 j x)) dg nr r 512 rfl _ rfl).2⟩

end Cert.KernelIdeal.Attn
-- ==== Proof.Attn.Tile4.lean ====
module

public import proofs.«01_k».proof.Proof.Gen.KernelIdeal.Skeleton
public import proofs.«01_k».proof.Proof.Attn.Softmax
public import Idealize.ShloMosaic.Lib.Pointwise
public import proofs.«01_k».proof.Proof.Attn.Base

@[expose] public section

set_option maxRecDepth 16384

noncomputable section

namespace Cert.KernelIdeal.Attn
open Idealize.ShloMosaic Idealize.ShloMosaic.TcCoe Idealize.SL.Sem
open Cert.KernelIdeal Cert.KernelIdeal.Gen Cert.Attn

/-- Tile 4's stored probabilities. -/
def P4 (q : Vec Ideal S1x256x128 .bf16) (k : Vec Ideal S1x1280x128 .bf16) (dg nr : FVec Ideal S512x256 .f32) : FVec Ideal S512x1280 .bf16 :=
  k1_pay48 dg nr (k1_pay47 lanes k1_pay4 q) k

/-- What tile 4 stores, from its probabilities and the values with their column of ones. -/
def F4 (lam : FVec Ideal S1x1 .f32) (p : FVec Ideal S512x1280 .bf16) (vx : Vec Ideal S1280x256 .bf16) (g : Vec Ideal S1x128 .f32) : FVec Ideal S256x128 .bf16 :=
  k1_pay1 lam p vx g

/-- Tile 4's rows, entry by entry. -/
theorem F4_at (lam : FVec Ideal S1x1 .f32) (p : FVec Ideal S512x1280 .bf16) (vx : Vec Ideal S1280x256 .bf16) (g : Vec Ideal S1x128 .f32)
    (r : Fin 256) (d : Fin 128) :
    F4 lam p vx g (ix2 r d) = fin (outRow (lam (ix2 0 0)) (fun r j => p (ix2 r j)) (fun j e => vx (ix2 j e)) r) g d := by
  pointwise [F4, k1_pay1]
  unfold fin outRow
  rfl

/-- Tile 4's row bound. -/
def M4 (q : Vec Ideal S1x256x128 .bf16) (k : Vec Ideal S1x1280x128 .bf16) (dg nr : FVec Ideal S512x256 .f32) (r : Fin 512) : EReal :=
  (max (max (Finset.fold max ⊥ (fun x : Fin 768 => sc q (fun j x => k (ix3 0 j x)) r ⟨x, by omega⟩) Finset.univ)
      (Finset.fold max ⊥ (fun x : Fin 256 => sc q (fun j x => k (ix3 0 j x)) r ⟨768 + x, by omega⟩ + nr (ix2 r x)) Finset.univ))
      (Finset.fold max ⊥ (fun x : Fin 256 => sc q (fun j x => k (ix3 0 j x)) r ⟨1024 + x, by omega⟩ + dg (ix2 r x)) Finset.univ))

/-- Tile 4's probabilities, entry by entry. -/
theorem P4_at (q : Vec Ideal S1x256x128 .bf16) (k : Vec Ideal S1x1280x128 .bf16) (dg nr : FVec Ideal S512x256 .f32) (r : Fin 512) (j : Fin 1280) :
    P4 q k dg nr (ix2 r j) = Ideal.exp2 (lg q (fun j x => k (ix3 0 j x)) dg nr r j - M4 q k dg nr r) := by
  pointwise [P4, k1_pay4, k1_pay47, k1_pay48]
  simp only [sel_lt, sel_ge, neg_inf, zero_bf16]
  unfold lg
  have hj := j.isLt
  by_cases h1 : (j : ℕ) < 768
  · rw [dif_pos h1, dif_pos (show (j : ℕ) + 512 < 1280 by omega)]
    unfold M4 sc qm; rfl
  rw [dif_neg h1, dif_neg (show ¬ (j : ℕ) + 512 < 1280 by omega)]
  by_cases h2 : (j : ℕ) - 768 < 256
  · rw [dif_pos h2, dif_pos (show (j : ℕ) + 256 < 1280 by omega)]
    have e : (⟨768 + ((j : ℕ) - 768), by omega⟩ : Fin 1280) = j := Fin.ext (by show 768 + ((j : ℕ) - 768) = j; omega)
    have e2 : (⟨(j : ℕ) - 768, by omega⟩ : Fin 256) = ⟨(j : ℕ) + 512 - 1280, by omega⟩ := Fin.ext (by show (j : ℕ) - 768 = (j : ℕ) + 512 - 1280; omega)
    simp only [e, e2]
    unfold M4 sc qm; rfl
  · rw [dif_neg h2, dif_neg (show ¬ (j : ℕ) + 256 < 1280 by omega)]
    have e : (⟨1024 + ((j : ℕ) - 768 - 256), by omega⟩ : Fin 1280) = j := Fin.ext (by show 1024 + ((j : ℕ) - 768 - 256) = j; omega)
    have e2 : (⟨(j : ℕ) - 768 - 256, by omega⟩ : Fin 256) = ⟨(j : ℕ) + 256 - 1280, by omega⟩ := Fin.ext (by show (j : ℕ) - 768 - 256 = (j : ℕ) + 256 - 1280; omega)
    simp only [e, e2]
    unfold M4 sc qm; rfl

/-- Tile 4's probabilities are its logits' exponentials up to a factor per row. -/
theorem probs4 (q : Vec Ideal S1x256x128 .bf16) (k : Vec Ideal S1x1280x128 .bf16) (dg nr : FVec Ideal S512x256 .f32) :
    IsProbs (fun r j => P4 q k dg nr (ix2 r j)) (lg q (fun j x => k (ix3 0 j x)) dg nr) :=
  ⟨M4 q k dg nr, P4_at q k dg nr,
   fun r => (bound3 q (fun j x => k (ix3 0 j x)) dg nr r 768 rfl _ rfl).1,
   fun r => (bound3 q (fun j x => k (ix3 0 j x)) dg nr r 768 rfl _ rfl).2⟩

end Cert.KernelIdeal.Attn
-- ==== Proof.Attn.Tile5.lean ====
module

public import proofs.«01_k».proof.Proof.Gen.KernelIdeal.Skeleton
public import proofs.«01_k».proof.Proof.Attn.Softmax
public import Idealize.ShloMosaic.Lib.Pointwise
public import proofs.«01_k».proof.Proof.Attn.Base

@[expose] public section

set_option maxRecDepth 16384

noncomputable section

namespace Cert.KernelIdeal.Attn
open Idealize.ShloMosaic Idealize.ShloMosaic.TcCoe Idealize.SL.Sem
open Cert.KernelIdeal Cert.KernelIdeal.Gen Cert.Attn

/-- Tile 5's stored probabilities. -/
def P5 (q : Vec Ideal S1x256x128 .bf16) (k : Vec Ideal S1x1536x128 .bf16) (dg nr : FVec Ideal S512x256 .f32) : FVec Ideal S512x1536 .bf16 :=
  k1_pay44 lanes k1_pay4 dg nr q k

/-- What tile 5 stores, from its probabilities and the values with their column of ones. -/
def F5 (lam : FVec Ideal S1x1 .f32) (p : FVec Ideal S512x1536 .bf16) (vx : Vec Ideal S1536x256 .bf16) (g : Vec Ideal S1x128 .f32) : FVec Ideal S256x128 .bf16 :=
  k1_pay54 (k1_pay52 g) (k1_pay53 lam p vx)

/-- Tile 5's rows, entry by entry. -/
theorem F5_at (lam : FVec Ideal S1x1 .f32) (p : FVec Ideal S512x1536 .bf16) (vx : Vec Ideal S1536x256 .bf16) (g : Vec Ideal S1x128 .f32)
    (r : Fin 256) (d : Fin 128) :
    F5 lam p vx g (ix2 r d) = fin (outRow (lam (ix2 0 0)) (fun r j => p (ix2 r j)) (fun j e => vx (ix2 j e)) r) g d := by
  pointwise [F5, k1_pay52, k1_pay53, k1_pay54]
  unfold fin outRow
  rfl

/-- Tile 5's row bound. -/
def M5 (q : Vec Ideal S1x256x128 .bf16) (k : Vec Ideal S1x1536x128 .bf16) (dg nr : FVec Ideal S512x256 .f32) (r : Fin 512) : EReal :=
  (max (max (Finset.fold max ⊥ (fun x : Fin 1024 => sc q (fun j x => k (ix3 0 j x)) r ⟨x, by omega⟩) Finset.univ)
      (Finset.fold max ⊥ (fun x : Fin 256 => sc q (fun j x => k (ix3 0 j x)) r ⟨1024 + x, by omega⟩ + nr (ix2 r x)) Finset.univ))
      (Finset.fold max ⊥ (fun x : Fin 256 => sc q (fun j x => k (ix3 0 j x)) r ⟨1280 + x, by omega⟩ + dg (ix2 r x)) Finset.univ))

/-- Tile 5's probabilities, entry by entry. -/
theorem P5_at (q : Vec Ideal S1x256x128 .bf16) (k : Vec Ideal S1x1536x128 .bf16) (dg nr : FVec Ideal S512x256 .f32) (r : Fin 512) (j : Fin 1536) :
    P5 q k dg nr (ix2 r j) = Ideal.exp2 (lg q (fun j x => k (ix3 0 j x)) dg nr r j - M5 q k dg nr r) := by
  pointwise [P5, k1_pay4, k1_pay44]
  simp only [sel_lt, sel_ge, neg_inf, zero_bf16]
  unfold lg
  have hj := j.isLt
  by_cases h1 : (j : ℕ) < 1024
  · rw [dif_pos h1, dif_pos (show (j : ℕ) + 512 < 1536 by omega)]
    unfold M5 sc qm; rfl
  rw [dif_neg h1, dif_neg (show ¬ (j : ℕ) + 512 < 1536 by omega)]
  by_cases h2 : (j : ℕ) - 1024 < 256
  · rw [dif_pos h2, dif_pos (show (j : ℕ) + 256 < 1536 by omega)]
    have e : (⟨1024 + ((j : ℕ) - 1024), by omega⟩ : Fin 1536) = j := Fin.ext (by show 1024 + ((j : ℕ) - 1024) = j; omega)
    have e2 : (⟨(j : ℕ) - 1024, by omega⟩ : Fin 256) = ⟨(j : ℕ) + 512 - 1536, by omega⟩ := Fin.ext (by show (j : ℕ) - 1024 = (j : ℕ) + 512 - 1536; omega)
    simp only [e, e2]
    unfold M5 sc qm; rfl
  · rw [dif_neg h2, dif_neg (show ¬ (j : ℕ) + 256 < 1536 by omega)]
    have e : (⟨1280 + ((j : ℕ) - 1024 - 256), by omega⟩ : Fin 1536) = j := Fin.ext (by show 1280 + ((j : ℕ) - 1024 - 256) = j; omega)
    have e2 : (⟨(j : ℕ) - 1024 - 256, by omega⟩ : Fin 256) = ⟨(j : ℕ) + 256 - 1536, by omega⟩ := Fin.ext (by show (j : ℕ) - 1024 - 256 = (j : ℕ) + 256 - 1536; omega)
    simp only [e, e2]
    unfold M5 sc qm; rfl

/-- Tile 5's probabilities are its logits' exponentials up to a factor per row. -/
theorem probs5 (q : Vec Ideal S1x256x128 .bf16) (k : Vec Ideal S1x1536x128 .bf16) (dg nr : FVec Ideal S512x256 .f32) :
    IsProbs (fun r j => P5 q k dg nr (ix2 r j)) (lg q (fun j x => k (ix3 0 j x)) dg nr) :=
  ⟨M5 q k dg nr, P5_at q k dg nr,
   fun r => (bound3 q (fun j x => k (ix3 0 j x)) dg nr r 1024 rfl _ rfl).1,
   fun r => (bound3 q (fun j x => k (ix3 0 j x)) dg nr r 1024 rfl _ rfl).2⟩

end Cert.KernelIdeal.Attn
-- ==== Proof.Attn.Tile6.lean ====
module

public import proofs.«01_k».proof.Proof.Gen.KernelIdeal.Skeleton
public import proofs.«01_k».proof.Proof.Attn.Softmax
public import Idealize.ShloMosaic.Lib.Pointwise
public import proofs.«01_k».proof.Proof.Attn.Base

@[expose] public section

set_option maxRecDepth 16384

noncomputable section

namespace Cert.KernelIdeal.Attn
open Idealize.ShloMosaic Idealize.ShloMosaic.TcCoe Idealize.SL.Sem
open Cert.KernelIdeal Cert.KernelIdeal.Gen Cert.Attn

/-- Tile 6's stored probabilities. -/
def P6 (q : Vec Ideal S1x256x128 .bf16) (k : Vec Ideal S1x1792x128 .bf16) (dg nr : FVec Ideal S512x256 .f32) : FVec Ideal S512x1792 .bf16 :=
  k1_pay24 (k1_pay17 lanes k1_pay4 dg q k) (k1_pay21 lanes k1_pay4 dg nr q k) (k1_pay22 lanes k1_pay4 dg nr q k) (k1_pay23 lanes k1_pay4 dg nr q k)

/-- What tile 6 stores, from its probabilities and the values with their column of ones. -/
def F6 (lam : FVec Ideal S1x1 .f32) (p : FVec Ideal S512x1792 .bf16) (vx : Vec Ideal S1792x256 .bf16) (g : Vec Ideal S1x128 .f32) : FVec Ideal S256x128 .bf16 :=
  k1_pay34 (k1_pay31 lam p vx) (k1_pay32 g) (k1_pay33 lam p vx)

/-- Tile 6's rows, entry by entry. -/
theorem F6_at (lam : FVec Ideal S1x1 .f32) (p : FVec Ideal S512x1792 .bf16) (vx : Vec Ideal S1792x256 .bf16) (g : Vec Ideal S1x128 .f32)
    (r : Fin 256) (d : Fin 128) :
    F6 lam p vx g (ix2 r d) = fin (outRow (lam (ix2 0 0)) (fun r j => p (ix2 r j)) (fun j e => vx (ix2 j e)) r) g d := by
  pointwise [F6, k1_pay31, k1_pay32, k1_pay33, k1_pay34]
  unfold fin outRow
  rfl

/-- Tile 6's row bound. -/
def M6 (q : Vec Ideal S1x256x128 .bf16) (k : Vec Ideal S1x1792x128 .bf16) (dg nr : FVec Ideal S512x256 .f32) (r : Fin 512) : EReal :=
  (max (max (Finset.fold max ⊥ (fun x : Fin 1280 => sc q (fun j x => k (ix3 0 j x)) r ⟨x, by omega⟩) Finset.univ)
      (Finset.fold max ⊥ (fun x : Fin 256 => sc q (fun j x => k (ix3 0 j x)) r ⟨1280 + x, by omega⟩ + nr (ix2 r x)) Finset.univ))
      (Finset.fold max ⊥ (fun x : Fin 256 => sc q (fun j x => k (ix3 0 j x)) r ⟨1536 + x, by omega⟩ + dg (ix2 r x)) Finset.univ))

/-- Tile 6's probabilities, entry by entry. -/
theorem P6_at (q : Vec Ideal S1x256x128 .bf16) (k : Vec Ideal S1x1792x128 .bf16) (dg nr : FVec Ideal S512x256 .f32) (r : Fin 512) (j : Fin 1792) :
    P6 q k dg nr (ix2 r j) = Ideal.exp2 (lg q (fun j x => k (ix3 0 j x)) dg nr r j - M6 q k dg nr r) := by
  pointwise [P6, k1_pay16, k1_pay17, k1_pay18, k1_pay19, k1_pay20, k1_pay21, k1_pay22, k1_pay23, k1_pay24, k1_pay4]
  simp only [sel_lt, sel_ge, neg_inf, zero_bf16]
  unfold lg
  have hj := j.isLt
  by_cases h1 : (j : ℕ) < 1280
  · rw [dif_pos h1, dif_pos (show (j : ℕ) + 512 < 1792 by omega)]
    unfold M6 sc qm; rfl
  rw [dif_neg h1, dif_neg (show ¬ (j : ℕ) + 512 < 1792 by omega)]
  by_cases h2 : (j : ℕ) - 1280 < 256
  · rw [dif_pos h2, dif_pos (show (j : ℕ) + 256 < 1792 by omega)]
    have e : (⟨1280 + ((j : ℕ) - 1280), by omega⟩ : Fin 1792) = j := Fin.ext (by show 1280 + ((j : ℕ) - 1280) = j; omega)
    have e2 : (⟨(j : ℕ) - 1280, by omega⟩ : Fin 256) = ⟨(j : ℕ) + 512 - 1792, by omega⟩ := Fin.ext (by show (j : ℕ) - 1280 = (j : ℕ) + 512 - 1792; omega)
    simp only [e, e2]
    unfold M6 sc qm; rfl
  · rw [dif_neg h2, dif_neg (show ¬ (j : ℕ) + 256 < 1792 by omega)]
    have e : (⟨1536 + ((j : ℕ) - 1280 - 256), by omega⟩ : Fin 1792) = j := Fin.ext (by show 1536 + ((j : ℕ) - 1280 - 256) = j; omega)
    have e2 : (⟨(j : ℕ) - 1280 - 256, by omega⟩ : Fin 256) = ⟨(j : ℕ) + 256 - 1792, by omega⟩ := Fin.ext (by show (j : ℕ) - 1280 - 256 = (j : ℕ) + 256 - 1792; omega)
    simp only [e, e2]
    unfold M6 sc qm; rfl

/-- Tile 6's probabilities are its logits' exponentials up to a factor per row. -/
theorem probs6 (q : Vec Ideal S1x256x128 .bf16) (k : Vec Ideal S1x1792x128 .bf16) (dg nr : FVec Ideal S512x256 .f32) :
    IsProbs (fun r j => P6 q k dg nr (ix2 r j)) (lg q (fun j x => k (ix3 0 j x)) dg nr) :=
  ⟨M6 q k dg nr, P6_at q k dg nr,
   fun r => (bound3 q (fun j x => k (ix3 0 j x)) dg nr r 1280 rfl _ rfl).1,
   fun r => (bound3 q (fun j x => k (ix3 0 j x)) dg nr r 1280 rfl _ rfl).2⟩

end Cert.KernelIdeal.Attn
-- ==== Proof.Attn.Tile7.lean ====
module

public import proofs.«01_k».proof.Proof.Gen.KernelIdeal.Skeleton
public import proofs.«01_k».proof.Proof.Attn.Softmax
public import Idealize.ShloMosaic.Lib.Pointwise
public import proofs.«01_k».proof.Proof.Attn.Base

@[expose] public section

set_option maxRecDepth 16384

noncomputable section

namespace Cert.KernelIdeal.Attn
open Idealize.ShloMosaic Idealize.ShloMosaic.TcCoe Idealize.SL.Sem
open Cert.KernelIdeal Cert.KernelIdeal.Gen Cert.Attn

/-- Tile 7's stored probabilities. -/
def P7 (q : Vec Ideal S1x256x128 .bf16) (k : Vec Ideal S1x2048x128 .bf16) (dg nr : FVec Ideal S512x256 .f32) : FVec Ideal S512x2048 .bf16 :=
  k1_pay10 dg nr (k1_pay9 lanes k1_pay4 q k)

/-- What tile 7 stores, from its probabilities and the values with their column of ones. -/
def F7 (lam : FVec Ideal S1x1 .f32) (p : FVec Ideal S512x2048 .bf16) (vx : Vec Ideal S2048x256 .bf16) (g : Vec Ideal S1x128 .f32) : FVec Ideal S256x128 .bf16 :=
  k1_pay28 lam (k1_pay26 p vx) (k1_pay27 p vx) g

/-- Tile 7's rows, entry by entry. -/
theorem F7_at (lam : FVec Ideal S1x1 .f32) (p : FVec Ideal S512x2048 .bf16) (vx : Vec Ideal S2048x256 .bf16) (g : Vec Ideal S1x128 .f32)
    (r : Fin 256) (d : Fin 128) :
    F7 lam p vx g (ix2 r d) = fin (outRow (lam (ix2 0 0)) (fun r j => p (ix2 r j)) (fun j e => vx (ix2 j e)) r) g d := by
  pointwise [F7, k1_pay26, k1_pay27, k1_pay28]
  unfold fin outRow
  rfl

/-- Tile 7's row bound. -/
def M7 (q : Vec Ideal S1x256x128 .bf16) (k : Vec Ideal S1x2048x128 .bf16) (dg nr : FVec Ideal S512x256 .f32) (r : Fin 512) : EReal :=
  (max (max (Finset.fold max ⊥ (fun x : Fin 1536 => sc q (fun j x => k (ix3 0 j x)) r ⟨x, by omega⟩) Finset.univ)
      (Finset.fold max ⊥ (fun x : Fin 256 => sc q (fun j x => k (ix3 0 j x)) r ⟨1536 + x, by omega⟩ + nr (ix2 r x)) Finset.univ))
      (Finset.fold max ⊥ (fun x : Fin 256 => sc q (fun j x => k (ix3 0 j x)) r ⟨1792 + x, by omega⟩ + dg (ix2 r x)) Finset.univ))

/-- Tile 7's probabilities, entry by entry. -/
theorem P7_at (q : Vec Ideal S1x256x128 .bf16) (k : Vec Ideal S1x2048x128 .bf16) (dg nr : FVec Ideal S512x256 .f32) (r : Fin 512) (j : Fin 2048) :
    P7 q k dg nr (ix2 r j) = Ideal.exp2 (lg q (fun j x => k (ix3 0 j x)) dg nr r j - M7 q k dg nr r) := by
  pointwise [P7, k1_pay10, k1_pay4, k1_pay9]
  simp only [sel_lt, sel_ge, neg_inf, zero_bf16]
  unfold lg
  have hj := j.isLt
  by_cases h1 : (j : ℕ) < 1536
  · rw [dif_pos h1, dif_pos (show (j : ℕ) + 512 < 2048 by omega)]
    unfold M7 sc qm; rfl
  rw [dif_neg h1, dif_neg (show ¬ (j : ℕ) + 512 < 2048 by omega)]
  by_cases h2 : (j : ℕ) - 1536 < 256
  · rw [dif_pos h2, dif_pos (show (j : ℕ) + 256 < 2048 by omega)]
    have e : (⟨1536 + ((j : ℕ) - 1536), by omega⟩ : Fin 2048) = j := Fin.ext (by show 1536 + ((j : ℕ) - 1536) = j; omega)
    have e2 : (⟨(j : ℕ) - 1536, by omega⟩ : Fin 256) = ⟨(j : ℕ) + 512 - 2048, by omega⟩ := Fin.ext (by show (j : ℕ) - 1536 = (j : ℕ) + 512 - 2048; omega)
    simp only [e, e2]
    unfold M7 sc qm; rfl
  · rw [dif_neg h2, dif_neg (show ¬ (j : ℕ) + 256 < 2048 by omega)]
    have e : (⟨1792 + ((j : ℕ) - 1536 - 256), by omega⟩ : Fin 2048) = j := Fin.ext (by show 1792 + ((j : ℕ) - 1536 - 256) = j; omega)
    have e2 : (⟨(j : ℕ) - 1536 - 256, by omega⟩ : Fin 256) = ⟨(j : ℕ) + 256 - 2048, by omega⟩ := Fin.ext (by show (j : ℕ) - 1536 - 256 = (j : ℕ) + 256 - 2048; omega)
    simp only [e, e2]
    unfold M7 sc qm; rfl

/-- Tile 7's probabilities are its logits' exponentials up to a factor per row. -/
theorem probs7 (q : Vec Ideal S1x256x128 .bf16) (k : Vec Ideal S1x2048x128 .bf16) (dg nr : FVec Ideal S512x256 .f32) :
    IsProbs (fun r j => P7 q k dg nr (ix2 r j)) (lg q (fun j x => k (ix3 0 j x)) dg nr) :=
  ⟨M7 q k dg nr, P7_at q k dg nr,
   fun r => (bound3 q (fun j x => k (ix3 0 j x)) dg nr r 1536 rfl _ rfl).1,
   fun r => (bound3 q (fun j x => k (ix3 0 j x)) dg nr r 1536 rfl _ rfl).2⟩

end Cert.KernelIdeal.Attn
-- ==== Proof.Attn.Outs.lean ====
module

public import proofs.«01_k».proof.Proof.Attn.Sides
public import proofs.«01_k».proof.Proof.Attn.Tile0
public import proofs.«01_k».proof.Proof.Attn.Tile1
public import proofs.«01_k».proof.Proof.Attn.Tile2
public import proofs.«01_k».proof.Proof.Attn.Tile3
public import proofs.«01_k».proof.Proof.Attn.Tile4
public import proofs.«01_k».proof.Proof.Attn.Tile5
public import proofs.«01_k».proof.Proof.Attn.Tile6
public import proofs.«01_k».proof.Proof.Attn.Tile7

@[expose] public section

set_option maxRecDepth 16384

noncomputable section

namespace Cert.KernelIdeal.Attn
open Idealize.ShloMosaic Idealize.ShloMosaic.TcCoe Idealize.SL.Sem
open Cert.KernelIdeal Cert.KernelIdeal.Gen Cert.Attn

/-- A tile's queries, read off the block. -/
theorem ldq (off : ℕ) (inb : ∀ a, (![0, off, 0] : Fin 3 → ℕ) a + (![1, 256, 128] : Fin 3 → ℕ) a ≤ S1x2048x128.size a)
    (q : Vec Ideal S1x2048x128 .bf16) (r : Fin 256) (x : Fin 128) (h : off + (r : ℕ) < 2048) :
    View.ld (Val := Elt Ideal) (e' := .bf16) q (Rect.unit (s := S1x2048x128) ![0, off, 0] ![1, 256, 128] inb) (ix3 0 r x) = q (ix3 0 ⟨off + (r : ℕ), h⟩ x) := by
  refine congrArg q (funext fun a => ?_)
  match a with
  | ⟨0, _⟩ => exact Fin.ext (by show 0 + 1 * 0 = 0; omega)
  | ⟨1, _⟩ => exact Fin.ext (by show off + 1 * (r : ℕ) = off + (r : ℕ); omega)
  | ⟨2, _⟩ => exact Fin.ext (by show 0 + 1 * (x : ℕ) = x; omega)

/-- A tile's keys, read off the block. -/
theorem ldk (N : ℕ) (inb : ∀ a, (![0, 0, 0] : Fin 3 → ℕ) a + (![1, N, 128] : Fin 3 → ℕ) a ≤ S1x2048x128.size a)
    (q : Vec Ideal S1x2048x128 .bf16) (r : Fin N) (x : Fin 128) (h : (r : ℕ) < 2048) :
    View.ld (Val := Elt Ideal) (e' := .bf16) q (Rect.unit (s := S1x2048x128) ![0, 0, 0] ![1, N, 128] inb) (ix3 0 r x) = q (ix3 0 ⟨r, h⟩ x) := by
  refine congrArg q (funext fun a => ?_)
  match a with
  | ⟨0, _⟩ => exact Fin.ext (by show 0 + 1 * 0 = 0; omega)
  | ⟨1, _⟩ => exact Fin.ext (by show 0 + 1 * (r : ℕ) = (r : ℕ); omega)
  | ⟨2, _⟩ => exact Fin.ext (by show 0 + 1 * (x : ℕ) = x; omega)

/-- A tile's bias, read off the block of two. -/
theorem ldb (o : Fin 2) (inb : ∀ a, (![0, (o : ℕ), 0, 0] : Fin 4 → ℕ) a + (![1, 1, 256, 256] : Fin 4 → ℕ) a ≤ S1x2x256x256.size a)
    (b : Vec Ideal S1x2x256x256 .f32) (r x : Fin 256) :
    View.ld (Val := Elt Ideal) (e' := .f32) b (Rect.unit (s := S1x2x256x256) ![0, (o : ℕ), 0, 0] ![1, 1, 256, 256] inb) (ix4 0 0 r x) = b (ix4 0 o r x) := by
  refine congrArg b (funext fun a => ?_)
  match a with
  | ⟨0, _⟩ => exact Fin.ext (by show 0 + 1 * 0 = 0; omega)
  | ⟨1, _⟩ => exact Fin.ext (by show (o : ℕ) + 1 * 0 = o; omega)
  | ⟨2, _⟩ => exact Fin.ext (by show 0 + 1 * (r : ℕ) = r; omega)
  | ⟨3, _⟩ => exact Fin.ext (by show 0 + 1 * (x : ℕ) = x; omega)

variable (V : (c : Dev nD) → (b : Ref sig .tc) → Buf (Elt Ideal) ((c : Thread nD τ).loc b))

set_option maxHeartbeats 4000000 in
/-- What one run of the attention body leaves in its output block: the differential attention's rows, normalised. -/
theorem outs1 (c : Dev nD) (t : Fin cfg1.N) (y : S2048x128.Idx)
    (qr kr vr : Fin 2048 → Fin 128 → ℝ) (T : Fin 32 → ℝ) (lamr : ℝ)
    (hq : ∀ (i : Fin 2048) (x : Fin 128), (iblk1 V c 0 t : Vec Ideal S1x2048x128 .bf16) (ix3 0 i x) = (qr i x : EReal))
    (hk : ∀ (i : Fin 2048) (x : Fin 128), (iblk1 V c 1 t : Vec Ideal S1x2048x128 .bf16) (ix3 0 i x) = (kr i x : EReal))
    (hv : ∀ (i : Fin 2048) (x : Fin 128), (iblk1 V c 2 t : Vec Ideal S1x2048x128 .bf16) (ix3 0 i x) = (vr i x : EReal))
    (hd : ∀ r x : Fin 256, (iblk1 V c 3 t : Vec Ideal S1x2x256x256 .f32) (ix4 0 0 r x) =
      if (x : ℕ) ≤ (r : ℕ) then ((biasR T ((r : ℕ) - (x : ℕ)) : ℝ) : EReal) else ⊥)
    (hn : ∀ r x : Fin 256, (iblk1 V c 3 t : Vec Ideal S1x2x256x256 .f32) (ix4 0 1 r x) = ((biasR T (256 + (r : ℕ) - (x : ℕ)) : ℝ) : EReal))
    (hl : k1_pay5 (F := Ideal) (iblk1 V c 4 t) (iblk1 V c 5 t) (ix2 0 0) = (lamr : EReal)) :
    (outsAt1 V c t : Vec Ideal S2048x128 .bf16) y =
      fin (fun d => ((row qr kr vr T lamr (y 0) (y 0).isLt d : ℝ) : EReal)) (iblk1 V c 6 t : Vec Ideal S1x128 .f32) (y 1) := by
  conv_lhs => unfold outsAt1
  frame_out
  generalize (k1_pay5 _ _ : FVec Ideal S1x1 .f32) = lam at hl ⊢
  generalize (iblk1 V c 0 t : Vec Ideal S1x2048x128 .bf16) = q at hq ⊢
  generalize (iblk1 V c 1 t : Vec Ideal S1x2048x128 .bf16) = k at hk ⊢
  generalize (iblk1 V c 2 t : Vec Ideal S1x2048x128 .bf16) = v at hv ⊢
  generalize (iblk1 V c 3 t : Vec Ideal S1x2x256x256 .f32) = b at hd hn ⊢
  generalize (iblk1 V c 6 t : Vec Ideal S1x128 .f32) = g
  have vx0 : ∀ (i : Fin 2048) (d : Fin 128), vxG v (ix2 i ⟨d, dlt d⟩) = ((vr i d : ℝ) : EReal) := fun i d => by
    unfold vxG
    rw [dif_pos (show ((ix2 i (⟨d, dlt d⟩ : Fin 256) : S2048x256.Idx) 1 : ℕ) < 128 from d.isLt)]
    exact hv i d
  have vx1 : ∀ (i : Fin 2048), vxG v (ix2 i ⟨128, olt⟩) = 1 := fun i => rfl
  have hdg : ∀ (inb) (c : Fin 2) (r x : Fin 256), k1_pay6 (F := Ideal) (View.ld (Val := Elt Ideal) (e' := .f32) b (Rect.unit (s := S1x2x256x256) ![0, 0, 0, 0] ![1, 1, 256, 256] inb)) (ix2 (srow c r) x) =
      if (x : ℕ) ≤ (r : ℕ) then ((biasR T ((r : ℕ) - (x : ℕ)) : ℝ) : EReal) else ⊥ := fun inb c r x =>
    (pay6_at _ c r x).trans ((ldb 0 inb b r x).trans (hd r x))
  have hnr : ∀ (inb) (c : Fin 2) (r x : Fin 256), k1_pay7 (F := Ideal) (View.ld (Val := Elt Ideal) (e' := .f32) b (Rect.unit (s := S1x2x256x256) ![0, 1, 0, 0] ![1, 1, 256, 256] inb)) (ix2 (srow c r) x) =
      ((biasR T (256 + (r : ℕ) - (x : ℕ)) : ℝ) : EReal) := fun inb c r x =>
    (pay7_at _ c r x).trans ((ldb 1 inb b r x).trans (hn r x))
  canon_tiles x h
  case piece0 =>
    idx_vars x
    refine (F4_at _ (P4 _ _ _ _) _ _ x0 x1).trans ?_
    rw [hl]
    have e : y = ix2 ⟨1024 + (x0 : ℕ), by omega⟩ x1 := (eq_ix2 y).trans ((ix2_inj ..).2 ⟨Fin.ext (h0.trans (by show _ = 1024 + (x0 : ℕ); omega)), Fin.ext h1⟩)
    rw [e]
    exact congrArg (fun o => fin o g x1) (funext fun d => outRow_real (N := 1280) (by omega) (by omega) qr kr vr T _
      (fun r x => (ldq 1024 _ q r x (by omega)).trans (hq _ x)) _ (fun j x => (ldk 1280 _ k j x (by omega)).trans (hk _ x))
      _ _ (hdg _) (hnr _) _ (probs4 _ _ _ _) _ (fun j d => (vx_at _ 1280 _ v j _ (by omega)).trans (vx0 _ d))
      (fun j => (vx_at _ 1280 _ v j _ (by omega)).trans (vx1 _)) lamr x0 d)
  case piece1 =>
    idx_vars x
    refine (F3_at _ (P3 _ _ _ _) _ _ x0 x1).trans ?_
    rw [hl]
    have e : y = ix2 ⟨768 + (x0 : ℕ), by omega⟩ x1 := (eq_ix2 y).trans ((ix2_inj ..).2 ⟨Fin.ext (h0.trans (by show _ = 768 + (x0 : ℕ); omega)), Fin.ext h1⟩)
    rw [e]
    exact congrArg (fun o => fin o g x1) (funext fun d => outRow_real (N := 1024) (by omega) (by omega) qr kr vr T _
      (fun r x => (ldq 768 _ q r x (by omega)).trans (hq _ x)) _ (fun j x => (ldk 1024 _ k j x (by omega)).trans (hk _ x))
      _ _ (hdg _) (hnr _) _ (probs3 _ _ _ _) _ (fun j d => (vx_at _ 1024 _ v j _ (by omega)).trans (vx0 _ d))
      (fun j => (vx_at _ 1024 _ v j _ (by omega)).trans (vx1 _)) lamr x0 d)
  case piece2 =>
    idx_vars x
    refine (F5_at _ (P5 _ _ _ _) _ _ x0 x1).trans ?_
    rw [hl]
    have e : y = ix2 ⟨1280 + (x0 : ℕ), by omega⟩ x1 := (eq_ix2 y).trans ((ix2_inj ..).2 ⟨Fin.ext (h0.trans (by show _ = 1280 + (x0 : ℕ); omega)), Fin.ext h1⟩)
    rw [e]
    exact congrArg (fun o => fin o g x1) (funext fun d => outRow_real (N := 1536) (by omega) (by omega) qr kr vr T _
      (fun r x => (ldq 1280 _ q r x (by omega)).trans (hq _ x)) _ (fun j x => (ldk 1536 _ k j x (by omega)).trans (hk _ x))
      _ _ (hdg _) (hnr _) _ (probs5 _ _ _ _) _ (fun j d => (vx_at _ 1536 _ v j _ (by omega)).trans (vx0 _ d))
      (fun j => (vx_at _ 1536 _ v j _ (by omega)).trans (vx1 _)) lamr x0 d)
  case piece3 =>
    idx_vars x
    refine (F2_at _ (P2 _ _ _ _) _ _ x0 x1).trans ?_
    rw [hl]
    have e : y = ix2 ⟨512 + (x0 : ℕ), by omega⟩ x1 := (eq_ix2 y).trans ((ix2_inj ..).2 ⟨Fin.ext (h0.trans (by show _ = 512 + (x0 : ℕ); omega)), Fin.ext h1⟩)
    rw [e]
    exact congrArg (fun o => fin o g x1) (funext fun d => outRow_real (N := 768) (by omega) (by omega) qr kr vr T _
      (fun r x => (ldq 512 _ q r x (by omega)).trans (hq _ x)) _ (fun j x => (ldk 768 _ k j x (by omega)).trans (hk _ x))
      _ _ (hdg _) (hnr _) _ (probs2 _ _ _ _) _ (fun j d => (vx_at _ 768 _ v j _ (by omega)).trans (vx0 _ d))
      (fun j => (vx_at _ 768 _ v j _ (by omega)).trans (vx1 _)) lamr x0 d)
  case piece4 =>
    idx_vars x
    refine (F6_at _ (P6 _ _ _ _) _ _ x0 x1).trans ?_
    rw [hl]
    have e : y = ix2 ⟨1536 + (x0 : ℕ), by omega⟩ x1 := (eq_ix2 y).trans ((ix2_inj ..).2 ⟨Fin.ext (h0.trans (by show _ = 1536 + (x0 : ℕ); omega)), Fin.ext h1⟩)
    rw [e]
    exact congrArg (fun o => fin o g x1) (funext fun d => outRow_real (N := 1792) (by omega) (by omega) qr kr vr T _
      (fun r x => (ldq 1536 _ q r x (by omega)).trans (hq _ x)) _ (fun j x => (ldk 1792 _ k j x (by omega)).trans (hk _ x))
      _ _ (hdg _) (hnr _) _ (probs6 _ _ _ _) _ (fun j d => (vx_at _ 1792 _ v j _ (by omega)).trans (vx0 _ d))
      (fun j => (vx_at _ 1792 _ v j _ (by omega)).trans (vx1 _)) lamr x0 d)
  case piece5 =>
    idx_vars x
    refine (F1_at _ (P1 _ _ _ _) _ _ x0 x1).trans ?_
    rw [hl]
    have e : y = ix2 ⟨256 + (x0 : ℕ), by omega⟩ x1 := (eq_ix2 y).trans ((ix2_inj ..).2 ⟨Fin.ext (h0.trans (by show _ = 256 + (x0 : ℕ); omega)), Fin.ext h1⟩)
    rw [e]
    exact congrArg (fun o => fin o g x1) (funext fun d => outRow_real (N := 512) (by omega) (by omega) qr kr vr T _
      (fun r x => (ldq 256 _ q r x (by omega)).trans (hq _ x)) _ (fun j x => (ldk 512 _ k j x (by omega)).trans (hk _ x))
      _ _ (hdg _) (hnr _) _ (probs1 _ _ _ _) _ (fun j d => (vx_at _ 512 _ v j _ (by omega)).trans (vx0 _ d))
      (fun j => (vx_at _ 512 _ v j _ (by omega)).trans (vx1 _)) lamr x0 d)
  case piece6 =>
    idx_vars x
    refine (F7_at _ (P7 _ _ _ _) _ _ x0 x1).trans ?_
    rw [hl]
    have e : y = ix2 ⟨1792 + (x0 : ℕ), by omega⟩ x1 := (eq_ix2 y).trans ((ix2_inj ..).2 ⟨Fin.ext (h0.trans (by show _ = 1792 + (x0 : ℕ); omega)), Fin.ext h1⟩)
    rw [e]
    exact congrArg (fun o => fin o g x1) (funext fun d => outRow_real (N := 2048) (by omega) (by omega) qr kr vr T _
      (fun r x => (ldq 1792 _ q r x (by omega)).trans (hq _ x)) _ (fun j x => hk j x)
      _ _ (hdg _) (hnr _) _ (probs7 _ _ _ _) _ (fun j d => (vx_at _ 2048 _ v j _ (by omega)).trans (vx0 _ d))
      (fun j => (vx_at _ 2048 _ v j _ (by omega)).trans (vx1 _)) lamr x0 d)
  case piece7 =>
    idx_vars x
    refine (F0_at _ (P0 _ _ _ (k1_pay7 (F := Ideal) (View.ld (Val := Elt Ideal) (e' := .f32) b (Rect.unit (s := S1x2x256x256) ![0, 1, 0, 0] ![1, 1, 256, 256] inb_S1x2x256x256_S1x1x256x256_0_1_0_0)))) _ _ x0 x1).trans ?_
    rw [hl]
    have e : y = ix2 ⟨0 + (x0 : ℕ), by omega⟩ x1 := (eq_ix2 y).trans ((ix2_inj ..).2 ⟨Fin.ext (h0.trans (by show _ = 0 + (x0 : ℕ); omega)), Fin.ext h1⟩)
    rw [e]
    exact congrArg (fun o => fin o g x1) (funext fun d => outRow_real (N := 256) (by omega) (by omega) qr kr vr T _
      (fun r x => (ldq 0 _ q r x (by omega)).trans (hq _ x)) _ (fun j x => (ldk 256 _ k j x (by omega)).trans (hk _ x))
      _ _ (hdg _) (hnr _) _ (probs0 _ _ _ _) _ (fun j d => (vx_at _ 256 _ v j _ (by omega)).trans (vx0 _ d))
      (fun j => (vx_at _ 256 _ v j _ (by omega)).trans (vx1 _)) lamr x0 d)

end Cert.KernelIdeal.Attn
-- ==== Proof.Attn.Bias.lean ====
module

public import proofs.«01_k».proof.Proof.Gen.KernelIdeal.Frame
public import proofs.«01_k».proof.Proof.Attn.Bucket
public import Idealize.ShloMosaic.Lib.Pointwise
public import Idealize.ShloMosaic.Lib.Pipeline.ValueKit

@[expose] public section

set_option maxRecDepth 16384

noncomputable section

namespace Cert.KernelIdeal.Attn
open Idealize.ShloMosaic Idealize.ShloMosaic.TcCoe Idealize.SL.Sem
open Cert.KernelIdeal Cert.KernelIdeal.Gen Cert.Attn

/-- The name of the reciprocal of the logarithm of two stands for that number. -/
theorem named_log2e : Named.named (F := Ideal) κ "log2e" (φ := .f32) 1069066811#32 = (((Real.log 2)⁻¹ : ℝ) : EReal) := rfl

/-- The additive bias at a distance: the bucket's entry, less the last bucket's, in base two. -/
def biasVal (T : Fin 32 → EReal) (m : ℕ) : EReal := (T (bucket m) - T 31) * (((Real.log 2)⁻¹ : ℝ) : EReal)

/-- The two bias tiles of each head: the diagonal one (masked above the diagonal) and the one before it. -/
def biasArr (rb : S32x4.Idx → EReal) (y : S4x2x256x256.Idx) : EReal :=
  if (y 1 : ℕ) = 0 then
    (if (y 3 : ℕ) ≤ (y 2 : ℕ) then biasVal (fun i => rb (ix2 i (y 0))) ((y 2 : ℕ) - (y 3 : ℕ)) else ⊥)
  else biasVal (fun i => rb (ix2 i (y 0))) (256 + (y 2 : ℕ) - (y 3 : ℕ))

/-- The kernel's expression for an entry is the bias at the distance its word holds. -/
theorem val_at (T : Fin 32 → EReal) (m : ℕ) (hm : m < 4096) :
    (chain (Ideal.div (Ideal.log (Ideal.div (FloatOps.sitofp (F := Ideal) FTy.f32 (IntOp.maxsi (BitVec.ofNat 32 m) 16#32))
      (Ideal.ofBits .f32 1098907648#32))) (Ideal.ofBits .f32 1074075026#32) * Ideal.ofBits .f32 1098907648#32)
      (BitVec.ofNat 32 m) T - T 31) * Named.named (F := Ideal) κ "log2e" (φ := .f32) 1069066811#32 = biasVal T m := by
  have h := x_real m hm
  rw [show FloatOps.sitofp (F := Ideal) FTy.f32 (IntOp.maxsi (BitVec.ofNat 32 m) 16#32)
    = (((IntOp.maxsi (BitVec.ofNat 32 m) 16#32).toInt : ℝ) : EReal) from rfl, h, chain_eq m hm, named_log2e]
  rfl

theorem near_word (r c : Fin 256) :
    IntOp.maxsi (IntOp.subi (IntOp.addi 256#32 (BitVec.ofNat 32 (r : ℕ))) (BitVec.ofNat 32 (c : ℕ))) 0#32
      = BitVec.ofNat 32 (256 + (r : ℕ) - (c : ℕ)) := by
  rw [show IntOp.addi 256#32 (BitVec.ofNat 32 (r : ℕ)) = BitVec.ofNat 32 (256 + (r : ℕ)) from addi_small 256 _]
  exact dist_word _ _ (by omega) (by omega)

/-- An entry of the tile before the diagonal. -/
theorem near_at (T : Fin 32 → EReal) (r c : Fin 256) (n : BitVec 32)
    (hn : n = IntOp.maxsi (IntOp.subi (IntOp.addi 256#32 (BitVec.ofNat 32 (r : ℕ))) (BitVec.ofNat 32 (c : ℕ))) 0#32) :
    (chain (Ideal.div (Ideal.log (Ideal.div (FloatOps.sitofp (F := Ideal) FTy.f32 (IntOp.maxsi n 16#32))
      (Ideal.ofBits .f32 1098907648#32))) (Ideal.ofBits .f32 1074075026#32) * Ideal.ofBits .f32 1098907648#32)
      n T - T 31) * Named.named (F := Ideal) κ "log2e" (φ := .f32) 1069066811#32 = biasVal T (256 + (r : ℕ) - (c : ℕ)) := by
  subst hn
  rw [near_word]
  exact val_at T _ (by omega)

theorem sel_le (r c : Fin 256) (a b : EReal) :
    Scalar.select (IntOp.cmpi .sle (BitVec.ofNat 32 (c : ℕ)) (BitVec.ofNat 32 (r : ℕ))) a b = if (c : ℕ) ≤ (r : ℕ) then a else b := by
  have h : (BitVec.ofNat 32 (c : ℕ)).sle (BitVec.ofNat 32 (r : ℕ)) = decide ((c : ℕ) ≤ (r : ℕ)) := by
    rw [Bool.eq_iff_iff, decide_eq_true_iff, BitVec.sle_iff_toInt_le, toInt_small _ (by omega), toInt_small _ (by omega)]
    exact Nat.cast_le
  simp only [Scalar.select, IntOp.cmpi, h]
  by_cases h : (c : ℕ) ≤ (r : ℕ) <;> simp [h]

/-- An entry of the diagonal tile. -/
theorem diag_at (T : Fin 32 → EReal) (r c : Fin 256) (n : BitVec 32)
    (hn : n = IntOp.maxsi (IntOp.subi (BitVec.ofNat 32 (r : ℕ)) (BitVec.ofNat 32 (c : ℕ))) 0#32) :
    Scalar.select (IntOp.cmpi .sle (BitVec.ofNat 32 (c : ℕ)) (BitVec.ofNat 32 (r : ℕ)))
     ((chain (Ideal.div (Ideal.log (Ideal.div (FloatOps.sitofp (F := Ideal) FTy.f32 (IntOp.maxsi n 16#32))
      (Ideal.ofBits .f32 1098907648#32))) (Ideal.ofBits .f32 1074075026#32) * Ideal.ofBits .f32 1098907648#32)
      n T - T 31) * Named.named (F := Ideal) κ "log2e" (φ := .f32) 1069066811#32) (Ideal.ofBits .f32 4286578688#32)
      = if (c : ℕ) ≤ (r : ℕ) then biasVal T ((r : ℕ) - (c : ℕ)) else ⊥ := by
  subst hn
  rw [dist_word _ _ (by omega) (by omega), sel_le,
    show Ideal.ofBits .f32 4286578688#32 = ⊥ by simp [Ideal.ofBits, Ideal.ieee]]
  congr 1
  exact val_at T _ (by omega)

variable (V : (c : Dev nD) → (b : Ref sig .tc) → Buf (Elt Ideal) ((c : Thread nD τ).loc b))

/-- What the bias call writes. -/
theorem outs0 (c : Dev nD) (t : Fin cfg0.N) (y) : (outsAt0 V c t) y = biasArr (iblk0 V c 0 t) y := by
  conv_lhs => unfold outsAt0
  frame_out
  have hr := (hs0_0 t).read_unread (iblk0 V c 0 t)
  canon_tiles x h
  case piece0 =>
    open_payloads
    pointwise
    generalize View.read (Elt Ideal) (View.whole cc0_stg0_0) _ = rb at hr ⊢
    rw [← hr]
    have e : y = ix4 3 1 (x 2) (x 3) := (eq_ix4 y).trans ((ix4_inj ..).2 ⟨Fin.ext (by show (y 0 : ℕ) = 3; omega),
      Fin.ext (by show (y 1 : ℕ) = 1; omega), Fin.ext (by omega), Fin.ext (by omega)⟩)
    rw [e]
    exact near_at (fun i => rb (ix2 i 3)) (x 2) (x 3) _ rfl
  case piece1 =>
    open_payloads
    pointwise
    generalize View.read (Elt Ideal) (View.whole cc0_stg0_0) _ = rb at hr ⊢
    rw [← hr]
    have e : y = ix4 3 0 (x 2) (x 3) := (eq_ix4 y).trans ((ix4_inj ..).2 ⟨Fin.ext (by show (y 0 : ℕ) = 3; omega),
      Fin.ext (by show (y 1 : ℕ) = 0; omega), Fin.ext (by omega), Fin.ext (by omega)⟩)
    rw [e]
    exact diag_at (fun i => rb (ix2 i 3)) (x 2) (x 3) _ rfl
  case piece2 =>
    open_payloads
    pointwise
    generalize View.read (Elt Ideal) (View.whole cc0_stg0_0) _ = rb at hr ⊢
    rw [← hr]
    have e : y = ix4 2 1 (x 2) (x 3) := (eq_ix4 y).trans ((ix4_inj ..).2 ⟨Fin.ext (by show (y 0 : ℕ) = 2; omega),
      Fin.ext (by show (y 1 : ℕ) = 1; omega), Fin.ext (by omega), Fin.ext (by omega)⟩)
    rw [e]
    exact near_at (fun i => rb (ix2 i 2)) (x 2) (x 3) _ rfl
  case piece3 =>
    open_payloads
    pointwise
    generalize View.read (Elt Ideal) (View.whole cc0_stg0_0) _ = rb at hr ⊢
    rw [← hr]
    have e : y = ix4 2 0 (x 2) (x 3) := (eq_ix4 y).trans ((ix4_inj ..).2 ⟨Fin.ext (by show (y 0 : ℕ) = 2; omega),
      Fin.ext (by show (y 1 : ℕ) = 0; omega), Fin.ext (by omega), Fin.ext (by omega)⟩)
    rw [e]
    exact diag_at (fun i => rb (ix2 i 2)) (x 2) (x 3) _ rfl
  case piece4 =>
    open_payloads
    pointwise
    generalize View.read (Elt Ideal) (View.whole cc0_stg0_0) _ = rb at hr ⊢
    rw [← hr]
    have e : y = ix4 1 1 (x 2) (x 3) := (eq_ix4 y).trans ((ix4_inj ..).2 ⟨Fin.ext (by show (y 0 : ℕ) = 1; omega),
      Fin.ext (by show (y 1 : ℕ) = 1; omega), Fin.ext (by omega), Fin.ext (by omega)⟩)
    rw [e]
    exact near_at (fun i => rb (ix2 i 1)) (x 2) (x 3) _ rfl
  case piece5 =>
    open_payloads
    pointwise
    generalize View.read (Elt Ideal) (View.whole cc0_stg0_0) _ = rb at hr ⊢
    rw [← hr]
    have e : y = ix4 1 0 (x 2) (x 3) := (eq_ix4 y).trans ((ix4_inj ..).2 ⟨Fin.ext (by show (y 0 : ℕ) = 1; omega),
      Fin.ext (by show (y 1 : ℕ) = 0; omega), Fin.ext (by omega), Fin.ext (by omega)⟩)
    rw [e]
    exact diag_at (fun i => rb (ix2 i 1)) (x 2) (x 3) _ rfl
  case piece6 =>
    open_payloads
    pointwise
    generalize View.read (Elt Ideal) (View.whole cc0_stg0_0) _ = rb at hr ⊢
    rw [← hr]
    have e : y = ix4 0 1 (x 2) (x 3) := (eq_ix4 y).trans ((ix4_inj ..).2 ⟨Fin.ext (by show (y 0 : ℕ) = 0; omega),
      Fin.ext (by show (y 1 : ℕ) = 1; omega), Fin.ext (by omega), Fin.ext (by omega)⟩)
    rw [e]
    exact near_at (fun i => rb (ix2 i 0)) (x 2) (x 3) _ rfl
  case piece7 =>
    open_payloads
    pointwise
    generalize View.read (Elt Ideal) (View.whole cc0_stg0_0) _ = rb at hr ⊢
    rw [← hr]
    have e : y = ix4 0 0 (x 2) (x 3) := (eq_ix4 y).trans ((ix4_inj ..).2 ⟨Fin.ext (by show (y 0 : ℕ) = 0; omega),
      Fin.ext (by show (y 1 : ℕ) = 0; omega), Fin.ext (by omega), Fin.ext (by omega)⟩)
    rw [e]
    exact diag_at (fun i => rb (ix2 i 0)) (x 2) (x 3) _ rfl

end Cert.KernelIdeal.Attn
-- ==== Proof.Attn.Arr.lean ====
module

public import proofs.«01_k».proof.Proof.Attn.Outs
public import proofs.«01_k».proof.Proof.Attn.Bias

@[expose] public section

set_option maxRecDepth 16384

noncomputable section

namespace Cert.KernelIdeal.Attn
open Idealize.ShloMosaic Idealize.ShloMosaic.TcCoe Idealize.SL.Sem
open Idealize.ShloMosaic.Pipeline (Dat)
open Cert.KernelIdeal Cert.KernelIdeal.Gen Cert.Attn

variable (V : (c : Dev nD) → (b : Ref sig .tc) → Buf (Elt Ideal) ((c : Thread nD τ).loc b))

/-- The bias table the first call leaves: its body's array over the buckets' table. -/
theorem arr0 (c : Dev nD) : (dat0 V c).arrAt 1 cfg0.N = biasArr (V c main_arg3) := by
  refine (dat0 V c).arrAt_eq_of_after_last 1 t0_0 (by decide +kernel) _ fun j => ?_
  blk_simp
  rw [after0_1, outs0]
  have e : (iblk0 V c 0 t0_0 : Vec Ideal S32x4 .f32) = V c main_arg3 := by blk_ext! [iblk0, (by decide +kernel : win0_0.index t0_0 = ![0, 0])]
  rw [e]

/-- Where each window's block lies. -/
theorem idx1 : ∀ t : Fin cfg1.N, win1_0.index t = ![t.val % 4, t.val / 4, 0] ∧ win1_1.index t = ![t.val % 4, t.val / 4, 0] ∧
    win1_2.index t = ![t.val % 4, t.val / 4, 0] ∧ win1_3.index t = ![t.val % 4, 0, 0, 0] ∧ win1_4.index t = ![0, 0] ∧ win1_5.index t = ![0, 0] ∧
    win1_6.index t = ![0, 0] ∧ win1_7.index t = ![t.val / 4, t.val % 4] ∧ t.val / 4 < 8 :=
  (by decide +kernel : ∀ t : Fin grid1.N, _)

/-- The attention's result, as one array. -/
def attn (qR kR vR : Fin 8 → Fin 4 → Fin 2048 → Fin 128 → ℝ) (T : Fin 4 → Fin 32 → ℝ) (lamr : ℝ) (g : Vec Ideal S1x128 .f32)
    (b : Fin 8) (h : Fin 4) (i : Fin 2048) (d : Fin 128) : EReal :=
  fin (fun d => ((row (qR b h) (kR b h) (vR b h) (T h) lamr i i.isLt d : ℝ) : EReal)) g d

/-- A row's sequence. -/
theorem blt (y : Fin 16384) : (y : ℕ) / 2048 < 8 := by omega
/-- A row's position. -/
theorem ilt (y : Fin 16384) : (y : ℕ) % 2048 < 2048 := by omega
/-- A column's head. -/
theorem hlt (y : Fin 512) : (y : ℕ) / 128 < 4 := by omega
/-- A column's place in its head. -/
theorem elt (y : Fin 512) : (y : ℕ) % 128 < 128 := by omega

/-- A real array read at equal places. -/
theorem coe_at (X : Fin 8 → Fin 4 → Fin 2048 → Fin 128 → ℝ) (b b' : Fin 8) (h : Fin 4) (i i' : Fin 2048) (x : Fin 128) (eb : b = b') (ei : i = i') :
    (X b h i x : EReal) = X b' h i' x := by subst eb; subst ei; rfl

/-- The attention's result read at equal places. -/
theorem attn_at (qR kR vR : Fin 8 → Fin 4 → Fin 2048 → Fin 128 → ℝ) (T : Fin 4 → Fin 32 → ℝ) (lamr : ℝ) (g : Vec Ideal S1x128 .f32)
    (b b' : Fin 8) (h h' : Fin 4) (i i' : Fin 2048) (d d' : Fin 128) (eb : b = b') (eh : h = h') (ei : i = i') (ed : d = d') :
    attn qR kR vR T lamr g b h i d = attn qR kR vR T lamr g b' h' i' d' := by subst eb; subst eh; subst ei; subst ed; rfl

/-- The array the attention call leaves, from real queries, keys and values and the bias table. -/
theorem arr1 (c : Dev nD) (qR kR vR : Fin 8 → Fin 4 → Fin 2048 → Fin 128 → ℝ) (T : Fin 4 → Fin 32 → ℝ) (lamr : ℝ)
    (hq : ∀ (h : Fin 4) (r : Fin 16384) (x : Fin 128), (V c main_v2 : Vec Ideal S4x16384x128 .bf16) (ix3 h r x) = (qR ⟨(r : ℕ) / 2048, blt r⟩ h ⟨(r : ℕ) % 2048, ilt r⟩ x : EReal))
    (hk : ∀ (h : Fin 4) (r : Fin 16384) (x : Fin 128), (V c main_v5 : Vec Ideal S4x16384x128 .bf16) (ix3 h r x) = (kR ⟨(r : ℕ) / 2048, blt r⟩ h ⟨(r : ℕ) % 2048, ilt r⟩ x : EReal))
    (hv : ∀ (h : Fin 4) (r : Fin 16384) (x : Fin 128), (V c main_v8 : Vec Ideal S4x16384x128 .bf16) (ix3 h r x) = (vR ⟨(r : ℕ) / 2048, blt r⟩ h ⟨(r : ℕ) % 2048, ilt r⟩ x : EReal))
    (hd : ∀ (h : Fin 4) (r x : Fin 256), (V c main_v9 : Vec Ideal S4x2x256x256 .f32) (ix4 h 0 r x) =
      if (x : ℕ) ≤ (r : ℕ) then ((biasR (T h) ((r : ℕ) - (x : ℕ)) : ℝ) : EReal) else ⊥)
    (hn : ∀ (h : Fin 4) (r x : Fin 256), (V c main_v9 : Vec Ideal S4x2x256x256 .f32) (ix4 h 1 r x) = ((biasR (T h) (256 + (r : ℕ) - (x : ℕ)) : ℝ) : EReal))
    (hl : k1_pay5 (F := Ideal) (V c main_arg4) (V c main_arg5) (ix2 0 0) = (lamr : EReal)) :
    (dat1 V c).arrAt 7 cfg1.N = (fun y : S16384x512.Idx => attn qR kR vR T lamr (V c main_v10)
      ⟨(y 0 : ℕ) / 2048, blt (y 0)⟩ ⟨(y 1 : ℕ) / 128, hlt (y 1)⟩ ⟨(y 0 : ℕ) % 2048, ilt (y 0)⟩ ⟨(y 1 : ℕ) % 128, elt (y 1)⟩ : S16384x512.Idx → EReal) := by
  refine (dat1 V c).arrAt_eq_of_covers 7 _ (by decide +kernel) fun t hf y => ?_
  obtain ⟨i0, i1, i2, i3, i4, i5, i6, i7, hb⟩ := idx1 t
  have hh : t.val % 4 < 4 := by omega
  blk_simp
  rw [after1_7]
  have e4 : (iblk1 V c 4 t : Vec Ideal S2x64 .f32) = V c main_arg4 := by blk_ext! [iblk1, i4]
  have e5 : (iblk1 V c 5 t : Vec Ideal S2x64 .f32) = V c main_arg5 := by blk_ext! [iblk1, i5]
  have e6 : (iblk1 V c 6 t : Vec Ideal S1x128 .f32) = V c main_v10 := by blk_ext! [iblk1, i6]
  refine (outs1 V c t y (qR ⟨t.val / 4, hb⟩ ⟨t.val % 4, hh⟩) (kR ⟨t.val / 4, hb⟩ ⟨t.val % 4, hh⟩) (vR ⟨t.val / 4, hb⟩ ⟨t.val % 4, hh⟩) (T ⟨t.val % 4, hh⟩) lamr
    ?_ ?_ ?_ ?_ ?_ ?_).trans ?_
  · intro i x
    refine Eq.trans ?_ ((hq ⟨t.val % 4, hh⟩ ⟨2048 * (t.val / 4) + (i : ℕ), by omega⟩ x).trans ?_)
    · blk_ext [iblk1, i0]
    · exact coe_at qR _ _ _ _ _ _ (Fin.ext (by show (2048 * (t.val / 4) + (i : ℕ)) / 2048 = t.val / 4; omega)) (Fin.ext (by show (2048 * (t.val / 4) + (i : ℕ)) % 2048 = i; omega))
  · intro i x
    refine Eq.trans ?_ ((hk ⟨t.val % 4, hh⟩ ⟨2048 * (t.val / 4) + (i : ℕ), by omega⟩ x).trans ?_)
    · blk_ext [iblk1, i1]
    · exact coe_at kR _ _ _ _ _ _ (Fin.ext (by show (2048 * (t.val / 4) + (i : ℕ)) / 2048 = t.val / 4; omega)) (Fin.ext (by show (2048 * (t.val / 4) + (i : ℕ)) % 2048 = i; omega))
  · intro i x
    refine Eq.trans ?_ ((hv ⟨t.val % 4, hh⟩ ⟨2048 * (t.val / 4) + (i : ℕ), by omega⟩ x).trans ?_)
    · blk_ext [iblk1, i2]
    · exact coe_at vR _ _ _ _ _ _ (Fin.ext (by show (2048 * (t.val / 4) + (i : ℕ)) / 2048 = t.val / 4; omega)) (Fin.ext (by show (2048 * (t.val / 4) + (i : ℕ)) % 2048 = i; omega))
  · intro r x
    refine Eq.trans ?_ (hd ⟨t.val % 4, hh⟩ r x)
    blk_ext [iblk1, i3]
  · intro r x
    refine Eq.trans ?_ (hn ⟨t.val % 4, hh⟩ r x)
    blk_ext [iblk1, i3]
  · rw [e4, e5]; exact hl
  · rw [e6]
    have hy0 : (y 0 : ℕ) < 2048 := (y 0).isLt
    have hy1 : (y 1 : ℕ) < 128 := (y 1).isLt
    have w0 : win1_7.index t 0 = t.val / 4 := by rw [i7]; rfl
    have w1 : win1_7.index t 1 = t.val % 4 := by rw [i7]; rfl
    refine attn_at qR kR vR T lamr (V c main_v10) ⟨t.val / 4, hb⟩ _ ⟨t.val % 4, hh⟩ _ (y 0) _ (y 1) _ (Fin.ext ?_) (Fin.ext ?_) (Fin.ext ?_) (Fin.ext ?_)
    · show t.val / 4 = (win1_7.index t 0 * 2048 + (y 0 : ℕ)) / 2048
      rw [w0]; omega
    · show t.val % 4 = (win1_7.index t 1 * 128 + (y 1 : ℕ)) / 128
      rw [w1]; omega
    · show (y 0 : ℕ) = (win1_7.index t 0 * 2048 + (y 0 : ℕ)) % 2048
      rw [w0]; omega
    · show (y 1 : ℕ) = (win1_7.index t 1 * 128 + (y 1 : ℕ)) % 128
      rw [w1]; omega

end Cert.KernelIdeal.Attn
-- ==== Proof.Attn.Run.lean ====
module

public import proofs.«01_k».proof.Proof.Attn.Arr
public import Idealize.ShloMosaic.Lib.Claim

@[expose] public section

set_option maxRecDepth 16384

noncomputable section

namespace Cert.KernelIdeal.Attn
open Idealize.ShloMosaic Idealize.ShloMosaic.TcCoe Idealize.SL.Sem Idealize.SL
open Idealize.ShloMosaic.Pipeline (Dat)
open Cert.KernelIdeal Cert.KernelIdeal.Gen Cert.Attn

section
variable (m : (ℓ : Loc nD τ sig) → Buf (Elt Ideal) ℓ) (ρ : Dev nD → PrngReg)

/-- A head's column is one of the array's. -/
theorem collt (h : Fin 4) (x : Fin 128) : 128 * (h : ℕ) + (x : ℕ) < 512 := by omega

/-- What the attention call finds in its array `q`: the argument, heads first. -/
theorem V3_q (c : Dev nD) (h : Fin 4) (r : Fin 16384) (x : Fin 128) :
    (V3 m ρ c main_v2 : Vec Ideal S4x16384x128 .bf16) (ix3 h r x) =
      (m ((c : Thread nD τ).loc main_arg0) : FVec Ideal S8x2048x512 .f32) (ix3 ⟨(r : ℕ) / 2048, blt r⟩ ⟨(r : ℕ) % 2048, ilt r⟩ ⟨128 * (h : ℕ) + (x : ℕ), collt h x⟩) := by
  have e : V3 m ρ c main_v2 = W1 m ρ c (Proc.devRef .tc main_v2) :=
    (W3_of m ρ c main_v2 (by decide)).trans (W2_of m ρ c main_v2 (by decide))
  rw [e]
  unfold W1
  entry_read
  pointwise
  exact congrArg (m ((c : Thread nD τ).loc main_arg0) : FVec Ideal S8x2048x512 .f32) ((ix3_inj ..).2 ⟨rfl, rfl, Fin.ext (by show (h : ℕ) * 128 + (x : ℕ) = 128 * (h : ℕ) + (x : ℕ); omega)⟩)

/-- What the attention call finds in its array `k`: the argument, heads first. -/
theorem V3_k (c : Dev nD) (h : Fin 4) (r : Fin 16384) (x : Fin 128) :
    (V3 m ρ c main_v5 : Vec Ideal S4x16384x128 .bf16) (ix3 h r x) =
      (m ((c : Thread nD τ).loc main_arg1) : FVec Ideal S8x2048x512 .f32) (ix3 ⟨(r : ℕ) / 2048, blt r⟩ ⟨(r : ℕ) % 2048, ilt r⟩ ⟨128 * (h : ℕ) + (x : ℕ), collt h x⟩) := by
  have e : V3 m ρ c main_v5 = W1 m ρ c (Proc.devRef .tc main_v5) :=
    (W3_of m ρ c main_v5 (by decide)).trans (W2_of m ρ c main_v5 (by decide))
  rw [e]
  unfold W1
  entry_read
  pointwise
  exact congrArg (m ((c : Thread nD τ).loc main_arg1) : FVec Ideal S8x2048x512 .f32) ((ix3_inj ..).2 ⟨rfl, rfl, Fin.ext (by show (h : ℕ) * 128 + (x : ℕ) = 128 * (h : ℕ) + (x : ℕ); omega)⟩)

/-- What the attention call finds in its array `v`: the argument, heads first. -/
theorem V3_v (c : Dev nD) (h : Fin 4) (r : Fin 16384) (x : Fin 128) :
    (V3 m ρ c main_v8 : Vec Ideal S4x16384x128 .bf16) (ix3 h r x) =
      (m ((c : Thread nD τ).loc main_arg2) : FVec Ideal S8x2048x512 .f32) (ix3 ⟨(r : ℕ) / 2048, blt r⟩ ⟨(r : ℕ) % 2048, ilt r⟩ ⟨128 * (h : ℕ) + (x : ℕ), collt h x⟩) := by
  have e : V3 m ρ c main_v8 = W1 m ρ c (Proc.devRef .tc main_v8) :=
    (W3_of m ρ c main_v8 (by decide)).trans (W2_of m ρ c main_v8 (by decide))
  rw [e]
  unfold W1
  entry_read
  pointwise
  exact congrArg (m ((c : Thread nD τ).loc main_arg2) : FVec Ideal S8x2048x512 .f32) ((ix3_inj ..).2 ⟨rfl, rfl, Fin.ext (by show (h : ℕ) * 128 + (x : ℕ) = 128 * (h : ℕ) + (x : ℕ); omega)⟩)

/-- What the attention call finds in its bias array. -/
theorem V3_bias (c : Dev nD) : V3 m ρ c main_v9 = biasArr (m ((c : Thread nD τ).loc main_arg3)) := by
  have e : V3 m ρ c main_v9 = (dat0 (V1 m ρ) c).arrAt 1 cfg0.N :=
    (W3_of m ρ c main_v9 (by decide)).trans (W2_arr m ρ c 1)
  rw [e, arr0]
  exact congrArg biasArr (W1_args m ρ c main_arg3 (by decide))

/-- What the attention call finds in its gains. -/
theorem V3_gain (c : Dev nD) (x : Fin 128) : (V3 m ρ c main_v10 : Vec Ideal S1x128 .f32) (ix2 0 x) = (m ((c : Thread nD τ).loc main_arg6) : FVec Ideal S128 .f32) (ix1 x) := by
  have e : V3 m ρ c main_v10 = W3 m ρ c (Proc.devRef .tc main_v10) := rfl
  have e2 := W2_args m ρ c main_arg6 (by decide)
  rw [e]
  unfold W3
  entry_read
  rw [e2]
  generalize (m ((c : Thread nD τ).loc main_arg6) : FVec Ideal S128 .f32) = g
  pointwise
end

section
variable {F : FTy → Type} [FloatOps F] [Named F]
variable (m : (ℓ : Loc nD τ sig) → Buf (Elt F) ℓ) (ρ : Dev nD → PrngReg)
open Idealize.SL.RA Idealize.SL.BI Idealize.ShloMosaic.Rounds Idealize.ShloMosaic.Tactic
open scoped Idealize.SL.BI
open Idealize.SL.BI.BIBase Idealize.SL.BI.Laws Idealize.SL.ProofMode

local notation "𝕄" => MT nD τ sig Unit (Elt F) ℕ (UR sig nD τ) ℕ

set_option backward.isDefEq.respectTransparency.types false in
/-- The whole run: it ends, with the arguments as launched, the counters at zero, and the result array as the attention call leaves it. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v11) = (dat1 (V3 m ρ) c).arrAt 7 cfg1.N)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_v11 (by decide))).trans (W4_arr m ρ c 7)⟩), funext fun g => hz g (.inr (no_unscoped g.2))⟩)

end

end Cert.KernelIdeal.Attn
-- ==== Proof.Attn.RefBucket.lean ====
/- The reference's relative position bias: the word of the bucket of each pair of positions, and the gathered bias. -/
module

public import proofs.«01_k».proof.Proof.Gen.ReferenceIdeal.Read
public import proofs.«01_k».proof.Proof.Attn.Bucket

@[expose] public section

set_option maxRecDepth 16384

noncomputable section

namespace Cert.ReferenceIdeal.Attn
open Idealize.ShloMosaic Idealize.ShloMosaic.TcCoe Idealize.SL.Sem Idealize.ShloMosaic.ValueIdx
open Cert.ReferenceIdeal Cert.ReferenceIdeal.Gen Cert.ReferenceIdeal.Read Cert.Attn

/-- The clamped distance of a query position and a key position, as a word. -/
theorem dist_at (i : S2048x2048.Idx) :
    val_main_v29 (F := Ideal) i = BitVec.ofNat 32 ((i 0).val - (i 1).val) := by
  simp only [val_main_v29_apply, val_main_v28_apply, val_main_c_apply, val_main_v27_apply, val_main_v25_apply,
    val_main_v26_apply, val_main_v24_apply, val_main_v23_apply, val_main_v3_apply]
  have h0 : (i 0).val < 2048 := (i 0).isLt
  have h1 : (i 1).val < 2048 := (i 1).isLt
  exact dist_word (i 0).val (i 1).val (by omega) (by omega)

/-- The bucket the reference looks up for a query position and a key position. -/
theorem word_at (i : S2048x2048.Idx) :
    val_main_v47 (F := Ideal) i = BitVec.ofNat 32 (bucket ((i 0).val - (i 1).val) : ℕ) := by
  have h0 : (i 0).val < 2048 := (i 0).isLt
  have hm : (i 0).val - (i 1).val < 4096 := by omega
  have hx : val_main_v39 (F := Ideal) i = ((xr ((i 0).val - (i 1).val) : ℝ) : EReal) := by
    rw [← x_real _ hm, ← dist_at]
    simp only [val_main_v39_apply, val_main_v38_apply, val_main_v37_apply, val_main_v36_apply, val_main_v35_apply,
      val_main_v34_apply, val_main_v33_apply, val_main_v32_apply, val_main_v31_apply, val_main_v30_apply,
      val_main_c_3_apply, val_main_cst_4_apply, val_main_cst_5_apply, val_main_cst_6_apply]
    rfl
  have hf : val_main_v40 (F := Ideal) i = Ideal.fptosi 32 ((xr ((i 0).val - (i 1).val) : ℝ) : EReal) := by
    rw [← hx]; rfl
  rw [← ref_word _ hm, ← hf, ← dist_at]
  simp only [val_main_v47_apply, val_main_v46_apply, val_main_v45_apply, val_main_v44_apply, val_main_v43_apply,
    val_main_v42_apply, val_main_v41_apply, val_main_c_7_apply, val_main_c_8_apply, val_main_c_9_apply]

/-- A bucket's word is not negative. -/
theorem not_neg (b : Fin 32) : IntOp.cmpi .slt (BitVec.ofNat 32 (b : ℕ)) 0#32 = 0#1 := by
  revert b; decide

/-- The start index of the lookup is the bucket. -/
theorem start_at (i : S2048x2048x1.Idx) :
    val_main_v53 (F := Ideal) i = BitVec.ofNat 32 (bucket ((i 0).val - (i 1).val) : ℕ) := by
  simp only [val_main_v53_apply, val_main_v52_apply, val_main_v49_apply, val_main_v48_apply, val_main_c_10_apply, word_at]
  rw [not_neg]
  rfl

/-- The row the lookup reads for a bucket's word is that bucket. -/
theorem clamp_at (b : Fin 32) : min (BitVec.ofNat 32 (b : ℕ)).toInt.toNat 31 = (b : ℕ) := by
  revert b; decide

/-- The start-indices index `(t, j, 0)` of result index `(t, j, h)`. -/
abbrev startIdx (y : S2048x2048x4.Idx) : S2048x2048x1.Idx :=
  fun a => match a with | ⟨0, _⟩ => ⟨(y 0).val, (y 0).isLt⟩ | ⟨1, _⟩ => ⟨(y 1).val, (y 1).isLt⟩ | ⟨2, _⟩ => ⟨0, Nat.one_pos⟩

/-- The operand index of bucket `b` and head `h`. -/
abbrev tabIdx (b : Fin 32) (h : Fin 4) : S32x4.Idx :=
  fun a => match a with | ⟨0, _⟩ => ⟨b.val, b.isLt⟩ | ⟨1, _⟩ => ⟨h.val, h.isLt⟩

/-- The lookup reads the row of the word at `(t, j)`, clamped to the table, at the head's column. -/
theorem gather_at (x : Vec Ideal S32x4 .f32) (idx : IVec S2048x2048x1 32) (y : S2048x2048x4.Idx) (b : Fin 32)
    (hb : idx (startIdx y) = BitVec.ofNat 32 (b : ℕ)) :
    Host.gather gather_S32x4_S2048x2048x1_S2048x2048x4_2_0_n_n_0_2_14 x idx y = x (tabIdx b ⟨(y 2).val, (y 2).isLt⟩) := by
  unfold Host.gather
  refine congrArg x ?_
  funext a
  refine Fin.ext ?_
  show (gather_S32x4_S2048x2048x1_S2048x2048x4_2_0_n_n_0_2_14).start y idx a
      + (gather_S32x4_S2048x2048x1_S2048x2048x4_2_0_n_n_0_2_14).batchCoord y a
      + (gather_S32x4_S2048x2048x1_S2048x2048x4_2_0_n_n_0_2_14).offCoord y a = _
  rw [GatherDims.batchCoord_eq_zero _ _ _ (List.not_mem_nil)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S32x4_S2048x2048x1_S2048x2048x4_2_0_n_n_0_2_14).startIndexMap from List.mem_singleton.mpr rfl)]
    have hsi : (gather_S32x4_S2048x2048x1_S2048x2048x4_2_0_n_n_0_2_14).siIdx y
        ⟨List.idxOf (0 : Fin 2) (gather_S32x4_S2048x2048x1_S2048x2048x4_2_0_n_n_0_2_14).startIndexMap,
          List.idxOf_lt_length_iff.2 (List.mem_singleton.mpr rfl)⟩ = startIdx y := by
      funext b; refine Fin.ext ?_
      match b with
      | ⟨0, _⟩ => rfl
      | ⟨1, _⟩ => rfl
      | ⟨2, _⟩ => rfl
    rw [hsi, hb]
    exact clamp_at b
  · unfold GatherDims.start
    rw [dif_neg (by decide)]
    simp only [Nat.zero_add, Nat.add_zero]
    rfl

/-- The bias the reference adds to the logit of a query position and a key position. -/
theorem bias_at (x3 : Vec Ideal S32x4 .f32) (i : S8x2x4x2048x2048.Idx) :
    val_main_v62 (F := Ideal) x3 i = x3 (tabIdx (bucket ((i 3).val - (i 4).val)) ⟨(i 2).val, (i 2).isLt⟩) := by
  simp only [val_main_v62_apply, val_main_v61_apply, val_main_v55_apply]
  unfold val_main_v54
  exact gather_at x3 _ _ (bucket ((i 3).val - (i 4).val)) (start_at _)

end Cert.ReferenceIdeal.Attn

end
-- ==== Proof.Attn.RefRow.lean ====
/- The reference's attention: its logits, its softmax weights and the difference of the two components, over the reals. -/
module

public import proofs.«01_k».proof.Proof.Attn.RefBucket
public import proofs.«01_k».proof.Proof.Attn.Row
public import Idealize.ShloMosaic.Lib.KernelVsHost

@[expose] public section

set_option maxRecDepth 16384

noncomputable section

namespace Cert.ReferenceIdeal.Attn
open Idealize.ShloMosaic Idealize.ShloMosaic.TcCoe Idealize.SL.Sem Idealize.ShloMosaic.ValueIdx
open Cert.ReferenceIdeal Cert.ReferenceIdeal.Gen Cert.ReferenceIdeal.Read Cert.Attn

/-- A head's lane among the 512 columns. -/
theorem colt (h : Fin 4) (x : Fin 128) : 128 * (h : ℕ) + (x : ℕ) < 512 := by omega

/-- The index of a batch entry, a position and a head's lane. -/
abbrev inIdx (b : Fin 8) (i : Fin 2048) (h : Fin 4) (x : Fin 128) : S8x2048x512.Idx :=
  fun a => match a with | ⟨0, _⟩ => ⟨b.val, b.isLt⟩ | ⟨1, _⟩ => ⟨i.val, i.isLt⟩ | ⟨2, _⟩ => ⟨128 * h.val + x.val, colt h x⟩

/-- A component's lane of a head. -/
theorem lane_lt (c : Fin 2) (e : Fin 64) : 64 * (c : ℕ) + (e : ℕ) < 128 := by omega

/-- The queries split into heads, components and lanes. -/
theorem q_at (x0 : Vec Ideal S8x2048x512 .f32) (i : S8x2x4x2048x2048.Idx) (k : Fin 64) :
    val_main_v0 (F := Ideal) x0 (lidx_main_v20 i k)
      = x0 (inIdx ⟨(i 0).val, (i 0).isLt⟩ ⟨(i 3).val, (i 3).isLt⟩ ⟨(i 2).val, (i 2).isLt⟩ ⟨64 * (i 1).val + k.val, lane_lt ⟨(i 1).val, (i 1).isLt⟩ k⟩) := by
  rw [val_main_v0_apply]
  refine congrArg x0 (funext fun a => Fin.ext ?_)
  have h0 : (i 0).val < 8 := (i 0).isLt
  have h1 : (i 1).val < 2 := (i 1).isLt
  have h2 : (i 2).val < 4 := (i 2).isLt
  have h3 : (i 3).val < 2048 := (i 3).isLt
  have hk := k.isLt
  match a with
  | ⟨0, _⟩ => show (((((i 0).val * 2048 + (i 3).val) * 4 + (i 2).val) * 2 + (i 1).val) * 64 + k.val) / 1048576 = (i 0).val; omega
  | ⟨1, _⟩ => show (((((i 0).val * 2048 + (i 3).val) * 4 + (i 2).val) * 2 + (i 1).val) * 64 + k.val) / 512 % 2048 = (i 3).val; omega
  | ⟨2, _⟩ => show (((((i 0).val * 2048 + (i 3).val) * 4 + (i 2).val) * 2 + (i 1).val) * 64 + k.val) % 512 = 128 * (i 2).val + (64 * (i 1).val + k.val); omega

/-- The keys split into heads, components and lanes. -/
theorem k_at (x1 : Vec Ideal S8x2048x512 .f32) (i : S8x2x4x2048x2048.Idx) (k : Fin 64) :
    val_main_v1 (F := Ideal) x1 (ridx_main_v20 i k)
      = x1 (inIdx ⟨(i 0).val, (i 0).isLt⟩ ⟨(i 4).val, (i 4).isLt⟩ ⟨(i 2).val, (i 2).isLt⟩ ⟨64 * (i 1).val + k.val, lane_lt ⟨(i 1).val, (i 1).isLt⟩ k⟩) := by
  rw [val_main_v1_apply]
  refine congrArg x1 (funext fun a => Fin.ext ?_)
  have h0 : (i 0).val < 8 := (i 0).isLt
  have h1 : (i 1).val < 2 := (i 1).isLt
  have h2 : (i 2).val < 4 := (i 2).isLt
  have h3 : (i 4).val < 2048 := (i 4).isLt
  have hk := k.isLt
  match a with
  | ⟨0, _⟩ => show (((((i 0).val * 2048 + (i 4).val) * 4 + (i 2).val) * 2 + (i 1).val) * 64 + k.val) / 1048576 = (i 0).val; omega
  | ⟨1, _⟩ => show (((((i 0).val * 2048 + (i 4).val) * 4 + (i 2).val) * 2 + (i 1).val) * 64 + k.val) / 512 % 2048 = (i 4).val; omega
  | ⟨2, _⟩ => show (((((i 0).val * 2048 + (i 4).val) * 4 + (i 2).val) * 2 + (i 1).val) * 64 + k.val) % 512 = 128 * (i 2).val + (64 * (i 1).val + k.val); omega

/-- The values split into heads. -/
theorem v_at (x2 : Vec Ideal S8x2048x512 .f32) (i : S8x4x128x2048.Idx) (k : Fin 2048) :
    val_main_v2 (F := Ideal) x2 (lidx_main_v83 i k)
      = x2 (inIdx ⟨(i 0).val, (i 0).isLt⟩ k ⟨(i 1).val, (i 1).isLt⟩ ⟨(i 2).val, (i 2).isLt⟩) := by
  rw [val_main_v2_apply]
  refine congrArg x2 (funext fun a => Fin.ext ?_)
  have h0 : (i 0).val < 8 := (i 0).isLt
  have h1 : (i 1).val < 4 := (i 1).isLt
  have h2 : (i 2).val < 128 := (i 2).isLt
  have hk := k.isLt
  match a with
  | ⟨0, _⟩ => show ((((i 0).val * 2048 + k.val) * 4 + (i 1).val) * 128 + (i 2).val) / 1048576 = (i 0).val; omega
  | ⟨1, _⟩ => show ((((i 0).val * 2048 + k.val) * 4 + (i 1).val) * 128 + (i 2).val) / 512 % 2048 = k.val; omega
  | ⟨2, _⟩ => show ((((i 0).val * 2048 + k.val) * 4 + (i 1).val) * 128 + (i 2).val) % 512 = 128 * (i 1).val + (i 2).val; omega

/-- The word of one eighth. -/
theorem cst_eighth : Ideal.ofBits .f32 0x3E000000#32 = ((1 / 8 : ℝ) : EReal) := by
  simp [Ideal.ofBits, Ideal.ieee, -EReal.coe_mul]; norm_num

/-- The word of −∞. -/
theorem cst_ninf : Ideal.ofBits .f32 0xFF800000#32 = (⊥ : EReal) := by
  simp [Ideal.ofBits, Ideal.ieee]

/-- The word of zero. -/
theorem cst_zero : Ideal.ofBits .f32 0x00000000#32 = (0 : EReal) := by
  simp [Ideal.ofBits, Ideal.ieee]

section
variable (x0 x1 x2 : Vec Ideal S8x2048x512 .f32) (x3 : Vec Ideal S32x4 .f32)
  (qR kR vR : Fin 8 → Fin 4 → Fin 2048 → Fin 128 → ℝ) (T : Fin 4 → Fin 32 → ℝ)
  (hq : ∀ b i h x, x0 (inIdx b i h x) = (qR b h i x : EReal))
  (hk : ∀ b i h x, x1 (inIdx b i h x) = (kR b h i x : EReal))
  (hv : ∀ b i h x, x2 (inIdx b i h x) = (vR b h i x : EReal))
  (hT : ∀ w h, x3 (tabIdx w h) = (T h w : EReal))

/-- The logits of a query against every key, over the reals. -/
abbrev lg (i : S8x2x4x2048x2048.Idx) : Fin 2048 → ℝ :=
  logit ⟨(i 1).val, (i 1).isLt⟩ (qR ⟨(i 0).val, (i 0).isLt⟩ ⟨(i 2).val, (i 2).isLt⟩) (kR ⟨(i 0).val, (i 0).isLt⟩ ⟨(i 2).val, (i 2).isLt⟩)
    (T ⟨(i 2).val, (i 2).isLt⟩) (i 3).val (i 3).isLt

include hq hk hT in
/-- The logits with their bias are real. -/
theorem logit_at (i : S8x2x4x2048x2048.Idx) :
    val_main_v63 (F := Ideal) x0 x1 x3 i = ((lg qR kR T i ⟨(i 4).val, (i 4).isLt⟩ : ℝ) : EReal) := by
  rw [val_main_v63_apply, val_main_v22_apply, val_main_v20_apply, val_main_v21_apply, val_main_cst_2_apply, bias_at, hT]
  show (∑ k : Fin 64, _ * _) * Ideal.ofBits .f32 0x3E000000#32 + _ = _
  rw [cst_eighth]
  simp only [q_at, k_at, hq, hk, ← EReal.coe_mul]
  rw [coe_sum, ← EReal.coe_mul, ← EReal.coe_add]
  rfl

include hq hk hT in
/-- The masked logits: real up to the query's position, −∞ beyond. -/
theorem masked_at (i : S8x2x4x2048x2048.Idx) :
    val_main_v64 (F := Ideal) x0 x1 x3 i = if (i 4).val ≤ (i 3).val then ((lg qR kR T i ⟨(i 4).val, (i 4).isLt⟩ : ℝ) : EReal) else ⊥ := by
  have h3 : (i 3).val < 2048 := (i 3).isLt
  have h4 : (i 4).val < 2048 := (i 4).isLt
  rw [val_main_v64_apply, logit_at x0 x1 x3 qR kR T hq hk hT, val_main_call1_v2_apply, val_main_call1_v0_apply, val_main_cst_12_apply,
    val_main_call1_v1_apply, val_main_v60_apply, val_main_v58_apply, val_main_v59_apply, val_main_v56_apply, val_main_v57_apply,
    val_main_v3_apply, val_main_v3_apply]
  show Scalar.select (IntOp.cmpi .sle (BitVec.ofNat 32 (i 4).val) (BitVec.ofNat 32 (i 3).val)) _ (Ideal.ofBits .f32 0xFF800000#32) = _
  rw [cst_ninf]
  have hs : (BitVec.ofNat 32 (i 4).val).sle (BitVec.ofNat 32 (i 3).val) = decide ((i 4).val ≤ (i 3).val) := by
    rw [BitVec.sle_eq_decide, toInt_small _ (by omega), toInt_small _ (by omega)]
    simp
  show (if (BitVec.ofBool ((BitVec.ofNat 32 (i 4).val).sle (BitVec.ofNat 32 (i 3).val))) = 1#1 then _ else _) = _
  rw [hs]
  by_cases h : (i 4).val ≤ (i 3).val
  · simp [h]
  · simp [h]

/-- A maximum over the last axis from −∞ is the fold of the maximum. -/
theorem max_fold (y : FVec Ideal S8x2x4x2048x2048 .f32) (i : S8x2x4x2048.Idx) :
    Host.reduce FloatOps.maximumf y (constant S_ .f32 0xFF800000#32) reducesTo_S8x2x4x2048x2048_S8x2x4x2048_d4 h_S_ i
      = Finset.fold max ⊥ (fun k : Fin 2048 => y (idx_main_v72 i k)) Finset.univ := by
  have hred : S8x2x4x2048x2048.Reduces [4] S8x2x4x2048 := by decide
  refine (congrFun (hostReduce_maximumf_eq_multiReduction y 0xFF800000#32 reducesTo_S8x2x4x2048x2048_S8x2x4x2048_d4 h_S_ hred (.inl rfl) rfl) i).trans
    ((Ideal.multiReduction_maximumf_single y 0xFF800000#32 hred (.inl rfl) rfl i).trans ?_)
  have e : FloatOps.ofBits (F := Ideal) .f32 0xFF800000#32 = (⊥ : EReal) := cst_ninf
  rw [e]
  refine congrArg (fun f => Finset.fold max ⊥ f Finset.univ) (funext fun k => congrArg y (funext fun a => Fin.ext ?_))
  match a with
  | ⟨0, _⟩ => rfl
  | ⟨1, _⟩ => rfl
  | ⟨2, _⟩ => rfl
  | ⟨3, _⟩ => rfl
  | ⟨4, _⟩ => rfl

/-- The row maximum of the reference is the fold of the maximum over the keys. -/
theorem max_at (i : S8x2x4x2048.Idx) :
    val_main_v67 (F := Ideal) x0 x1 x3 i
      = Finset.fold max ⊥ (fun k : Fin 2048 => val_main_v64 (F := Ideal) x0 x1 x3 (idx_main_v72 i k)) Finset.univ := by
  have e : val_main_v65 (F := Ideal) x0 x1 x3 i = _ := max_fold (val_main_v64 (F := Ideal) x0 x1 x3) i
  rw [val_main_v67_apply, val_main_v66_apply, val_main_cst_14_apply, e]
  show max (Ideal.ofBits .f32 0xFF800000#32) _ = _
  rw [cst_ninf, max_eq_right bot_le]

include hq hk hT in
/-- The softmax weights of a query's row are the real weights. -/
theorem weight_at (i : S8x2x4x2048x2048.Idx) :
    val_main_v75 (F := Ideal) x0 x1 x3 i
      = ((wt (lg qR kR T i) (i 3).val ⟨(i 4).val, (i 4).isLt⟩
          / ∑ j', wt (lg qR kR T i) (i 3).val j' : ℝ) : EReal) := by
  have key := ref_weight (i 3).val (i 3).isLt
    (lg qR kR T i)
    (fun j => val_main_v64 (F := Ideal) x0 x1 x3 (idx_main_v72 (idx_main_v73 (idx_main_v74 i)) j))
    (fun j => masked_at x0 x1 x3 qR kR T hq hk hT _)
    (Finset.fold max ⊥ (fun k : Fin 2048 => val_main_v64 (F := Ideal) x0 x1 x3 (idx_main_v72 (idx_main_v73 (idx_main_v74 i)) k)) Finset.univ)
    (fold_lt _) (le_fold _) ⟨(i 4).val, (i 4).isLt⟩
  rw [← key]
  have he : ∀ j : Fin 2048, val_main_v71 (F := Ideal) x0 x1 x3 (idx_main_v72 (idx_main_v73 (idx_main_v74 i)) j)
      = Ideal.exp (val_main_v64 (F := Ideal) x0 x1 x3 (idx_main_v72 (idx_main_v73 (idx_main_v74 i)) j)
        - Finset.fold max ⊥ (fun k : Fin 2048 => val_main_v64 (F := Ideal) x0 x1 x3 (idx_main_v72 (idx_main_v73 (idx_main_v74 i)) k)) Finset.univ) := by
    intro j
    rw [val_main_v71_apply, val_main_v70_apply, val_main_v69_apply, val_main_v68_apply, max_at]
    rfl
  have hi : i = idx_main_v72 (idx_main_v73 (idx_main_v74 i)) ⟨(i 4).val, (i 4).isLt⟩ := funext fun a => Fin.ext (by
    match a with
    | ⟨0, _⟩ => rfl
    | ⟨1, _⟩ => rfl
    | ⟨2, _⟩ => rfl
    | ⟨3, _⟩ => rfl
    | ⟨4, _⟩ => rfl)
  rw [val_main_v75_apply, val_main_v74_apply, val_main_v73_apply, val_main_v72_apply, val_main_cst_15_apply]
  have e1 : val_main_v71 (F := Ideal) x0 x1 x3 i = _ := (congrArg (val_main_v71 (F := Ideal) x0 x1 x3) hi).trans (he _)
  rw [e1]
  simp only [he]
  show Ideal.div _ (Ideal.ofBits .f32 0x00000000#32 + _) = _
  rw [cst_zero, zero_add]

end

end Cert.ReferenceIdeal.Attn

end
-- ==== Proof.Attn.RefOut.lean ====
/- The reference's result: the differential attention of every position, normalised, over the reals. -/
module

public import proofs.«01_k».proof.Proof.Attn.RefRow
public import Idealize.ShloMosaic.Lib.ValueIdxRank1

@[expose] public section

set_option maxRecDepth 16384

noncomputable section

namespace Cert.ReferenceIdeal.Attn
open Idealize.ShloMosaic Idealize.ShloMosaic.TcCoe Idealize.SL.Sem
open Cert.ReferenceIdeal Cert.ReferenceIdeal.Gen Cert.ReferenceIdeal.Read Cert.Attn

/-- The index of a row and a lane of the two small vectors. -/
abbrev lamIdx (i : Fin 2) (x : Fin 64) : S2x64.Idx :=
  fun a => match a with | ⟨0, _⟩ => ⟨i.val, i.isLt⟩ | ⟨1, _⟩ => ⟨x.val, x.isLt⟩

/-- The first component's exponent is the product of the first rows. -/
theorem dot0_at (x4 x5 : Vec Ideal S2x64 .f32) (ar br : Fin 2 → Fin 64 → ℝ)
    (ha : ∀ i x, x4 (lamIdx i x) = (ar i x : EReal)) (hb : ∀ i x, x5 (lamIdx i x) = (br i x : EReal)) (i : S_.Idx) :
    val_main_v9 (F := Ideal) x4 x5 i = ((∑ x, ar 0 x * br 0 x : ℝ) : EReal) := by
  rw [val_main_v9_apply, val_main_cst_apply]
  show Ideal.ofBits .f32 0x00000000#32 + _ = _
  rw [cst_zero, zero_add, ← coe_sum, ← Equiv.sum_comp (ValueIdx.idxEquiv1 (n := 64)).symm]
  refine Finset.sum_congr rfl fun x _ => ?_
  rw [val_main_v8_apply, val_main_v5_apply, val_main_v7_apply, val_main_v4_apply, val_main_v6_apply, EReal.coe_mul, ← ha, ← hb]
  have hx := x.isLt
  have e : idx_main_v4 (idx_main_v5 ((ValueIdx.idxEquiv1 (n := 64)).symm x)) = lamIdx 0 x := funext fun a => Fin.ext (by
    match a with
    | ⟨0, _⟩ => rfl
    | ⟨1, _⟩ => show x.val % 64 = x.val; omega)
  exact congrArg₂ (fun p q : S2x64.Idx => (x4 p * x5 q : EReal)) e e

/-- The second component's exponent is the product of the second rows. -/
theorem dot1_at (x4 x5 : Vec Ideal S2x64 .f32) (ar br : Fin 2 → Fin 64 → ℝ)
    (ha : ∀ i x, x4 (lamIdx i x) = (ar i x : EReal)) (hb : ∀ i x, x5 (lamIdx i x) = (br i x : EReal)) (i : S_.Idx) :
    val_main_v16 (F := Ideal) x4 x5 i = ((∑ x, ar 1 x * br 1 x : ℝ) : EReal) := by
  rw [val_main_v16_apply, val_main_cst_0_apply]
  show Ideal.ofBits .f32 0x00000000#32 + _ = _
  rw [cst_zero, zero_add, ← coe_sum, ← Equiv.sum_comp (ValueIdx.idxEquiv1 (n := 64)).symm]
  refine Finset.sum_congr rfl fun x _ => ?_
  rw [val_main_v15_apply, val_main_v12_apply, val_main_v14_apply, val_main_v11_apply, val_main_v13_apply, EReal.coe_mul, ← ha, ← hb]
  have hx := x.isLt
  have e : idx_main_v11 (idx_main_v12 ((ValueIdx.idxEquiv1 (n := 64)).symm x)) = lamIdx 1 x := funext fun a => Fin.ext (by
    match a with
    | ⟨0, _⟩ => rfl
    | ⟨1, _⟩ => show x.val % 64 = x.val; omega)
  exact congrArg₂ (fun p q : S2x64.Idx => (x4 p * x5 q : EReal)) e e

/-- The scalar weight of the second component. -/
theorem lam_at (x4 x5 : Vec Ideal S2x64 .f32) (ar br : Fin 2 → Fin 64 → ℝ)
    (ha : ∀ i x, x4 (lamIdx i x) = (ar i x : EReal)) (hb : ∀ i x, x5 (lamIdx i x) = (br i x : EReal)) (i : S_.Idx) :
    val_main_v19 (F := Ideal) x4 x5 i
      = ((Real.exp (∑ x, ar 0 x * br 0 x) - Real.exp (∑ x, ar 1 x * br 1 x) + 13421773 / 67108864 : ℝ) : EReal) := by
  rw [val_main_v19_apply, val_main_v18_apply, val_main_v10_apply, val_main_v17_apply, val_main_cst_1_apply,
    dot0_at x4 x5 ar br ha hb, dot1_at x4 x5 ar br ha hb]
  have hx : ∀ p q : EReal, FloatOps.addf (F := Ideal) (φ := .f32) (FloatOps.subf (F := Ideal) (φ := .f32)
      (FloatOps.hostUnary (F := Ideal) (φ := .f32) .exp p) (FloatOps.hostUnary (F := Ideal) (φ := .f32) .exp q))
      (FloatOps.ofBits (F := Ideal) .f32 0x3E4CCCCD#32) = Ideal.exp p - Ideal.exp q + Ideal.ofBits .f32 0x3E4CCCCD#32 := fun p q => rfl
  refine (hx _ _).trans ?_
  have c5 : Ideal.ofBits .f32 0x3E4CCCCD#32 = ((13421773 / 67108864 : ℝ) : EReal) := by
    simp [Ideal.ofBits, Ideal.ieee, -EReal.coe_mul]; norm_num
  rw [c5, Ideal.exp_coe, Ideal.exp_coe, ← EReal.coe_sub, ← EReal.coe_add]

section
variable (x0 x1 x2 : Vec Ideal S8x2048x512 .f32) (x3 : Vec Ideal S32x4 .f32) (x4 x5 : Vec Ideal S2x64 .f32) (x6 : Vec Ideal S128 .f32)
  (qR kR vR : Fin 8 → Fin 4 → Fin 2048 → Fin 128 → ℝ) (T : Fin 4 → Fin 32 → ℝ) (lamr : ℝ)
  (hq : ∀ b i h x, x0 (inIdx b i h x) = (qR b h i x : EReal))
  (hk : ∀ b i h x, x1 (inIdx b i h x) = (kR b h i x : EReal))
  (hv : ∀ b i h x, x2 (inIdx b i h x) = (vR b h i x : EReal))
  (hT : ∀ w h, x3 (tabIdx w h) = (T h w : EReal))
  (hl : ∀ i, val_main_v19 (F := Ideal) x4 x5 i = (lamr : EReal))

/-- The logits of one component of a head, a batch entry and a query, over the reals. -/
abbrev lc (c : Fin 2) (b : Fin 8) (h : Fin 4) (i : Fin 2048) : Fin 2048 → ℝ :=
  logit c (qR b h) (kR b h) (T h) i i.isLt

/-- Where the first component's weights lie. -/
theorem idx0 (i : S8x4x2048x2048.Idx) (a : Fin 5) : (idx_main_v76 (idx_main_v77 i) a).val
    = ![(i 0).val, 0, (i 1).val, (i 2).val, (i 3).val] a := by
  have h0 : (i 0).val < 8 := (i 0).isLt
  have h1 : (i 1).val < 4 := (i 1).isLt
  have h2 : (i 2).val < 2048 := (i 2).isLt
  have h3 : (i 3).val < 2048 := (i 3).isLt
  match a with
  | ⟨0, _⟩ => show ((((i 0).val * 4 + (i 1).val) * 2048 + (i 2).val) * 2048 + (i 3).val) / 16777216 = (i 0).val; omega
  | ⟨1, _⟩ => rfl
  | ⟨2, _⟩ => show ((((i 0).val * 4 + (i 1).val) * 2048 + (i 2).val) * 2048 + (i 3).val) / 4194304 % 4 = (i 1).val; omega
  | ⟨3, _⟩ => show ((((i 0).val * 4 + (i 1).val) * 2048 + (i 2).val) * 2048 + (i 3).val) / 2048 % 2048 = (i 2).val; omega
  | ⟨4, _⟩ => show ((((i 0).val * 4 + (i 1).val) * 2048 + (i 2).val) * 2048 + (i 3).val) % 2048 = (i 3).val; omega

/-- Where the second component's weights lie. -/
theorem idx1 (i : S8x4x2048x2048.Idx) (a : Fin 5) : (idx_main_v78 (idx_main_v79 i) a).val
    = ![(i 0).val, 1, (i 1).val, (i 2).val, (i 3).val] a := by
  have h0 : (i 0).val < 8 := (i 0).isLt
  have h1 : (i 1).val < 4 := (i 1).isLt
  have h2 : (i 2).val < 2048 := (i 2).isLt
  have h3 : (i 3).val < 2048 := (i 3).isLt
  match a with
  | ⟨0, _⟩ => show ((((i 0).val * 4 + (i 1).val) * 2048 + (i 2).val) * 2048 + (i 3).val) / 16777216 = (i 0).val; omega
  | ⟨1, _⟩ => rfl
  | ⟨2, _⟩ => show ((((i 0).val * 4 + (i 1).val) * 2048 + (i 2).val) * 2048 + (i 3).val) / 4194304 % 4 = (i 1).val; omega
  | ⟨3, _⟩ => show ((((i 0).val * 4 + (i 1).val) * 2048 + (i 2).val) * 2048 + (i 3).val) / 2048 % 2048 = (i 2).val; omega
  | ⟨4, _⟩ => show ((((i 0).val * 4 + (i 1).val) * 2048 + (i 2).val) * 2048 + (i 3).val) % 2048 = (i 3).val; omega

/-- The index of a weight. -/
abbrev wIdx (b : Fin 8) (c : Fin 2) (h : Fin 4) (i j : Fin 2048) : S8x2x4x2048x2048.Idx := fun a => match a with
  | ⟨0, _⟩ => ⟨b.val, b.isLt⟩
  | ⟨1, _⟩ => ⟨c.val, c.isLt⟩
  | ⟨2, _⟩ => ⟨h.val, h.isLt⟩
  | ⟨3, _⟩ => ⟨i.val, i.isLt⟩
  | ⟨4, _⟩ => ⟨j.val, j.isLt⟩

include hq hk hT in
/-- The softmax weights by batch entry, component, head, query and key. -/
theorem weight (b : Fin 8) (c : Fin 2) (h : Fin 4) (i j : Fin 2048) :
    val_main_v75 (F := Ideal) x0 x1 x3 (wIdx b c h i j)
      = ((wt (lc qR kR T c b h i) i j / ∑ j', wt (lc qR kR T c b h i) i j' : ℝ) : EReal) :=
  weight_at x0 x1 x3 qR kR T hq hk hT (wIdx b c h i j)

/-- The index of a head's weight. -/
abbrev pIdx (b : Fin 8) (h : Fin 4) (i j : Fin 2048) : S8x4x2048x2048.Idx := fun a => match a with
  | ⟨0, _⟩ => ⟨b.val, b.isLt⟩
  | ⟨1, _⟩ => ⟨h.val, h.isLt⟩
  | ⟨2, _⟩ => ⟨i.val, i.isLt⟩
  | ⟨3, _⟩ => ⟨j.val, j.isLt⟩

include hq hk hT hl in
/-- The difference of the two components' weights. -/
theorem diff_at (b : Fin 8) (h : Fin 4) (i j : Fin 2048) :
    val_main_v82 (F := Ideal) x0 x1 x3 x4 x5 (pIdx b h i j)
      = ((wt (lc qR kR T 0 b h i) i j / ∑ j', wt (lc qR kR T 0 b h i) i j' : ℝ) : EReal)
        - (lamr : EReal) * ((wt (lc qR kR T 1 b h i) i j / ∑ j', wt (lc qR kR T 1 b h i) i j' : ℝ) : EReal) := by
  have e0 : idx_main_v76 (idx_main_v77 (pIdx b h i j)) = wIdx b 0 h i j := funext fun a => Fin.ext ((idx0 _ a).trans (by
    match a with
    | ⟨0, _⟩ => rfl
    | ⟨1, _⟩ => rfl
    | ⟨2, _⟩ => rfl
    | ⟨3, _⟩ => rfl
    | ⟨4, _⟩ => rfl))
  have e1 : idx_main_v78 (idx_main_v79 (pIdx b h i j)) = wIdx b 1 h i j := funext fun a => Fin.ext ((idx1 _ a).trans (by
    match a with
    | ⟨0, _⟩ => rfl
    | ⟨1, _⟩ => rfl
    | ⟨2, _⟩ => rfl
    | ⟨3, _⟩ => rfl
    | ⟨4, _⟩ => rfl))
  rw [val_main_v82_apply, val_main_v81_apply, val_main_v80_apply, hl, val_main_v77_apply, val_main_v76_apply, val_main_v79_apply,
    val_main_v78_apply, e0, e1, weight x0 x1 x3 qR kR T hq hk hT, weight x0 x1 x3 qR kR T hq hk hT]
  rfl

/-- The index of a batch entry, a position, a head and a lane. -/
abbrev oIdx (b : Fin 8) (i : Fin 2048) (h : Fin 4) (d : Fin 128) : S8x2048x4x128.Idx := fun a => match a with
  | ⟨0, _⟩ => ⟨b.val, b.isLt⟩
  | ⟨1, _⟩ => ⟨i.val, i.isLt⟩
  | ⟨2, _⟩ => ⟨h.val, h.isLt⟩
  | ⟨3, _⟩ => ⟨d.val, d.isLt⟩

include hq hk hv hT hl in
/-- The attention before its normalisation is the real differential attention. -/
theorem row_at (b : Fin 8) (i : Fin 2048) (h : Fin 4) (d : Fin 128) :
    val_main_v84 (F := Ideal) x0 x1 x2 x3 x4 x5 (oIdx b i h d)
      = ((row (qR b h) (kR b h) (vR b h) (T h) lamr i i.isLt d : ℝ) : EReal) := by
  rw [val_main_v84_apply, val_main_v83_apply]
  refine Eq.trans (Finset.sum_congr rfl fun j _ => ?_)
    (diff_sum (fun j => wt (lc qR kR T 0 b h i) i j) (fun j => wt (lc qR kR T 1 b h i) i j) (fun j => vR b h j d) lamr
      (∑ j', wt (lc qR kR T 0 b h i) i j') (∑ j', wt (lc qR kR T 1 b h i) i j'))
  have er : ridx_main_v83 (idx_main_v84 (oIdx b i h d)) j = pIdx b h i j := funext fun a => Fin.ext (by
    match a with
    | ⟨0, _⟩ => rfl
    | ⟨1, _⟩ => rfl
    | ⟨2, _⟩ => rfl
    | ⟨3, _⟩ => rfl)
  rw [er, diff_at x0 x1 x3 x4 x5 qR kR T lamr hq hk hT hl, v_at, mul_comm]
  exact congrArg (fun z : EReal => _ * z) (hv b j h d)

include hq hk hv hT hl in
/-- The reference's result at a batch entry, a position, a head and a lane: the attention over its root mean square,
    times the gain and the fixed factor. -/
theorem norm_at (b : Fin 8) (i : Fin 2048) (h : Fin 4) (d : Fin 128) :
    val_main_v99 (F := Ideal) x0 x1 x2 x3 x4 x5 x6 (oIdx b i h d)
      = ((row (qR b h) (kR b h) (vR b h) (T h) lamr i i.isLt d : ℝ) : EReal)
        * Ideal.rsqrt (Ideal.div (∑ x : Fin 128, ((row (qR b h) (kR b h) (vR b h) (T h) lamr i i.isLt x : ℝ) : EReal)
          * ((row (qR b h) (kR b h) (vR b h) (T h) lamr i i.isLt x : ℝ) : EReal)) (Ideal.ofBits .f32 1124073472#32)
          + Ideal.ofBits .f32 897988541#32)
        * x6 (ValueIdx.ix1 d) * Ideal.ofBits .f32 1061997773#32 := by
  rw [val_main_v99_apply, val_main_v98_apply, val_main_cst_19_apply, val_main_v97_apply, val_main_v96_apply, val_main_v95_apply,
    val_main_v94_apply, val_main_v93_apply, val_main_v92_apply, val_main_v91_apply, val_main_v90_apply, val_main_cst_18_apply,
    val_main_v89_apply, val_main_v88_apply, val_main_cst_17_apply, val_main_v87_apply, val_main_v86_apply, val_main_cst_16_apply,
    row_at x0 x1 x2 x3 x4 x5 qR kR vR T lamr hq hk hv hT hl]
  have es : ∀ x : Fin 128, val_main_v85 (F := Ideal) x0 x1 x2 x3 x4 x5 (idx_main_v86 (idx_main_v87 (idx_main_v93 (oIdx b i h d))) x)
      = ((row (qR b h) (kR b h) (vR b h) (T h) lamr i i.isLt x : ℝ) : EReal)
          * ((row (qR b h) (kR b h) (vR b h) (T h) lamr i i.isLt x : ℝ) : EReal) := by
    intro x
    have ei : idx_main_v86 (idx_main_v87 (idx_main_v93 (oIdx b i h d))) x = oIdx b i h x := funext fun a => Fin.ext (by
      match a with
      | ⟨0, _⟩ => rfl
      | ⟨1, _⟩ => rfl
      | ⟨2, _⟩ => rfl
      | ⟨3, _⟩ => rfl)
    rw [ei, val_main_v85_apply, row_at x0 x1 x2 x3 x4 x5 qR kR vR T lamr hq hk hv hT hl]
    rfl
  simp only [es]
  have eg : idx_main_v95 (idx_main_v96 (oIdx b i h d)) = ValueIdx.ix1 d := funext fun a => Fin.ext (by
    match a with
    | ⟨0, _⟩ => rfl)
  rw [eg]
  show _ * Ideal.rsqrt (Ideal.div (Ideal.ofBits .f32 0x00000000#32 + _) _ + _) * _ * _ = _
  rw [cst_zero, zero_add]
  rfl

/-- The batch entry, position, head and lane of a result's row and column. -/
theorem out_idx (y : S16384x512.Idx) (hb : (y 0).val / 2048 < 8) (hi : (y 0).val % 2048 < 2048) (hh : (y 1).val / 128 < 4)
    (hd : (y 1).val % 128 < 128) :
    idx_main_v100 y = oIdx ⟨(y 0).val / 2048, hb⟩ ⟨(y 0).val % 2048, hi⟩ ⟨(y 1).val / 128, hh⟩ ⟨(y 1).val % 128, hd⟩ := by
  have h0 : (y 0).val < 16384 := (y 0).isLt
  have h1 : (y 1).val < 512 := (y 1).isLt
  refine funext fun a => Fin.ext ?_
  match a with
  | ⟨0, _⟩ => show ((y 0).val * 512 + (y 1).val) / 1048576 = (y 0).val / 2048; omega
  | ⟨1, _⟩ => show ((y 0).val * 512 + (y 1).val) / 512 % 2048 = (y 0).val % 2048; omega
  | ⟨2, _⟩ => show ((y 0).val * 512 + (y 1).val) / 128 % 4 = (y 1).val / 128; omega
  | ⟨3, _⟩ => show ((y 0).val * 512 + (y 1).val) % 128 = (y 1).val % 128; omega

end

end Cert.ReferenceIdeal.Attn

end
-- ==== Proof.Attn.Final.lean ====
/- The two programs' results are equal: both are the differential attention over the reals, normalised. -/
module

public import proofs.«01_k».proof.Defs
public import proofs.«01_k».proof.Proof.Attn.Run
public import proofs.«01_k».proof.Proof.Attn.RefOut
public import proofs.«01_k».proof.Proof.Gen.Pre_finite_args
public import Idealize.ShloMosaic.Lib.Claim

@[expose] public section

set_option maxRecDepth 16384

noncomputable section

namespace Cert.Attn
open Idealize.ShloMosaic Idealize.ShloMosaic.TcCoe Idealize.SL.Sem
open Cert.KernelIdeal.Attn (biasArr biasVal biasR fin attn blt ilt hlt elt collt)

/-- A value whose magnitude is below infinity is real. -/
theorem real_of_abs (x : EReal) (h : FloatOps.cmpf (F := Ideal) (φ := .f32) .olt (FloatOps.hostAbsf (F := Ideal) (φ := .f32) x)
    (FloatOps.ofBits (F := Ideal) .f32 0x7F800000#32) = 1#1) : ((x.toReal : ℝ) : EReal) = x := by
  have ht : Ideal.ofBits .f32 0x7F800000#32 = (⊤ : EReal) := by simp [Ideal.ofBits, Ideal.ieee]
  have h1 : Ideal.cmp .olt (max x (-x)) (Ideal.ofBits .f32 0x7F800000#32) = 1#1 := h
  rw [ht] at h1
  have h2 : max x (-x) < (⊤ : EReal) := by
    by_contra hn
    have h3 : Ideal.cmp .olt (max x (-x)) (⊤ : EReal) = 0#1 := by simp [Ideal.cmp, hn]
    rw [h3] at h1
    exact absurd h1 (by decide)
  have h3 := max_lt_iff.mp h2
  refine EReal.coe_toReal h3.1.ne fun hb => ?_
  rw [hb] at h3
  exact absurd h3.2 (by simp)

/-- The two spellings of an argument's index. -/
theorem in_eq (b : Fin 8) (i : Fin 2048) (h : Fin 4) (x : Fin 128) :
    Cert.ReferenceIdeal.Attn.inIdx b i h x = ix3 b i ⟨128 * (h : ℕ) + (x : ℕ), collt h x⟩ := funext fun a => Fin.ext (by
  match a with
  | ⟨0, _⟩ => rfl
  | ⟨1, _⟩ => rfl
  | ⟨2, _⟩ => rfl)

/-- The two spellings of a table's index. -/
theorem tab_eq (w : Fin 32) (h : Fin 4) : Cert.ReferenceIdeal.Attn.tabIdx w h = ix2 w h := funext fun a => Fin.ext (by
  match a with
  | ⟨0, _⟩ => rfl
  | ⟨1, _⟩ => rfl)

/-- The two spellings of a small vector's index. -/
theorem lamIdx_eq (i : Fin 2) (x : Fin 64) : Cert.ReferenceIdeal.Attn.lamIdx i x = ix2 i x := funext fun a => Fin.ext (by
  match a with
  | ⟨0, _⟩ => rfl
  | ⟨1, _⟩ => rfl)

/-- The two spellings of a gain's index. -/
theorem gain_eq (d : Fin 128) : (ValueIdx.ix1 d : (⟨1, ![128]⟩ : Shape).Idx) = ix1 d := funext fun a => Fin.ext (by
  match a with
  | ⟨0, _⟩ => rfl)

/-- The bias at a distance, of a real table. -/
theorem bias_real (t : Fin 32 → EReal) (T : Fin 32 → ℝ) (h : ∀ w, t w = (T w : EReal)) (m : ℕ) :
    biasVal t m = ((biasR T m : ℝ) : EReal) := by
  unfold biasVal biasR
  rw [h, h, ← EReal.coe_sub, ← EReal.coe_mul]

section
open Cert.KernelIdeal Cert.KernelIdeal.Gen
variable (m : (ℓ : Loc nD τ sig) → Buf (Elt Ideal) ℓ) (ρ : Dev nD → PrngReg) (c : Dev nD)
  (x0 x1 x2 : Vec Ideal S8x2048x512 .f32) (x3 : Vec Ideal S32x4 .f32) (x4 x5 : Vec Ideal S2x64 .f32) (x6 : Vec Ideal S128 .f32)
  (e0 : m ((c : Thread nD τ).loc main_arg0) = x0) (e1 : m ((c : Thread nD τ).loc main_arg1) = x1) (e2 : m ((c : Thread nD τ).loc main_arg2) = x2)
  (e3 : m ((c : Thread nD τ).loc main_arg3) = x3) (e4 : m ((c : Thread nD τ).loc main_arg4) = x4) (e5 : m ((c : Thread nD τ).loc main_arg5) = x5)
  (e6 : m ((c : Thread nD τ).loc main_arg6) = x6)
  (h0 : ∀ j, (((x0 j : EReal).toReal : ℝ) : EReal) = x0 j) (h1 : ∀ j, (((x1 j : EReal).toReal : ℝ) : EReal) = x1 j)
  (h2 : ∀ j, (((x2 j : EReal).toReal : ℝ) : EReal) = x2 j) (h3 : ∀ j, (((x3 j : EReal).toReal : ℝ) : EReal) = x3 j)
  (h4 : ∀ j, (((x4 j : EReal).toReal : ℝ) : EReal) = x4 j) (h5 : ∀ j, (((x5 j : EReal).toReal : ℝ) : EReal) = x5 j)

/-- The real arrays of an argument, by batch entry, head, position and lane. -/
def realIn (x : Vec Ideal S8x2048x512 .f32) (b : Fin 8) (h : Fin 4) (i : Fin 2048) (d : Fin 128) : ℝ :=
  (x (ix3 b i ⟨128 * (h : ℕ) + (d : ℕ), collt h d⟩) : EReal).toReal

/-- The real table of biases, by head and bucket. -/
def realTab (x : Vec Ideal S32x4 .f32) (h : Fin 4) (w : Fin 32) : ℝ := (x (ix2 w h) : EReal).toReal

/-- The real small vectors. -/
def realLam (x : Vec Ideal S2x64 .f32) (i : Fin 2) (j : Fin 64) : ℝ := (x (ix2 i j) : EReal).toReal

/-- The real weight of the second component. -/
def lamR (a b : Vec Ideal S2x64 .f32) : ℝ :=
  Real.exp (∑ x, realLam a 0 x * realLam b 0 x) - Real.exp (∑ x, realLam a 1 x * realLam b 1 x) + 13421773 / 67108864

include e0 e1 e2 e3 e4 e5 h0 h1 h2 h3 h4 h5 in
/-- The kernel's result over its arguments. -/
theorem kernel_res : (dat1 (V3 m ρ) c).arrAt 7 cfg1.N = (fun y : S16384x512.Idx =>
    attn (realIn x0) (realIn x1) (realIn x2) (realTab x3) (lamR x4 x5) (V3 m ρ c main_v10)
      ⟨(y 0 : ℕ) / 2048, blt (y 0)⟩ ⟨(y 1 : ℕ) / 128, hlt (y 1)⟩ ⟨(y 0 : ℕ) % 2048, ilt (y 0)⟩ ⟨(y 1 : ℕ) % 128, elt (y 1)⟩ : S16384x512.Idx → EReal) := by
  have hb : V3 m ρ c main_v9 = biasArr x3 := (Cert.KernelIdeal.Attn.V3_bias m ρ c).trans (by rw [e3])
  refine Cert.KernelIdeal.Attn.arr1 (V3 m ρ) c (realIn x0) (realIn x1) (realIn x2) (realTab x3) (lamR x4 x5) ?_ ?_ ?_ ?_ ?_ ?_
  · intro h r x
    refine (Cert.KernelIdeal.Attn.V3_q m ρ c h r x).trans ?_
    rw [e0]
    exact (h0 _).symm
  · intro h r x
    refine (Cert.KernelIdeal.Attn.V3_k m ρ c h r x).trans ?_
    rw [e1]
    exact (h1 _).symm
  · intro h r x
    refine (Cert.KernelIdeal.Attn.V3_v m ρ c h r x).trans ?_
    rw [e2]
    exact (h2 _).symm
  · intro h r x
    rw [hb]
    show (if (0 : ℕ) = 0 then (if (x : ℕ) ≤ (r : ℕ) then biasVal (fun i => x3 (ix2 i h)) ((r : ℕ) - (x : ℕ)) else ⊥) else _) = _
    rw [if_pos rfl, bias_real (fun i => x3 (ix2 i h)) (realTab x3 h) (fun w => (h3 _).symm)]
  · intro h r x
    rw [hb]
    show (if (1 : ℕ) = 0 then _ else biasVal (fun i => x3 (ix2 i h)) (256 + (r : ℕ) - (x : ℕ))) = _
    rw [if_neg (by decide), bias_real (fun i => x3 (ix2 i h)) (realTab x3 h) (fun w => (h3 _).symm)]
  · have a4 : V3 m ρ c main_arg4 = x4 := (W3_args m ρ c main_arg4 (by decide)).trans e4
    have a5 : V3 m ρ c main_arg5 = x5 := (W3_args m ρ c main_arg5 (by decide)).trans e5
    rw [a4, a5]
    exact Cert.KernelIdeal.Attn.lam_at x4 x5 (realLam x4) (realLam x5) (fun i x => (h4 _).symm) (fun i x => (h5 _).symm)

include h0 h1 h2 h3 h4 h5 in
/-- The reference's result over its arguments. -/
theorem ref_res (y : S16384x512.Idx) : Cert.ReferenceIdeal.Read.val_main_v101 (F := Ideal) x0 x1 x2 x3 x4 x5 x6 y
    = ((row (realIn x0 ⟨(y 0 : ℕ) / 2048, blt (y 0)⟩ ⟨(y 1 : ℕ) / 128, hlt (y 1)⟩) (realIn x1 ⟨(y 0 : ℕ) / 2048, blt (y 0)⟩ ⟨(y 1 : ℕ) / 128, hlt (y 1)⟩)
          (realIn x2 ⟨(y 0 : ℕ) / 2048, blt (y 0)⟩ ⟨(y 1 : ℕ) / 128, hlt (y 1)⟩) (realTab x3 ⟨(y 1 : ℕ) / 128, hlt (y 1)⟩) (lamR x4 x5) _ (ilt (y 0)) ⟨(y 1 : ℕ) % 128, elt (y 1)⟩ : ℝ) : EReal)
        * Ideal.rsqrt (Ideal.div (∑ x : Fin 128, ((row (realIn x0 ⟨(y 0 : ℕ) / 2048, blt (y 0)⟩ ⟨(y 1 : ℕ) / 128, hlt (y 1)⟩) (realIn x1 ⟨(y 0 : ℕ) / 2048, blt (y 0)⟩ ⟨(y 1 : ℕ) / 128, hlt (y 1)⟩)
          (realIn x2 ⟨(y 0 : ℕ) / 2048, blt (y 0)⟩ ⟨(y 1 : ℕ) / 128, hlt (y 1)⟩) (realTab x3 ⟨(y 1 : ℕ) / 128, hlt (y 1)⟩) (lamR x4 x5) _ (ilt (y 0)) x : ℝ) : EReal)
          * ((row (realIn x0 ⟨(y 0 : ℕ) / 2048, blt (y 0)⟩ ⟨(y 1 : ℕ) / 128, hlt (y 1)⟩) (realIn x1 ⟨(y 0 : ℕ) / 2048, blt (y 0)⟩ ⟨(y 1 : ℕ) / 128, hlt (y 1)⟩)
          (realIn x2 ⟨(y 0 : ℕ) / 2048, blt (y 0)⟩ ⟨(y 1 : ℕ) / 128, hlt (y 1)⟩) (realTab x3 ⟨(y 1 : ℕ) / 128, hlt (y 1)⟩) (lamR x4 x5) _ (ilt (y 0)) x : ℝ) : EReal)) (Ideal.ofBits .f32 1124073472#32)
          + Ideal.ofBits .f32 897988541#32)
        * x6 (ix1 ⟨(y 1 : ℕ) % 128, elt (y 1)⟩) * Ideal.ofBits .f32 1061997773#32 := by
  have hq : ∀ (x : Vec Ideal S8x2048x512 .f32) (hx : ∀ j, (((x j : EReal).toReal : ℝ) : EReal) = x j) (b : Fin 8) (i : Fin 2048) (h : Fin 4) (d : Fin 128),
      x (Cert.ReferenceIdeal.Attn.inIdx b i h d) = (realIn x b h i d : EReal) := fun x hx b i h d => by rw [in_eq]; exact (hx _).symm
  have hT : ∀ w h, x3 (Cert.ReferenceIdeal.Attn.tabIdx w h) = (realTab x3 h w : EReal) := fun w h => by rw [tab_eq]; exact (h3 _).symm
  have hl : ∀ i, Cert.ReferenceIdeal.Read.val_main_v19 (F := Ideal) x4 x5 i = (lamR x4 x5 : EReal) :=
    Cert.ReferenceIdeal.Attn.lam_at x4 x5 (realLam x4) (realLam x5) (fun i x => by rw [lamIdx_eq]; exact (h4 _).symm)
      (fun i x => by rw [lamIdx_eq]; exact (h5 _).symm)
  have key := Cert.ReferenceIdeal.Attn.norm_at x0 x1 x2 x3 x4 x5 x6 (realIn x0) (realIn x1) (realIn x2) (realTab x3) (lamR x4 x5)
    (hq x0 h0) (hq x1 h1) (hq x2 h2) hT hl ⟨(y 0 : ℕ) / 2048, blt (y 0)⟩ ⟨(y 0 : ℕ) % 2048, ilt (y 0)⟩ ⟨(y 1 : ℕ) / 128, hlt (y 1)⟩ ⟨(y 1 : ℕ) % 128, elt (y 1)⟩
  rw [← gain_eq]
  refine Eq.trans ?_ key
  rw [Cert.ReferenceIdeal.Read.val_main_v101_apply, Cert.ReferenceIdeal.Read.val_main_v100_apply,
    Cert.ReferenceIdeal.Attn.out_idx y (blt (y 0)) (ilt (y 0)) (hlt (y 1)) (elt (y 1))]
  rfl

include e0 e1 e2 e3 e4 e5 e6 h0 h1 h2 h3 h4 h5 in
/-- The kernel's result and the reference's are one array. -/
theorem res_eq : (dat1 (V3 m ρ) c).arrAt 7 cfg1.N = Cert.ReferenceIdeal.Read.val_main_v101 (F := Ideal) x0 x1 x2 x3 x4 x5 x6 := by
  rw [kernel_res m ρ c x0 x1 x2 x3 x4 x5 e0 e1 e2 e3 e4 e5 h0 h1 h2 h3 h4 h5]
  funext y
  refine Eq.trans ?_ (ref_res x0 x1 x2 x3 x4 x5 x6 h0 h1 h2 h3 h4 h5 y).symm
  have hg := Cert.KernelIdeal.Attn.V3_gain m ρ c ⟨(y 1 : ℕ) % 128, elt (y 1)⟩
  rw [e6] at hg
  unfold attn fin
  rw [hg]
end

end Cert.Attn

end
-- ==== Proof.Attn.Claims.lean ====
/- The claims about the attention: its reference's frame, the named constants, and the equality of the results. -/
module

public import proofs.«01_k».proof.Proof.Attn.Final
public import proofs.«01_k».proof.Proof.Gen.Pre_finite_args
public import Idealize.ShloMosaic.Init

@[expose] public section

set_option maxRecDepth 16384

noncomputable section

namespace Cert.Attn
open Idealize.ShloMosaic Idealize.ShloMosaic.TcCoe Idealize.SL.Sem

/-- The reference runs, leaves its arguments alone and ends quiet. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants are what the patterns round. -/
theorem preserved : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "qscale" .f32 0x3E38AA3B#32 (((1 / 8) * (Real.log 2)⁻¹ : ℝ) : EReal) rfl⟩

/-- The kernel's result is the reference's, of finite arguments that agree. -/
theorem algebraic : Cert.algebraic_KernelIdeal_ReferenceIdeal_pre_finite_args := by
  intro m ρ m' ρ' hpre hag
  refine ⟨fun c => (Cert.KernelIdeal.Gen.dat1 (Cert.KernelIdeal.Gen.V3 m ρ) c).arrAt 7 Cert.KernelIdeal.cfg1.N, ?_, ?_⟩
  · refine (θ_run Cert.KernelIdeal.defs _ _).mono (fun r h c => ?_) (Cert.KernelIdeal.Attn.run (F := Ideal) m ρ)
    obtain ⟨a0, a1, a2, a3, a4, a5, a6, hv⟩ := h.1 c
    exact ⟨hv, a0, a1, a2, a3, a4, a5, a6⟩
  · refine (θ_run Cert.ReferenceIdeal.defs _ _).mono (fun r h c => ⟨(h c).1.trans ?_, (h c).2⟩) (Cert.ReferenceIdeal.Value.run (F := Ideal) m' ρ')
    refine (Cert.ReferenceIdeal.Read.val_main_v101_eq (F := Ideal) (StableHlo.launchContents m' c)).trans ?_
    obtain ⟨g0, g1, g2, g3, g4, g5, g6⟩ := hag c
    obtain ⟨p0, p1, p2, p3, p4, p5⟩ := hpre c
    simp only [StableHlo.launchContents_devRef]
    exact (res_eq m ρ c _ _ _ _ _ _ _ g0.symm g1.symm g2.symm g3.symm g4.symm g5.symm g6.symm
      (fun j => by rw [g0]; exact real_of_abs _ (congrFun p0 j)) (fun j => by rw [g1]; exact real_of_abs _ (congrFun p1 j))
      (fun j => by rw [g2]; exact real_of_abs _ (congrFun p2 j)) (fun j => by rw [g3]; exact real_of_abs _ (congrFun p3 j))
      (fun j => by rw [g4]; exact real_of_abs _ (congrFun p4 j)) (fun j => by rw [g5]; exact real_of_abs _ (congrFun p5 j))).symm

end Cert.Attn

end
-- ==== Proof.Ffn.Ideal.Setup.lean ====
module

public import proofs.«01_k».proof.Proof.Gen.Kernel2Ideal.Frame
public import proofs.«01_k».proof.Proof.Gen.Kernel2Ideal.Skeleton
public import Idealize.ShloMosaic.Lib.Claim

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 7 rfl).trans ((hA c 7).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 32 — decided over the grid. -/
theorem hcond0_0 : ∀ t : Fin cfg0.N, cond0_0 (grid0.coords t) ↔ t.val < 32 :=
  (by decide +kernel : ∀ t : Fin grid0.N, cond0_0 (grid0.coords t) ↔ t.val < 32)

/-- The condition of the body's `scf.if` 1 (`k0_h2`), from the grid coordinates (the skeleton's scalar
    chain substituted). -/
abbrev cond0_1 (i : grid0.Coords) : Prop := k0_cond2 i = 1#1
/-- It holds at the points from point 32 on — decided over the grid. -/
theorem hcond0_1 : ∀ t : Fin cfg0.N, cond0_1 (grid0.coords t) ↔ 32 ≤ t.val :=
  (by decide +kernel : ∀ t : Fin grid0.N, cond0_1 (grid0.coords t) ↔ 32 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x1024 .f32 := win0_0.stage (cfg0.slots t 0)
/-- Window 0's stage is a whole buffer. -/
abbrev hs0_0 (t : Fin cfg0.N) : (ms0_0 t).IsWhole := hstage0_0 ((cfg0.slots t 0).cast nbuf0_0)
/-- Window 1's stage at a point. -/
abbrev ms0_1 (t : Fin cfg0.N) : Memref sig .tc .vmem S512x512 .bf16 := win0_1.stage (cfg0.slots t 1)
/-- Window 1's stage is a whole buffer. -/
abbrev hs0_1 (t : Fin cfg0.N) : (ms0_1 t).IsWhole := hstage0_1 ((cfg0.slots t 1).cast nbuf0_1)
/-- Window 2's stage at a point. -/
abbrev ms0_2 (t : Fin cfg0.N) : Memref sig .tc .vmem S512x512 .bf16 := win0_2.stage (cfg0.slots t 2)
/-- Window 2's stage is a whole buffer. -/
abbrev hs0_2 (t : Fin cfg0.N) : (ms0_2 t).IsWhole := hstage0_2 ((cfg0.slots t 2).cast nbuf0_2)
/-- Window 3's stage at a point. -/
abbrev ms0_3 (t : Fin cfg0.N) : Memref sig .tc .vmem S512x1024 .f32 := win0_3.stage (cfg0.slots t 3)
/-- Window 3's stage is a whole buffer. -/
abbrev hs0_3 (t : Fin cfg0.N) : (ms0_3 t).IsWhole := hstage0_3 ((cfg0.slots t 3).cast nbuf0_3)
/-- Window 4's stage at a point. -/
abbrev ms0_4 (t : Fin cfg0.N) : Memref sig .tc .vmem S512x512 .f32 := win0_4.stage (cfg0.slots t 4)
/-- Window 4's stage is a whole buffer. -/
abbrev hs0_4 (t : Fin cfg0.N) : (ms0_4 t).IsWhole := hstage0_4 ((cfg0.slots t 4).cast nbuf0_4)
/-- Window 5's stage at a point. -/
abbrev ms0_5 (t : Fin cfg0.N) : Memref sig .tc .vmem S512x512 .f32 := win0_5.stage (cfg0.slots t 5)
/-- Window 5's stage is a whole buffer. -/
abbrev hs0_5 (t : Fin cfg0.N) : (ms0_5 t).IsWhole := hstage0_5 ((cfg0.slots t 5).cast nbuf0_5)
/-- Window 6's stage at a point. -/
abbrev ms0_6 (t : Fin cfg0.N) : Memref sig .tc .vmem S1024x1024 .bf16 := win0_6.stage (cfg0.slots t 6)
/-- Window 6's stage is a whole buffer. -/
abbrev hs0_6 (t : Fin cfg0.N) : (ms0_6 t).IsWhole := hstage0_6 ((cfg0.slots t 6).cast nbuf0_6)
/-- Window 7's stage at a point. -/
abbrev ms0_7 (t : Fin cfg0.N) : Memref sig .tc .vmem S6x1024 .f32 := win0_7.stage (cfg0.slots t 7)
/-- Window 7's stage is a whole buffer. -/
abbrev hs0_7 (t : Fin cfg0.N) : (ms0_7 t).IsWhole := hstage0_7 ((cfg0.slots t 7).cast nbuf0_7)
/-- Window 8's stage at a point. -/
abbrev ms0_8 (t : Fin cfg0.N) : Memref sig .tc .vmem S1024x5632 .bf16 := win0_8.stage (cfg0.slots t 8)
/-- Window 8's stage is a whole buffer. -/
abbrev hs0_8 (t : Fin cfg0.N) : (ms0_8 t).IsWhole := hstage0_8 ((cfg0.slots t 8).cast nbuf0_8)
/-- Window 9's stage at a point. -/
abbrev ms0_9 (t : Fin cfg0.N) : Memref sig .tc .vmem S2816x1024 .bf16 := win0_9.stage (cfg0.slots t 9)
/-- Window 9's stage is a whole buffer. -/
abbrev hs0_9 (t : Fin cfg0.N) : (ms0_9 t).IsWhole := hstage0_9 ((cfg0.slots t 9).cast nbuf0_9)
/-- Window 10's stage at a point. -/
abbrev ms0_10 (t : Fin cfg0.N) : Memref sig .tc .vmem S512x1024 .f32 := win0_10.stage (cfg0.slots t 10)
/-- Window 10's stage is a whole buffer. -/
abbrev hs0_10 (t : Fin cfg0.N) : (ms0_10 t).IsWhole := hstage0_10 ((cfg0.slots t 10).cast nbuf0_10)
/-- Window 11's stage at a point. -/
abbrev ms0_11 (t : Fin cfg0.N) : Memref sig .tc .vmem S512x1024 .f32 := win0_11.stage (cfg0.slots t 11)
/-- Window 11's stage is a whole buffer. -/
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S512x2816 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel2Ideal.Ffn

end
-- ==== Proof.Ffn.Ideal.RunA.lean ====
module

public import proofs.«01_k».proof.Proof.Ffn.Ideal.Setup

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in output 10 and in the scratch block when it takes branch A, as pieces, with the proof that on
    whole staging blocks it runs to the continuation, its inputs as they were. -/
noncomputable def kernelRun0_A (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1024x1024 .bf16) (harg7 : arg7.IsWhole) (arg8 : Memref sig .tc .vmem S6x1024 .f32) (harg8 : arg8.IsWhole) (arg9 : Memref sig .tc .vmem S1024x5632 .bf16) (harg9 : arg9.IsWhole) (arg10 : Memref sig .tc .vmem S2816x1024 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x2816 .bf16) (harg13 : arg13.IsWhole) (hc0 : cond0_0 i) (hc1 : ¬cond0_1 i)
    (x0 : Vec F S512x1024 .f32) (x1 : Vec F S512x512 .bf16) (x2 : Vec F S512x512 .bf16) (x3 : Vec F S512x1024 .f32) (x4 : Vec F S512x512 .f32) (x5 : Vec F S512x512 .f32) (x6 : Vec F S1024x1024 .bf16) (x7 : Vec F S6x1024 .f32) (x8 : Vec F S1024x5632 .bf16) (x9 : Vec F S2816x1024 .bf16) :
    Σ' (L10 : List (View.Piece (Elt F) S512x1024 .f32)), { LT0 : List (View.Piece (Elt F) S512x2816 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ d, owns (c : Thread nD τ) arg12 fullShare d) ∗ (∃ f, arg13.view.loc (c : Thread nD τ) ↦[arg13.view.set]{fullShare} arg13.view.writes (Elt F) f LT0)) -∗ K ⟨⟩))
          ⊢ wp frame (wpE (defs₀ (F := F)) Variants.none c none) E (cc0_ffn_mix i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_ffn_mix_eq_skeleton]; unfold cc0_ffn_mix_skel
    simp only [k0_part5_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _, _; isplitr; swap; · iexact H11
      ipureintro; rfl
    iexists _; iexact HS0

end Cert.Kernel2Ideal.Ffn

end
-- ==== Proof.Ffn.Ideal.RunB.lean ====
module

public import proofs.«01_k».proof.Proof.Ffn.Ideal.RunA

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in output 11 and in the scratch block when it takes branch B, as pieces, with the proof that on
    whole staging blocks it runs to the continuation, its inputs as they were and the other output untouched. -/
noncomputable def kernelRun0_B (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1024x1024 .bf16) (harg7 : arg7.IsWhole) (arg8 : Memref sig .tc .vmem S6x1024 .f32) (harg8 : arg8.IsWhole) (arg9 : Memref sig .tc .vmem S1024x5632 .bf16) (harg9 : arg9.IsWhole) (arg10 : Memref sig .tc .vmem S2816x1024 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x2816 .bf16) (harg13 : arg13.IsWhole) (hc0 : ¬cond0_0 i) (hc1 : cond0_1 i)
    (x0 : Vec F S512x1024 .f32) (x1 : Vec F S512x512 .bf16) (x2 : Vec F S512x512 .bf16) (x3 : Vec F S512x1024 .f32) (x4 : Vec F S512x512 .f32) (x5 : Vec F S512x512 .f32) (x6 : Vec F S1024x1024 .bf16) (x7 : Vec F S6x1024 .f32) (x8 : Vec F S1024x5632 .bf16) (x9 : Vec F S2816x1024 .bf16) :
    Σ' (L11 : List (View.Piece (Elt F) S512x1024 .f32)), { LT0 : List (View.Piece (Elt F) S512x2816 .bf16) //
      ∀ (E : Set ℕ) (K : PUnit → sProp 𝕄) (x10 : Vec F S512x1024 .f32),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LT0)) -∗ K ⟨⟩))
          ⊢ wp frame (wpE (defs₀ (F := F)) Variants.none c none) E (cc0_ffn_mix i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K x10 => ?run⟩
  case run =>
    simp only [cc0_ffn_mix_eq_skeleton]; unfold cc0_ffn_mix_skel
    simp only [k0_part10_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    iexists _; iexact HS0

end Cert.Kernel2Ideal.Ffn

end
-- ==== Proof.Ffn.Ideal.Frame.lean ====
module

public import proofs.«01_k».proof.Proof.Ffn.Ideal.RunB
public import Idealize.ShloMosaic.Lib.Pipeline.DatRel
public import Idealize.ShloMosaic.Lib.Pipeline.ArrRel

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a branch leaves in its output block -/

/-- Outputs 10 and 11 as views of a block. -/
abbrev VO10 : View sig .tc .vmem S512x1024 .f32 := (Memref.whole cc0_stg10_0 : Memref sig .tc .vmem S512x1024 .f32).view
/-- The twelfth window's array. -/
abbrev VO11 : View sig .tc .vmem S512x1024 .f32 := (Memref.whole cc0_stg11_0 : Memref sig .tc .vmem S512x1024 .f32).view

/-- Branch A's one store covers output 10's block. -/
theorem cover_A (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1024x1024 .bf16) (harg7 : arg7.IsWhole) (arg8 : Memref sig .tc .vmem S6x1024 .f32) (harg8 : arg8.IsWhole) (arg9 : Memref sig .tc .vmem S1024x5632 .bf16) (harg9 : arg9.IsWhole) (arg10 : Memref sig .tc .vmem S2816x1024 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x2816 .bf16) (harg13 : arg13.IsWhole) (hc0 : cond0_0 i) (hc1 : ¬cond0_1 i)
    (x0 : Vec F S512x1024 .f32) (x1 : Vec F S512x512 .bf16) (x2 : Vec F S512x512 .bf16) (x3 : Vec F S512x1024 .f32) (x4 : Vec F S512x512 .f32) (x5 : Vec F S512x512 .f32) (x6 : Vec F S1024x1024 .bf16) (x7 : Vec F S6x1024 .f32) (x8 : Vec F S1024x5632 .bf16) (x9 : Vec F S2816x1024 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1 S512x1024.size (by sl_kernel_rfl) y

/-- What branch A leaves in output 10's block. -/
def out_A (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1024x1024 .bf16) (harg7 : arg7.IsWhole) (arg8 : Memref sig .tc .vmem S6x1024 .f32) (harg8 : arg8.IsWhole) (arg9 : Memref sig .tc .vmem S1024x5632 .bf16) (harg9 : arg9.IsWhole) (arg10 : Memref sig .tc .vmem S2816x1024 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x2816 .bf16) (harg13 : arg13.IsWhole) (hc0 : cond0_0 i) (hc1 : ¬cond0_1 i)
    (x0 : Vec F S512x1024 .f32) (x1 : Vec F S512x512 .bf16) (x2 : Vec F S512x512 .bf16) (x3 : Vec F S512x1024 .f32) (x4 : Vec F S512x512 .f32) (x5 : Vec F S512x512 .f32) (x6 : Vec F S1024x1024 .bf16) (x7 : Vec F S6x1024 .f32) (x8 : Vec F S1024x5632 .bf16) (x9 : Vec F S2816x1024 .bf16) : Vec F S512x1024 .f32 :=
  VO10.read (Elt F) (VO10.writes (Elt F) VO10.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1)

/-- Branch B's one store covers output 11's block. -/
theorem cover_B (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1024x1024 .bf16) (harg7 : arg7.IsWhole) (arg8 : Memref sig .tc .vmem S6x1024 .f32) (harg8 : arg8.IsWhole) (arg9 : Memref sig .tc .vmem S1024x5632 .bf16) (harg9 : arg9.IsWhole) (arg10 : Memref sig .tc .vmem S2816x1024 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x2816 .bf16) (harg13 : arg13.IsWhole) (hc0 : ¬cond0_0 i) (hc1 : cond0_1 i)
    (x0 : Vec F S512x1024 .f32) (x1 : Vec F S512x512 .bf16) (x2 : Vec F S512x512 .bf16) (x3 : Vec F S512x1024 .f32) (x4 : Vec F S512x512 .f32) (x5 : Vec F S512x512 .f32) (x6 : Vec F S1024x1024 .bf16) (x7 : Vec F S6x1024 .f32) (x8 : Vec F S1024x5632 .bf16) (x9 : Vec F S2816x1024 .bf16) (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1 S512x1024.size (by sl_kernel_rfl) y

/-- What branch B leaves in output 11's block. -/
def out_B (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1024x1024 .bf16) (harg7 : arg7.IsWhole) (arg8 : Memref sig .tc .vmem S6x1024 .f32) (harg8 : arg8.IsWhole) (arg9 : Memref sig .tc .vmem S1024x5632 .bf16) (harg9 : arg9.IsWhole) (arg10 : Memref sig .tc .vmem S2816x1024 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x2816 .bf16) (harg13 : arg13.IsWhole) (hc0 : ¬cond0_0 i) (hc1 : cond0_1 i)
    (x0 : Vec F S512x1024 .f32) (x1 : Vec F S512x512 .bf16) (x2 : Vec F S512x512 .bf16) (x3 : Vec F S512x1024 .f32) (x4 : Vec F S512x512 .f32) (x5 : Vec F S512x512 .f32) (x6 : Vec F S1024x1024 .bf16) (x7 : Vec F S6x1024 .f32) (x8 : Vec F S1024x5632 .bf16) (x9 : Vec F S2816x1024 .bf16) : Vec F S512x1024 .f32 :=
  VO11.read (Elt F) (VO11.writes (Elt F) VO11.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1)

/-- The prompt tile's rows at a point of the first branch. -/
def resA (c : Dev nD) (t : Fin cfg0.N) (h : t.val < 32) : Vec F S512x1024 .f32 :=
  out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h) (fun h' => absurd ((hcond0_1 t).mp h') (by omega)) (iblk m c 0 t) (iblk m c 1 t) (iblk m c 2 t) (iblk m c 3 t) (iblk m c 4 t) (iblk m c 5 t) (iblk m c 6 t) (iblk m c 7 t) (iblk m c 8 t) (iblk m c 9 t)

/-- The sample tile's rows at a point of the second branch. -/
def resB (c : Dev nD) (t : Fin cfg0.N) (h : 32 ≤ t.val) : Vec F S512x1024 .f32 :=
  out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h' => absurd ((hcond0_0 t).mp h') (by omega)) ((hcond0_1 t).mpr h) (iblk m c 0 t) (iblk m c 1 t) (iblk m c 2 t) (iblk m c 3 t) (iblk m c 4 t) (iblk m c 5 t) (iblk m c 6 t) (iblk m c 7 t) (iblk m c 8 t) (iblk m c 9 t)

/-- The last point of the first branch up to `t`. -/
def ptA (t : Fin cfg0.N) : Fin cfg0.N := ⟨min t.val 31, lt_of_le_of_lt (Nat.min_le_left _ _) t.isLt⟩
/-- It is a prompt point. -/
theorem ptA_lt (t : Fin cfg0.N) : (ptA t).val < 32 := by show min t.val 31 < 32; omega
/-- At a prompt point it is the point itself. -/
theorem ptA_of_lt (t : Fin cfg0.N) (h : t.val < 32) : ptA t = t := Fin.ext (by show min t.val 31 = t.val; omega)
/-- Past the prompt points it stays where it was. -/
theorem ptA_pred (t : Fin cfg0.N) (h : 32 ≤ t.val) : ptA ⟨t.val - 1, Nat.lt_of_le_of_lt (Nat.sub_le _ _) t.isLt⟩ = ptA t :=
  Fin.ext (by show min (t.val - 1) 31 = min t.val 31; omega)

/-- What output 10's block holds after point `t`: the last prompt tile's rows. -/
def held10 (c : Dev nD) (t : Fin cfg0.N) : Vec F S512x1024 .f32 := resA m c (ptA t) (ptA_lt t)
/-- A point of the first branch is all that its rows depend on. -/
theorem resA_congr (c : Dev nD) {t t' : Fin cfg0.N} (e : t = t') (h : t.val < 32) (h' : t'.val < 32) : resA m c t h = resA m c t' h' := by
  subst e; rfl
/-- At a prompt point it is the tile the point writes. -/
theorem held10_of_lt (c : Dev nD) (t : Fin cfg0.N) (h : t.val < 32) : held10 m c t = resA m c t h := resA_congr m c (ptA_of_lt t h) _ _
/-- Past the prompt points it is what the point before held. -/
theorem held10_pred (c : Dev nD) (t : Fin cfg0.N) (h : 32 ≤ t.val) :
    held10 m c ⟨t.val - 1, Nat.lt_of_le_of_lt (Nat.sub_le _ _) t.isLt⟩ = held10 m c t := resA_congr m c (ptA_pred t h) _ _

/-! ## The pipeline's proof data -/

/-- The window of which only a predicate is kept. -/
def pred0 : Fin 12 → Bool := fun w => w.val == 11

/-- The proof data on core `c`: after point `t` each input's block as fetched, and output 10's at the last prompt tile's rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => held10 m c t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 4 holds after a point. -/
theorem after0_4 (c : Dev nD) (t : Fin cfg0.N) : (dats m 0 c).after 4 t = iblk m c 4 t := by dsimp only [dats]
/-- What window 5 holds after a point. -/
theorem after0_5 (c : Dev nD) (t : Fin cfg0.N) : (dats m 0 c).after 5 t = iblk m c 5 t := by dsimp only [dats]
/-- What window 6 holds after a point. -/
theorem after0_6 (c : Dev nD) (t : Fin cfg0.N) : (dats m 0 c).after 6 t = iblk m c 6 t := by dsimp only [dats]
/-- What window 7 holds after a point. -/
theorem after0_7 (c : Dev nD) (t : Fin cfg0.N) : (dats m 0 c).after 7 t = iblk m c 7 t := by dsimp only [dats]
/-- What window 8 holds after a point. -/
theorem after0_8 (c : Dev nD) (t : Fin cfg0.N) : (dats m 0 c).after 8 t = iblk m c 8 t := by dsimp only [dats]
/-- What window 9 holds after a point. -/
theorem after0_9 (c : Dev nD) (t : Fin cfg0.N) : (dats m 0 c).after 9 t = iblk m c 9 t := by dsimp only [dats]
/-- What window 10 holds after a point. -/
theorem after0_10 (c : Dev nD) (t : Fin cfg0.N) : (dats m 0 c).after 10 t = held10 m c t := by dsimp only [dats]

/-- What is kept of output 11: from point 32 on it holds the sample tile's rows. -/
def rel0 (c : Dev nD) : (w : Fin cfg0.W) → Fin cfg0.N → ((cfg0.win w).block.Idx → Elt F (cfg0.win w).elt) → Prop := fun w t => match w with
  | ⟨11, _⟩ => fun (X : Vec F S512x1024 .f32) => ∀ h : 32 ≤ t.val, X = resB m c t h
  | _ => fun _ => True

/-- The proof data, output 11 held to the predicate. -/
def rdat (c : Dev nD) : Pipeline.RDat τ (Elt F) Unit ℕ (UR sig nD τ) ℕ cfg0 c := (dats m 0 c).toRRel pred0 (rel0 m c)

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1 holds before a point. -/
theorem before0_1 (c : Dev nD) (t : Fin cfg0.N) (d) : (dats m 0 c).before 1 t d = iblk m c 1 t :=
  before0_1_of m (dats m 0 c) (A_eq m c 1) (after0_1 m c) t d
/-- What window 2 holds before a point. -/
theorem before0_2 (c : Dev nD) (t : Fin cfg0.N) (d) : (dats m 0 c).before 2 t d = iblk m c 2 t :=
  before0_2_of m (dats m 0 c) (A_eq m c 2) (after0_2 m c) t d
/-- What window 3 holds before a point. -/
theorem before0_3 (c : Dev nD) (t : Fin cfg0.N) (d) : (dats m 0 c).before 3 t d = iblk m c 3 t :=
  before0_3_of m (dats m 0 c) (A_eq m c 3) (after0_3 m c) t d
/-- What window 4 holds before a point. -/
theorem before0_4 (c : Dev nD) (t : Fin cfg0.N) (d) : (dats m 0 c).before 4 t d = iblk m c 4 t :=
  before0_4_of m (dats m 0 c) (A_eq m c 4) (after0_4 m c) t d
/-- What window 5 holds before a point. -/
theorem before0_5 (c : Dev nD) (t : Fin cfg0.N) (d) : (dats m 0 c).before 5 t d = iblk m c 5 t :=
  before0_5_of m (dats m 0 c) (A_eq m c 5) (after0_5 m c) t d
/-- What window 6 holds before a point. -/
theorem before0_6 (c : Dev nD) (t : Fin cfg0.N) (d) : (dats m 0 c).before 6 t d = iblk m c 6 t :=
  before0_6_of m (dats m 0 c) (A_eq m c 6) (after0_6 m c) t d
/-- What window 7 holds before a point. -/
theorem before0_7 (c : Dev nD) (t : Fin cfg0.N) (d) : (dats m 0 c).before 7 t d = iblk m c 7 t :=
  before0_7_of m (dats m 0 c) (A_eq m c 7) (after0_7 m c) t d
/-- What window 8 holds before a point. -/
theorem before0_8 (c : Dev nD) (t : Fin cfg0.N) (d) : (dats m 0 c).before 8 t d = iblk m c 8 t :=
  before0_8_of m (dats m 0 c) (A_eq m c 8) (after0_8 m c) t d
/-- What window 9 holds before a point. -/
theorem before0_9 (c : Dev nD) (t : Fin cfg0.N) (d) : (dats m 0 c).before 9 t d = iblk m c 9 t :=
  before0_9_of m (dats m 0 c) (A_eq m c 9) (after0_9 m c) t d

/-- Output 10 is not written back between the first branch's last point and the end. -/
theorem noflush10 : ∀ t : Fin cfg0.N, 32 ≤ t.val → (cfg0.win 10).flush ⟨t.val - 1, Nat.lt_of_le_of_lt (Nat.sub_le _ _) t.isLt⟩ = false :=
  (by decide +kernel : ∀ t : Fin grid0.N, 32 ≤ t.val → win0_10.flush ⟨t.val - 1, Nat.lt_of_le_of_lt (Nat.sub_le _ _) t.isLt⟩ = false)

/-- Output 10 is written at the first branch's points. -/
theorem idle10 : ∀ t : Fin cfg0.N, cfg0.idle 10 (cfg0.grid.coords t) = decide (32 ≤ t.val) :=
  (by decide +kernel : ∀ t : Fin grid0.N, idle0 10 (grid0.coords t) = decide (32 ≤ t.val))

/-- At the second branch's first point output 10's block holds the last prompt tile's rows. -/
theorem before0_10_first (c : Dev nD) (t : Fin cfg0.N) (h : t.val = 32) (d) : (dats m 0 c).before 10 t d = held10 m c t := by
  have hp : ¬ 32 ≤ t.val - 1 := by omega
  rw [(dats m 0 c).before_of_pos 10 t (by omega) ((cfg0.win 10).fetch_out rfl t), noflush10 t (by omega), if_neg Bool.false_ne_true]
  unfold Pipeline.Dat.left
  rw [idle10, decide_eq_false hp]
  unfold Pipeline.Dat.kept
  rw [Pipeline.fill_of_clip_none 10 _ (fun _ => rfl) d ((dats m 0 c).after 10 _), Pipeline.Window.fill_cut, after0_10, held10_pred m c t (by omega)]

/-- In the second branch output 10's block still holds the last prompt tile's rows. -/
theorem before0_10 (c : Dev nD) (t : Fin cfg0.N) (h : 32 ≤ t.val) (d) : (dats m 0 c).before 10 t d = held10 m c t := by
  by_cases e : t.val = 32
  · exact before0_10_first m c t e d
  · have hN : t.val < 34 := t.isLt
    have hp : 32 ≤ t.val - 1 := by omega
    rw [(dats m 0 c).before_of_pos 10 t (by omega) ((cfg0.win 10).fetch_out rfl t), noflush10 t h, if_neg Bool.false_ne_true]
    unfold Pipeline.Dat.left
    rw [idle10, decide_eq_true hp]
    show (dats m 0 c).before 10 _ d = _
    rw [before0_10_first m c _ (by show t.val - 1 = 32; omega) d, held10_pred m c t h]

/-- What the body leaves of output 10, in the form the body obligation states. -/
theorem leaves10 (c : Dev nD) (t : Fin cfg0.N) :
    (owns (c : Thread nD τ) (ms0_10 t) fullShare (held10 m c t) : sProp 𝕄) ⊢ (dats m 0 c).leavesExact 10 t := by
  unfold Pipeline.Dat.leavesExact
  rw [idle10]
  by_cases h : 32 ≤ t.val
  · rw [decide_eq_true h]
    dsimp only
    cases (cfg0.win 10).flush t
    · dsimp only
      iintro H
      iexists (held10 m c t)
      rw [before0_10 m c t h]
      iexact H
    · dsimp only
      rw [after0_10]
  · rw [decide_eq_false h]
    dsimp only
    rw [after0_10]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, ⌜(rdat m c).Finds 11 t d⌝ ∗ owns (c : Thread nD τ) (ms0_11 t) fullShare (d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (dats m 0 c).leavesExact 10 t
    ∗ (∃ X, ⌜rel0 m c 11 t X⌝ ∗ owns (c : Thread nD τ) (ms0_11 t) fullShare (X)))

set_option maxHeartbeats 2400000 in
/-- The body at any point: the conditions' closed forms say which branch it takes, and that branch's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [after0_0, after0_1, after0_2, after0_3, after0_4, after0_5, after0_6, after0_7, after0_8, after0_9]
  by_cases h0 : t.val < 32
  · have h1 : ¬ 32 ≤ t.val := by omega
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, -, H11⟩⟩
    iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    iintro ⟨H0, H1, H2, H3, H4, H5, H6, H7, H8, H9, ⟨%e10, H10⟩, H11, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iapply (leaves10 m c t)
      rw [held10_of_lt m c t h0]
      unfold resA out_A
      unfold owns; iexists _; isplitr
      swap; · iexact H10
      ipureintro; exact View.read_writes_of_cover _ _ _ _ _ (cover_A c _ _ _ _ _ _ _ _ _ _ _ _ _ _ _ _ _ _ _ _ _ _ _ _ _ _ _ _ _ _ _ _ _ _ _ _ _ _ _)
    icases H11 with ⟨%e11, H11⟩
    iexists e11; isplitr
    · ipureintro; exact fun h => absurd h h1
    iexact H11
  · have h1 : 32 ≤ t.val := by omega
    simp only [before0_10 m c t h1]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, -, H11⟩⟩
    iapply ((kernelRun0_B c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t)).2.2 Set.univ _ (held10 m c t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS0]; · iexact HS0
    iintro ⟨H0, H1, H2, H3, H4, H5, H6, H7, H8, H9, H10, ⟨%e11, H11⟩, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (leaves10 m c t); iexact H10
    iexists (resB m c t h1); isplitr
    · ipureintro; exact fun _ => rfl
    unfold owns; iexists _; isplitr
    swap; · iexact H11
    ipureintro; unfold resB out_B; exact View.read_writes_of_cover _ _ _ _ _ (cover_B c _ _ _ _ _ _ _ _ _ _ _ _ _ _ _ _ _ _ _ _ _ _ _ _ _ _ _ _ _ _ _ _ _ _ _ _ _ _ _)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

set_option maxHeartbeats 1000000 in
/-- The body obligation, at every point. -/
theorem body_obligation (c : Dev nD) : Pipeline.BodyObligationRel (dats (F := F) m 0 c) (defs₀ (F := F)) Variants.none () Set.univ pred0 (rel0 m c) := fun t => by
  rw [bigSep_W0, bigSep_W0, defs₀_row]
  exact triple_restated (sound_body m c t) rfl .rfl fun _ => .rfl

/-! ## The run and the frame -/

set_option backward.isDefEq.respectTransparency.types false in
/-- The launch: every array at contents the proof data allow, and every semaphore counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl) (hQ' := fun _ h => h)

/-- The launch, of the arrays alone. -/
theorem run_main : θ_run defs (onTc (τ := τ) (main (F := F))) (s₀ m ρ) (Pipeline.RDat.FramePost (cfgs 0) (rdat m) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (rdat m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel2Ideal.Ffn

end
-- ==== Proof.Ffn.FrameBits.lean ====
/- The frame of the kernel over bits, from the run over any float values. -/
module

public import proofs.«01_k».proof.Defs
public import proofs.«01_k».proof.Proof.Gen.Kernel2
public import proofs.«01_k».proof.Proof.Ffn.Ideal.Frame

@[expose] public section

set_option maxRecDepth 16384

noncomputable section

namespace Cert.Ffn

open Idealize.ShloMosaic Idealize.ShloMosaic.TcCoe Idealize.ShloMosaic.Tactic Idealize.SL.Sem
open Cert.Kernel2Ideal

/-- The kernel's program is the one whose run is proved over any float values, so its frame claim is that program's over bits. -/
theorem frame_same : Cert.quiescent_Kernel2 (hKernel2 := Cert.Kernel2.Gen.facts) = (
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0)) := by
  sl_kernel_rfl

/-- The kernel over bits runs, leaves its arguments alone and ends with every counter at zero. -/
theorem frame_kernel : Cert.quiescent_Kernel2 (hKernel2 := Cert.Kernel2.Gen.facts) :=
  frame_same.mpr fun m ρ _ => Cert.Kernel2Ideal.Ffn.frame (F := Bits) m ρ

end Cert.Ffn

end
-- ==== Proof.Ffn.Row.lean ====
/- One row of the layer's end over the extended reals: the mixers' product, the residual, the feed-forward half. -/
module

public import Idealize.ShloMosaic.PureOps.Ideal.Laws
public import Idealize.ShloMosaic.Lib.ValueIdx

@[expose] public section

noncomputable section

namespace Cert.Ffn
open Idealize.ShloMosaic

/-- The reciprocal root of a row's mean square, with the small constant. -/
def nrm (v : Fin 1024 → EReal) : EReal :=
  Ideal.rsqrt (Ideal.div (∑ k, v k * v k) (Ideal.ofBits .f32 0x44800000#32) + Ideal.ofBits .f32 0x358637BD#32)

/-- A row times a matrix. -/
def lin {n : ℕ} {J : Type} (h : Fin n → EReal) (w : Fin n → J → EReal) (j : J) : EReal := ∑ k, h k * w k j

/-- The mixers' two halves of a row through the output matrix. -/
def mix (a b : Fin 512 → EReal) (wo : Fin 1024 → Fin 1024 → EReal) (d : Fin 1024) : EReal :=
  ∑ k, a k * wo ⟨k.val, by omega⟩ d + ∑ k, b k * wo ⟨512 + k.val, by omega⟩ d

/-- The row after the mixers. -/
def mid (x : Fin 1024 → EReal) (a b : Fin 512 → EReal) (wo : Fin 1024 → Fin 1024 → EReal) (g3 : Fin 1024 → EReal) (d : Fin 1024) : EReal :=
  x d + mix a b wo d * nrm (mix a b wo) * g3 d

/-- The normalised row that goes into the feed-forward half. -/
def pre (v g4 : Fin 1024 → EReal) (d : Fin 1024) : EReal := v d * nrm v * g4 d

/-- A gated activation. -/
def act (p q : EReal) : EReal := p * Ideal.logistic p * q

/-- The activations of a normalised row. -/
def acts (h : Fin 1024 → EReal) (wg wu : Fin 1024 → Fin 2816 → EReal) (j : Fin 2816) : EReal := act (lin h wg j) (lin h wu j)

/-- The feed-forward half's end: the residual and half the normalised product. -/
def post (v : Fin 1024 → EReal) (u : Fin 2816 → EReal) (wd : Fin 2816 → Fin 1024 → EReal) (g5 : Fin 1024 → EReal) (d : Fin 1024) : EReal :=
  v d + Ideal.ofBits .f32 0x3F000000#32 * (lin u wd d * nrm (lin u wd) * g5 d)

/-- One row of the layer's end. -/
def row (x : Fin 1024 → EReal) (a b : Fin 512 → EReal) (wo : Fin 1024 → Fin 1024 → EReal) (g3 g4 g5 : Fin 1024 → EReal)
    (wg wu : Fin 1024 → Fin 2816 → EReal) (wd : Fin 2816 → Fin 1024 → EReal) : Fin 1024 → EReal :=
  post (mid x a b wo g3) (acts (pre (mid x a b wo g3) g4) wg wu) wd g5

/-- Rows of zeros mix to zero. -/
theorem mix_zero (wo : Fin 1024 → Fin 1024 → EReal) (d : Fin 1024) : mix (fun _ => 0) (fun _ => 0) wo d = 0 := by
  unfold mix; simp only [zero_mul, Finset.sum_const_zero, add_zero]

/-- A row of zeros stays a row of zeros after the mixers. -/
theorem mid_zero (wo : Fin 1024 → Fin 1024 → EReal) (g3 : Fin 1024 → EReal) : mid (fun _ => 0) (fun _ => 0) (fun _ => 0) wo g3 = fun _ => 0 := by
  funext d; unfold mid; rw [mix_zero, zero_mul, zero_mul, add_zero]

/-- A row of zeros stays zero. -/
theorem row_zero (wo : Fin 1024 → Fin 1024 → EReal) (g3 g4 g5 : Fin 1024 → EReal)
    (wg wu : Fin 1024 → Fin 2816 → EReal) (wd : Fin 2816 → Fin 1024 → EReal) (d : Fin 1024) :
    row (fun _ => 0) (fun _ => 0) (fun _ => 0) wo g3 g4 g5 wg wu wd d = 0 := by
  unfold row
  rw [mid_zero]
  have hp : pre (fun _ => 0) g4 = fun _ => 0 := by funext e; unfold pre; rw [zero_mul, zero_mul]
  have hl : ∀ (J : Type) (w : Fin 1024 → J → EReal) (j : J), lin (fun _ : Fin 1024 => (0 : EReal)) w j = 0 := fun J w j => by
    unfold lin; simp only [zero_mul, Finset.sum_const_zero]
  have ha : acts (pre (fun _ => 0) g4) wg wu = fun _ => 0 := by
    funext j; unfold acts act; rw [hp, hl, zero_mul, zero_mul]
  have hd : lin (fun _ : Fin 2816 => (0 : EReal)) wd d = 0 := by unfold lin; simp only [zero_mul, Finset.sum_const_zero]
  rw [ha]
  unfold post
  rw [hd, zero_mul, zero_mul, mul_zero, add_zero]

end Cert.Ffn

end
-- ==== Proof.Ffn.Pay.lean ====
/- The two branches' arithmetic, entry by entry. -/
module

public import proofs.«01_k».proof.Proof.Gen.Kernel2Ideal.Skeleton
public import Idealize.ShloMosaic.Lib.Pointwise
public import Idealize.ShloMosaic.Lib.Pipeline.ValueKit
public import proofs.«01_k».proof.Proof.Ffn.Row

@[expose] public section

set_option maxRecDepth 16384

noncomputable section

namespace Cert.Kernel2Ideal.Ffn
open Idealize.ShloMosaic Idealize.ShloMosaic.TcCoe Idealize.SL.Sem
open Cert.Kernel2Ideal Cert.Kernel2Ideal.Gen Cert.Ffn

/-- A gain row, read off the gains. -/
theorem ldg (o : Fin 6) (inb : ∀ a, (![(o : ℕ), 0] : Fin 2 → ℕ) a + (![1, 1024] : Fin 2 → ℕ) a ≤ S6x1024.size a)
    (g : Vec Ideal S6x1024 .f32) (d : Fin 1024) :
    View.ld (Val := Elt Ideal) (e' := .f32) g (Rect.unit (s := S6x1024) ![(o : ℕ), 0] ![1, 1024] inb) (ix2 0 d) = g (ix2 o d) := by
  refine congrArg g (funext fun a => ?_)
  match a with
  | ⟨0, _⟩ => exact Fin.ext (by show (o : ℕ) + 1 * 0 = o; omega)
  | ⟨1, _⟩ => exact Fin.ext (by show 0 + 1 * (d : ℕ) = d; omega)

/-- Half of the output matrix, read off it. -/
theorem ldw (o : ℕ) (inb : ∀ a, (![o, 0] : Fin 2 → ℕ) a + (![512, 1024] : Fin 2 → ℕ) a ≤ S1024x1024.size a)
    (w : Vec Ideal S1024x1024 .bf16) (k : Fin 512) (d : Fin 1024) (h : o + (k : ℕ) < 1024) :
    View.ld (Val := Elt Ideal) (e' := .bf16) w (Rect.unit (s := S1024x1024) ![o, 0] ![512, 1024] inb) (ix2 k d) = w (ix2 ⟨o + (k : ℕ), h⟩ d) := by
  refine congrArg w (funext fun a => ?_)
  match a with
  | ⟨0, _⟩ => exact Fin.ext (by show o + 1 * (k : ℕ) = o + k; omega)
  | ⟨1, _⟩ => exact Fin.ext (by show 0 + 1 * (d : ℕ) = d; omega)

/-- A chunk's columns, read off the interleaved weights. -/
theorem ldc (o : ℕ) (inb : ∀ a, (![0, o] : Fin 2 → ℕ) a + (![1024, 512] : Fin 2 → ℕ) a ≤ S1024x5632.size a)
    (w : Vec Ideal S1024x5632 .bf16) (k : Fin 1024) (i : Fin 512) (h : o + (i : ℕ) < 5632) :
    View.ld (Val := Elt Ideal) (e' := .bf16) w (Rect.unit (s := S1024x5632) ![0, o] ![1024, 512] inb) (ix2 k i) = w (ix2 k ⟨o + (i : ℕ), h⟩) := by
  refine congrArg w (funext fun a => ?_)
  match a with
  | ⟨0, _⟩ => exact Fin.ext (by show 0 + 1 * (k : ℕ) = k; omega)
  | ⟨1, _⟩ => exact Fin.ext (by show o + 1 * (i : ℕ) = o + i; omega)

/-- The gate's and the up product's columns of the interleaved weights. -/
def wgOf (w : Vec Ideal S1024x5632 .bf16) (k : Fin 1024) (j : Fin 2816) : EReal := w (ix2 k ⟨512 * (j.val / 256) + j.val % 256, by omega⟩)
/-- The up product's columns of the interleaved weights. -/
def wuOf (w : Vec Ideal S1024x5632 .bf16) (k : Fin 1024) (j : Fin 2816) : EReal := w (ix2 k ⟨512 * (j.val / 256) + (256 + j.val % 256), by omega⟩)

/-- One chunk's activation from the normalised rows and the chunk's columns. -/
def chunkVal (hh : FVec Ideal S512x1024 .bf16) (w : Vec Ideal S1024x512 .bf16) (r : Fin 512) (j : Fin 256) : EReal :=
  (∑ k : Fin 1024, hh (ix2 r k) * w (ix2 k ⟨j.val, by omega⟩)) * Ideal.logistic (∑ k : Fin 1024, hh (ix2 r k) * w (ix2 k ⟨j.val, by omega⟩))
    * ∑ k : Fin 1024, hh (ix2 r k) * w (ix2 k ⟨256 + j.val, by omega⟩)

/-- A chunk's activation is the row's at the chunk's place. -/
theorem chunk_ld (o c : ℕ) (hc : c < 11) (ho : o = 512 * c) (inb : ∀ a, (![0, o] : Fin 2 → ℕ) a + (![1024, 512] : Fin 2 → ℕ) a ≤ S1024x5632.size a)
    (hh : FVec Ideal S512x1024 .bf16) (w : Vec Ideal S1024x5632 .bf16) (hr : Fin 1024 → EReal) (r : Fin 512) (hhr : ∀ k, hh (ix2 r k) = hr k) (j : Fin 256)
    (jj : Fin 2816) (hj : jj.val = 256 * c + j.val) :
    chunkVal hh (View.ld (Val := Elt Ideal) (e' := .bf16) w (Rect.unit (s := S1024x5632) ![0, o] ![1024, 512] inb)) r j = acts hr (wgOf w) (wuOf w) jj := by
  subst ho
  have e0 : ∀ k, View.ld (Val := Elt Ideal) (e' := .bf16) w (Rect.unit (s := S1024x5632) ![0, 512 * c] ![1024, 512] inb) (ix2 k ⟨j.val, by omega⟩) = wgOf w k jj := fun k => by
    rw [ldc _ inb w k ⟨j.val, by omega⟩ (by show 512 * c + j.val < 5632; omega)]
    unfold wgOf
    exact congrArg w ((ix2_inj ..).2 ⟨rfl, Fin.ext (by show 512 * c + j.val = 512 * (jj.val / 256) + jj.val % 256; omega)⟩)
  have e1 : ∀ k, View.ld (Val := Elt Ideal) (e' := .bf16) w (Rect.unit (s := S1024x5632) ![0, 512 * c] ![1024, 512] inb) (ix2 k ⟨256 + j.val, by omega⟩) = wuOf w k jj := fun k => by
    rw [ldc _ inb w k ⟨256 + j.val, by omega⟩ (by show 512 * c + (256 + j.val) < 5632; omega)]
    unfold wuOf
    exact congrArg w ((ix2_inj ..).2 ⟨rfl, Fin.ext (by show 512 * c + (256 + j.val) = 512 * (jj.val / 256) + (256 + jj.val % 256); omega)⟩)
  unfold chunkVal acts act lin
  simp only [e0, e1, hhr]

/-! ## The first branch -/

/-- The first branch's rows after the mixers. -/
theorem pay1_at (a b : Vec Ideal S512x512 .bf16) (w : Vec Ideal S1024x1024 .bf16) (x : Vec Ideal S512x1024 .f32) (g : Vec Ideal S6x1024 .f32) (i0 i1 i3) (r : Fin 512) (d : Fin 1024) :
    k0_pay1 (F := Ideal) a (View.ld (Val := Elt Ideal) (e' := .bf16) w (Rect.unit (s := S1024x1024) ![0, 0] ![512, 1024] i0)) b
      (View.ld (Val := Elt Ideal) (e' := .bf16) w (Rect.unit (s := S1024x1024) ![512, 0] ![512, 1024] i1)) x
      (View.ld (Val := Elt Ideal) (e' := .f32) g (Rect.unit (s := S6x1024) ![3, 0] ![1, 1024] i3)) (ix2 r d)
      = mid (fun e => x (ix2 r e)) (fun k => a (ix2 r k)) (fun k => b (ix2 r k)) (fun k e => w (ix2 k e)) (fun e => g (ix2 3 e)) d := by
  have e0 : ∀ (k : Fin 512) (e : Fin 1024), View.ld (Val := Elt Ideal) (e' := .bf16) w (Rect.unit (s := S1024x1024) ![0, 0] ![512, 1024] i0) (ix2 k e) = w (ix2 ⟨k.val, by omega⟩ e) := fun k e =>
    (ldw 0 i0 w k e (by omega)).trans (congrArg w ((ix2_inj ..).2 ⟨Fin.ext (by show 0 + k.val = k.val; omega), rfl⟩))
  have e1 : ∀ (k : Fin 512) (e : Fin 1024), View.ld (Val := Elt Ideal) (e' := .bf16) w (Rect.unit (s := S1024x1024) ![512, 0] ![512, 1024] i1) (ix2 k e) = w (ix2 ⟨512 + k.val, by omega⟩ e) := fun k e =>
    ldw 512 i1 w k e (by omega)
  have e3 : ∀ e : Fin 1024, View.ld (Val := Elt Ideal) (e' := .f32) g (Rect.unit (s := S6x1024) ![3, 0] ![1, 1024] i3) (ix2 0 e) = g (ix2 3 e) := fun e => ldg 3 i3 g e
  generalize (View.ld (Val := Elt Ideal) (e' := .bf16) w (Rect.unit (s := S1024x1024) ![0, 0] ![512, 1024] i0)) = w0 at e0 ⊢
  generalize (View.ld (Val := Elt Ideal) (e' := .bf16) w (Rect.unit (s := S1024x1024) ![512, 0] ![512, 1024] i1)) = w1 at e1 ⊢
  generalize (View.ld (Val := Elt Ideal) (e' := .f32) g (Rect.unit (s := S6x1024) ![3, 0] ![1, 1024] i3)) = g3 at e3 ⊢
  pointwise [k0_pay1]
  unfold mid nrm mix
  simp only [← e0, ← e1, ← e3]

/-- The first branch's normalised rows. -/
theorem pay3_at (a b : Vec Ideal S512x512 .bf16) (w0 w1 : Vec Ideal S512x1024 .bf16) (x : Vec Ideal S512x1024 .f32) (g3 g : Vec Ideal S1x1024 .f32) (r : Fin 512) (d : Fin 1024) :
    k0_pay3 (F := Ideal) g (k0_pay2 a w0 b w1 x g3) (ix2 r d) = pre (fun e => k0_pay1 a w0 b w1 x g3 (ix2 r e)) (fun e => g (ix2 0 e)) d := by
  unfold pre nrm
  pointwise [k0_pay3, k0_pay2]

/-- The first branch's result. -/
theorem pay20_at (x : FVec Ideal S512x1024 .f32) (u : Vec Ideal S512x2816 .bf16) (w : Vec Ideal S2816x1024 .bf16) (g : Vec Ideal S1x1024 .f32) (r : Fin 512) (d : Fin 1024) :
    k0_pay20 (F := Ideal) x u w g (ix2 r d) = Cert.Ffn.post (fun e => x (ix2 r e)) (fun j => u (ix2 r j)) (fun j e => w (ix2 j e)) (fun e => g (ix2 0 e)) d := by
  unfold Cert.Ffn.post nrm lin
  pointwise [k0_pay20]

/-- One chunk of activations, from the normalised rows and its columns. -/
theorem pay4_at (g : Vec Ideal S1x1024 .f32) (v : FVec Ideal S512x1024 .f32) (w : Vec Ideal S1024x512 .bf16) (r : Fin 512) (j : Fin 256) :
    k0_pay4 (F := Ideal) g v w (ix2 r j) = chunkVal (k0_pay3 g v) w r j := by
  unfold chunkVal
  pointwise [k0_pay4, k0_pay3]

/-- One chunk of activations, from the normalised rows and its columns. -/
theorem pay5_at (g : Vec Ideal S1x1024 .f32) (v : FVec Ideal S512x1024 .f32) (w : Vec Ideal S1024x512 .bf16) (r : Fin 512) (j : Fin 256) :
    k0_pay5 (F := Ideal) g v w (ix2 r j) = chunkVal (k0_pay3 g v) w r j := by
  unfold chunkVal
  pointwise [k0_pay5, k0_pay3]

/-- One chunk of activations, from the normalised rows and its columns. -/
theorem pay6_at (g : Vec Ideal S1x1024 .f32) (v : FVec Ideal S512x1024 .f32) (w : Vec Ideal S1024x512 .bf16) (r : Fin 512) (j : Fin 256) :
    k0_pay6 (F := Ideal) g v w (ix2 r j) = chunkVal (k0_pay3 g v) w r j := by
  unfold chunkVal
  pointwise [k0_pay6, k0_pay3]

/-- One chunk of activations, from the normalised rows and its columns. -/
theorem pay7_at (hh : FVec Ideal S512x1024 .bf16) (w : Vec Ideal S1024x512 .bf16) (r : Fin 512) (j : Fin 256) :
    k0_pay7 (F := Ideal) hh w (ix2 r j) = chunkVal hh w r j := by
  unfold chunkVal
  pointwise [k0_pay7]

/-- One chunk of activations, from the normalised rows and its columns. -/
theorem pay8_at (hh : FVec Ideal S512x1024 .bf16) (w : Vec Ideal S1024x512 .bf16) (r : Fin 512) (j : Fin 256) :
    k0_pay8 (F := Ideal) hh w (ix2 r j) = chunkVal hh w r j := by
  unfold chunkVal
  pointwise [k0_pay8]

/-- One chunk of activations, from the normalised rows and its columns. -/
theorem pay9_at (hh : FVec Ideal S512x1024 .bf16) (w : Vec Ideal S1024x512 .bf16) (r : Fin 512) (j : Fin 256) :
    k0_pay9 (F := Ideal) hh w (ix2 r j) = chunkVal hh w r j := by
  unfold chunkVal
  pointwise [k0_pay9]

/-- One chunk of activations, from the normalised rows and its columns. -/
theorem pay15_at (hh : FVec Ideal S512x1024 .bf16) (w : Vec Ideal S1024x512 .bf16) (r : Fin 512) (j : Fin 256) :
    k0_pay15 (F := Ideal) hh w (ix2 r j) = chunkVal hh w r j := by
  unfold chunkVal
  pointwise [k0_pay15]

/-- One chunk of activations, from the normalised rows and its columns. -/
theorem pay16_at (hh : FVec Ideal S512x1024 .bf16) (w : Vec Ideal S1024x512 .bf16) (r : Fin 512) (j : Fin 256) :
    k0_pay16 (F := Ideal) hh w (ix2 r j) = chunkVal hh w r j := by
  unfold chunkVal
  pointwise [k0_pay16]

/-- One chunk of activations, from the normalised rows and its columns. -/
theorem pay19_at (hh : FVec Ideal S512x1024 .bf16) (w : Vec Ideal S1024x512 .bf16) (r : Fin 512) (j : Fin 256) :
    k0_pay19 (F := Ideal) hh w (ix2 r j) = chunkVal hh w r j := by
  unfold chunkVal
  pointwise [k0_pay19]

/-- One chunk of activations, from the normalised rows and its columns. -/
theorem pay14_at (hh : FVec Ideal S512x1024 .bf16) (w : Vec Ideal S1024x512 .bf16) (r : Fin 512) (j : Fin 256) :
    k0_pay14 (F := Ideal) (k0_pay11 hh w) (k0_pay12 hh w) (k0_pay13 hh w) (ix2 r j) = chunkVal hh w r j := by
  unfold chunkVal
  pointwise [k0_pay14, k0_pay13, k0_pay12, k0_pay11, k0_pay10]

/-- One chunk of activations, from the normalised rows and its columns. -/
theorem pay18_at (hh : FVec Ideal S512x1024 .bf16) (w : Vec Ideal S1024x512 .bf16) (r : Fin 512) (j : Fin 256) :
    k0_pay18 (F := Ideal) (k0_pay17 hh w) (ix2 r j) = chunkVal hh w r j := by
  unfold chunkVal
  pointwise [k0_pay18, k0_pay17]

/-! ## The second branch -/

/-- The second branch's rows after the mixers. -/
theorem pay21_at (a b : Vec Ideal S512x512 .f32) (w : Vec Ideal S1024x1024 .bf16) (x : Vec Ideal S512x1024 .f32) (g : Vec Ideal S6x1024 .f32) (i0 i1 i3) (r : Fin 512) (d : Fin 1024) :
    k0_pay21 (F := Ideal) a (View.ld (Val := Elt Ideal) (e' := .bf16) w (Rect.unit (s := S1024x1024) ![0, 0] ![512, 1024] i0)) b
      (View.ld (Val := Elt Ideal) (e' := .bf16) w (Rect.unit (s := S1024x1024) ![512, 0] ![512, 1024] i1)) x
      (View.ld (Val := Elt Ideal) (e' := .f32) g (Rect.unit (s := S6x1024) ![3, 0] ![1, 1024] i3)) (ix2 r d)
      = mid (fun e => x (ix2 r e)) (fun k => a (ix2 r k)) (fun k => b (ix2 r k)) (fun k e => w (ix2 k e)) (fun e => g (ix2 3 e)) d := by
  have e0 : ∀ (k : Fin 512) (e : Fin 1024), View.ld (Val := Elt Ideal) (e' := .bf16) w (Rect.unit (s := S1024x1024) ![0, 0] ![512, 1024] i0) (ix2 k e) = w (ix2 ⟨k.val, by omega⟩ e) := fun k e =>
    (ldw 0 i0 w k e (by omega)).trans (congrArg w ((ix2_inj ..).2 ⟨Fin.ext (by show 0 + k.val = k.val; omega), rfl⟩))
  have e1 : ∀ (k : Fin 512) (e : Fin 1024), View.ld (Val := Elt Ideal) (e' := .bf16) w (Rect.unit (s := S1024x1024) ![512, 0] ![512, 1024] i1) (ix2 k e) = w (ix2 ⟨512 + k.val, by omega⟩ e) := fun k e =>
    ldw 512 i1 w k e (by omega)
  have e3 : ∀ e : Fin 1024, View.ld (Val := Elt Ideal) (e' := .f32) g (Rect.unit (s := S6x1024) ![3, 0] ![1, 1024] i3) (ix2 0 e) = g (ix2 3 e) := fun e => ldg 3 i3 g e
  generalize (View.ld (Val := Elt Ideal) (e' := .bf16) w (Rect.unit (s := S1024x1024) ![0, 0] ![512, 1024] i0)) = w0 at e0 ⊢
  generalize (View.ld (Val := Elt Ideal) (e' := .bf16) w (Rect.unit (s := S1024x1024) ![512, 0] ![512, 1024] i1)) = w1 at e1 ⊢
  generalize (View.ld (Val := Elt Ideal) (e' := .f32) g (Rect.unit (s := S6x1024) ![3, 0] ![1, 1024] i3)) = g3 at e3 ⊢
  pointwise [k0_pay21]
  unfold mid nrm mix
  simp only [← e0, ← e1, ← e3]

/-- The second branch's normalised rows. -/
theorem pay23_at (a b : Vec Ideal S512x512 .f32) (w0 w1 : Vec Ideal S512x1024 .bf16) (x : Vec Ideal S512x1024 .f32) (g3 g : Vec Ideal S1x1024 .f32) (r : Fin 512) (d : Fin 1024) :
    k0_pay23 (F := Ideal) (k0_pay21 a w0 b w1 x g3) g (k0_pay22 a w0 b w1 x g3) (ix2 r d) = pre (fun e => k0_pay21 a w0 b w1 x g3 (ix2 r e)) (fun e => g (ix2 0 e)) d := by
  unfold pre nrm
  pointwise [k0_pay23, k0_pay22]

/-- The second branch's result. -/
theorem pay38_at (x : FVec Ideal S512x1024 .f32) (u : Vec Ideal S512x2816 .bf16) (w : Vec Ideal S2816x1024 .bf16) (g : Vec Ideal S1x1024 .f32) (r : Fin 512) (d : Fin 1024) :
    k0_pay38 (F := Ideal) x u w g (ix2 r d) = Cert.Ffn.post (fun e => x (ix2 r e)) (fun j => u (ix2 r j)) (fun j e => w (ix2 j e)) (fun e => g (ix2 0 e)) d := by
  unfold Cert.Ffn.post nrm lin
  pointwise [k0_pay38]

/-- One chunk of activations, from the normalised rows and its columns. -/
theorem pay24_at (v : FVec Ideal S512x1024 .f32) (g : Vec Ideal S1x1024 .f32) (q : FVec Ideal S512x1 .f32) (w : Vec Ideal S1024x512 .bf16) (r : Fin 512) (j : Fin 256) :
    k0_pay24 (F := Ideal) v g q w (ix2 r j) = chunkVal (k0_pay23 v g q) w r j := by
  unfold chunkVal
  pointwise [k0_pay24, k0_pay23]

/-- One chunk of activations, from the normalised rows and its columns. -/
theorem pay25_at (v : FVec Ideal S512x1024 .f32) (g : Vec Ideal S1x1024 .f32) (q : FVec Ideal S512x1 .f32) (w : Vec Ideal S1024x512 .bf16) (r : Fin 512) (j : Fin 256) :
    k0_pay25 (F := Ideal) v g q w (ix2 r j) = chunkVal (k0_pay23 v g q) w r j := by
  unfold chunkVal
  pointwise [k0_pay25, k0_pay23]

/-- One chunk of activations, from the normalised rows and its columns. -/
theorem pay26_at (v : FVec Ideal S512x1024 .f32) (g : Vec Ideal S1x1024 .f32) (q : FVec Ideal S512x1 .f32) (w : Vec Ideal S1024x512 .bf16) (r : Fin 512) (j : Fin 256) :
    k0_pay26 (F := Ideal) v g q w (ix2 r j) = chunkVal (k0_pay23 v g q) w r j := by
  unfold chunkVal
  pointwise [k0_pay26, k0_pay23]

/-- One chunk of activations, from the normalised rows and its columns. -/
theorem pay27_at (hh : FVec Ideal S512x1024 .bf16) (w : Vec Ideal S1024x512 .bf16) (r : Fin 512) (j : Fin 256) :
    k0_pay27 (F := Ideal) hh w (ix2 r j) = chunkVal hh w r j := by
  unfold chunkVal
  pointwise [k0_pay27]

/-- One chunk of activations, from the normalised rows and its columns. -/
theorem pay28_at (hh : FVec Ideal S512x1024 .bf16) (w : Vec Ideal S1024x512 .bf16) (r : Fin 512) (j : Fin 256) :
    k0_pay28 (F := Ideal) hh w (ix2 r j) = chunkVal hh w r j := by
  unfold chunkVal
  pointwise [k0_pay28]

/-- One chunk of activations, from the normalised rows and its columns. -/
theorem pay29_at (hh : FVec Ideal S512x1024 .bf16) (w : Vec Ideal S1024x512 .bf16) (r : Fin 512) (j : Fin 256) :
    k0_pay29 (F := Ideal) hh w (ix2 r j) = chunkVal hh w r j := by
  unfold chunkVal
  pointwise [k0_pay29]

/-- One chunk of activations, from the normalised rows and its columns. -/
theorem pay33_at (hh : FVec Ideal S512x1024 .bf16) (w : Vec Ideal S1024x512 .bf16) (r : Fin 512) (j : Fin 256) :
    k0_pay33 (F := Ideal) hh w (ix2 r j) = chunkVal hh w r j := by
  unfold chunkVal
  pointwise [k0_pay33]

/-- One chunk of activations, from the normalised rows and its columns. -/
theorem pay34_at (hh : FVec Ideal S512x1024 .bf16) (w : Vec Ideal S1024x512 .bf16) (r : Fin 512) (j : Fin 256) :
    k0_pay34 (F := Ideal) hh w (ix2 r j) = chunkVal hh w r j := by
  unfold chunkVal
  pointwise [k0_pay34]

/-- One chunk of activations, from the normalised rows and its columns. -/
theorem pay37_at (hh : FVec Ideal S512x1024 .bf16) (w : Vec Ideal S1024x512 .bf16) (r : Fin 512) (j : Fin 256) :
    k0_pay37 (F := Ideal) hh w (ix2 r j) = chunkVal hh w r j := by
  unfold chunkVal
  pointwise [k0_pay37]

/-- One chunk of activations, from the normalised rows and its columns. -/
theorem pay32_at (hh : FVec Ideal S512x1024 .bf16) (w : Vec Ideal S1024x512 .bf16) (r : Fin 512) (j : Fin 256) :
    k0_pay32 (F := Ideal) (k0_pay30 hh w) (k0_pay31 hh w) (ix2 r j) = chunkVal hh w r j := by
  unfold chunkVal
  pointwise [k0_pay32, k0_pay31, k0_pay30]

/-- One chunk of activations, from the normalised rows and its columns. -/
theorem pay36_at (hh : FVec Ideal S512x1024 .bf16) (w : Vec Ideal S1024x512 .bf16) (r : Fin 512) (j : Fin 256) :
    k0_pay36 (F := Ideal) (k0_pay35 hh w) (ix2 r j) = chunkVal hh w r j := by
  unfold chunkVal
  pointwise [k0_pay36, k0_pay35]

/-! ## The scratch -/

/-- What is loaded of the scratch that holds the eleven chunks. -/
theorem scr_at (vw : View sig .tc .vmem S512x2816 .bf16) (p0 p1 p2 p3 p4 p5 p6 p7 p8 p9 p10 : FVec Ideal S512x256 .bf16) (r : Fin 512) (j : Fin 2816) :
    vw.readCov (Val := Elt Ideal) [⟨Rect.unit ![0, 2560] ![512, 256] inb_S512x2816_S512x256_0_2560, p10⟩,
      ⟨Rect.unit ![0, 2304] ![512, 256] inb_S512x2816_S512x256_0_2304, p9⟩,
      ⟨Rect.unit ![0, 2048] ![512, 256] inb_S512x2816_S512x256_0_2048, p8⟩,
      ⟨Rect.unit ![0, 1792] ![512, 256] inb_S512x2816_S512x256_0_1792, p7⟩,
      ⟨Rect.unit ![0, 1536] ![512, 256] inb_S512x2816_S512x256_0_1536, p6⟩,
      ⟨Rect.unit ![0, 1280] ![512, 256] inb_S512x2816_S512x256_0_1280, p5⟩,
      ⟨Rect.unit ![0, 1024] ![512, 256] inb_S512x2816_S512x256_0_1024, p4⟩,
      ⟨Rect.unit ![0, 768] ![512, 256] inb_S512x2816_S512x256_0_768, p3⟩,
      ⟨Rect.unit ![0, 512] ![512, 256] inb_S512x2816_S512x256_0_512, p2⟩,
      ⟨Rect.unit ![0, 256] ![512, 256] inb_S512x2816_S512x256_0_256, p1⟩,
      ⟨Rect.unit ![0, 0] ![512, 256] inb_S512x2816_S512x256_0_0, p0⟩]
      (Rect.unit (s := S512x2816) ![0, 0] ![512, 2816] inb_S512x2816_S512x2816_0_0).toLoadRect (ix2 r j)
      = (![p0, p1, p2, p3, p4, p5, p6, p7, p8, p9, p10] : Fin 11 → FVec Ideal S512x256 .bf16) ⟨j.val / 256, by omega⟩ (ix2 r ⟨j.val % 256, by omega⟩) := by
  rw [View.readCov_eq_canon']
  have hidx : (Rect.unit (s := S512x2816) ![0, 0] ![512, 2816] inb_S512x2816_S512x2816_0_0).toLoadRect.idx (ix2 r j) = ix2 r j := by
    funext a
    match a with
    | ⟨0, _⟩ => exact Fin.ext (by show 0 + 1 * (r : ℕ) = r; omega)
    | ⟨1, _⟩ => exact Fin.ext (by show 0 + 1 * (j : ℕ) = j; omega)
  refine (congrArg (View.canon (Val := Elt Ideal) _) hidx).trans ?_
  clear hidx
  canon_tiles x h
  case piece0 =>
    idx_vars x
    have hj : j.val = 2560 + x1.val := by have := h1; omega
    have hr : r = x0 := Fin.ext h0
    have hx := x1.isLt
    have e : (⟨j.val / 256, by omega⟩ : Fin 11) = 10 := Fin.ext (by show j.val / 256 = 10; omega)
    have e' : (⟨j.val % 256, by omega⟩ : Fin 256) = x1 := Fin.ext (by show j.val % 256 = x1.val; omega)
    rw [e, e', hr]
    rfl
  case piece1 =>
    idx_vars x
    have hj : j.val = 2304 + x1.val := by have := h1; omega
    have hr : r = x0 := Fin.ext h0
    have hx := x1.isLt
    have e : (⟨j.val / 256, by omega⟩ : Fin 11) = 9 := Fin.ext (by show j.val / 256 = 9; omega)
    have e' : (⟨j.val % 256, by omega⟩ : Fin 256) = x1 := Fin.ext (by show j.val % 256 = x1.val; omega)
    rw [e, e', hr]
    rfl
  case piece2 =>
    idx_vars x
    have hj : j.val = 2048 + x1.val := by have := h1; omega
    have hr : r = x0 := Fin.ext h0
    have hx := x1.isLt
    have e : (⟨j.val / 256, by omega⟩ : Fin 11) = 8 := Fin.ext (by show j.val / 256 = 8; omega)
    have e' : (⟨j.val % 256, by omega⟩ : Fin 256) = x1 := Fin.ext (by show j.val % 256 = x1.val; omega)
    rw [e, e', hr]
    rfl
  case piece3 =>
    idx_vars x
    have hj : j.val = 1792 + x1.val := by have := h1; omega
    have hr : r = x0 := Fin.ext h0
    have hx := x1.isLt
    have e : (⟨j.val / 256, by omega⟩ : Fin 11) = 7 := Fin.ext (by show j.val / 256 = 7; omega)
    have e' : (⟨j.val % 256, by omega⟩ : Fin 256) = x1 := Fin.ext (by show j.val % 256 = x1.val; omega)
    rw [e, e', hr]
    rfl
  case piece4 =>
    idx_vars x
    have hj : j.val = 1536 + x1.val := by have := h1; omega
    have hr : r = x0 := Fin.ext h0
    have hx := x1.isLt
    have e : (⟨j.val / 256, by omega⟩ : Fin 11) = 6 := Fin.ext (by show j.val / 256 = 6; omega)
    have e' : (⟨j.val % 256, by omega⟩ : Fin 256) = x1 := Fin.ext (by show j.val % 256 = x1.val; omega)
    rw [e, e', hr]
    rfl
  case piece5 =>
    idx_vars x
    have hj : j.val = 1280 + x1.val := by have := h1; omega
    have hr : r = x0 := Fin.ext h0
    have hx := x1.isLt
    have e : (⟨j.val / 256, by omega⟩ : Fin 11) = 5 := Fin.ext (by show j.val / 256 = 5; omega)
    have e' : (⟨j.val % 256, by omega⟩ : Fin 256) = x1 := Fin.ext (by show j.val % 256 = x1.val; omega)
    rw [e, e', hr]
    rfl
  case piece6 =>
    idx_vars x
    have hj : j.val = 1024 + x1.val := by have := h1; omega
    have hr : r = x0 := Fin.ext h0
    have hx := x1.isLt
    have e : (⟨j.val / 256, by omega⟩ : Fin 11) = 4 := Fin.ext (by show j.val / 256 = 4; omega)
    have e' : (⟨j.val % 256, by omega⟩ : Fin 256) = x1 := Fin.ext (by show j.val % 256 = x1.val; omega)
    rw [e, e', hr]
    rfl
  case piece7 =>
    idx_vars x
    have hj : j.val = 768 + x1.val := by have := h1; omega
    have hr : r = x0 := Fin.ext h0
    have hx := x1.isLt
    have e : (⟨j.val / 256, by omega⟩ : Fin 11) = 3 := Fin.ext (by show j.val / 256 = 3; omega)
    have e' : (⟨j.val % 256, by omega⟩ : Fin 256) = x1 := Fin.ext (by show j.val % 256 = x1.val; omega)
    rw [e, e', hr]
    rfl
  case piece8 =>
    idx_vars x
    have hj : j.val = 512 + x1.val := by have := h1; omega
    have hr : r = x0 := Fin.ext h0
    have hx := x1.isLt
    have e : (⟨j.val / 256, by omega⟩ : Fin 11) = 2 := Fin.ext (by show j.val / 256 = 2; omega)
    have e' : (⟨j.val % 256, by omega⟩ : Fin 256) = x1 := Fin.ext (by show j.val % 256 = x1.val; omega)
    rw [e, e', hr]
    rfl
  case piece9 =>
    idx_vars x
    have hj : j.val = 256 + x1.val := by have := h1; omega
    have hr : r = x0 := Fin.ext h0
    have hx := x1.isLt
    have e : (⟨j.val / 256, by omega⟩ : Fin 11) = 1 := Fin.ext (by show j.val / 256 = 1; omega)
    have e' : (⟨j.val % 256, by omega⟩ : Fin 256) = x1 := Fin.ext (by show j.val % 256 = x1.val; omega)
    rw [e, e', hr]
    rfl
  case piece10 =>
    idx_vars x
    have hj : j.val = 0 + x1.val := by have := h1; omega
    have hr : r = x0 := Fin.ext h0
    have hx := x1.isLt
    have e : (⟨j.val / 256, by omega⟩ : Fin 11) = 0 := Fin.ext (by show j.val / 256 = 0; omega)
    have e' : (⟨j.val % 256, by omega⟩ : Fin 256) = x1 := Fin.ext (by show j.val % 256 = x1.val; omega)
    rw [e, e', hr]
    rfl

end Cert.Kernel2Ideal.Ffn

end
-- ==== Proof.Ffn.OutA.lean ====
/- What one run of branch A leaves in its output block. -/
module

public import proofs.«01_k».proof.Proof.Ffn.Ideal.Frame
public import proofs.«01_k».proof.Proof.Ffn.Pay

@[expose] public section

set_option maxRecDepth 16384

noncomputable section

namespace Cert.Kernel2Ideal.Ffn
open Idealize.ShloMosaic Idealize.ShloMosaic.TcCoe Idealize.SL.Sem
open Cert.Kernel2Ideal Cert.Kernel2Ideal.Gen Cert.Ffn

variable (m : (ℓ : Loc nD τ sig) → Buf (Elt Ideal) ℓ)

/-- A result row depends on its rows, weights and gains alone. -/
theorem post_congr {v v' : Fin 1024 → EReal} {u u' : Fin 2816 → EReal} {w w' : Fin 2816 → Fin 1024 → EReal} {g g' : Fin 1024 → EReal} (hv : v = v') (hu : u = u') (hw : w = w') (hg : g = g') (d : Fin 1024) :
    Cert.Ffn.post v u w g d = Cert.Ffn.post v' u' w' g' d := by
  subst hv hu hw hg; rfl

set_option maxHeartbeats 4000000 in
/-- Branch A's block, row by row. -/
theorem outA (c : Dev nD) (t : Fin cfg0.N) (h : t.val < 32) (r : Fin 512) (d : Fin 1024) :
    resA m c t h (ix2 r d) = row (fun e => (iblk m c 0 t : Vec Ideal S512x1024 .f32) (ix2 r e)) (fun k => (iblk m c 1 t : Vec Ideal S512x512 .bf16) (ix2 r k)) (fun k => (iblk m c 2 t : Vec Ideal S512x512 .bf16) (ix2 r k))
      (fun k e => (iblk m c 6 t : Vec Ideal S1024x1024 .bf16) (ix2 k e)) (fun e => (iblk m c 7 t : Vec Ideal S6x1024 .f32) (ix2 3 e)) (fun e => (iblk m c 7 t : Vec Ideal S6x1024 .f32) (ix2 4 e)) (fun e => (iblk m c 7 t : Vec Ideal S6x1024 .f32) (ix2 5 e))
      (wgOf (iblk m c 8 t)) (wuOf (iblk m c 8 t)) (fun j e => (iblk m c 9 t : Vec Ideal S2816x1024 .bf16) (ix2 j e)) d := by
  unfold resA
  generalize (iblk m c 0 t : Vec Ideal S512x1024 .f32) = x0
  generalize (iblk m c 1 t : Vec Ideal S512x512 .bf16) = x1
  generalize (iblk m c 2 t : Vec Ideal S512x512 .bf16) = x2
  generalize (iblk m c 6 t : Vec Ideal S1024x1024 .bf16) = x6
  generalize (iblk m c 7 t : Vec Ideal S6x1024 .f32) = x7
  generalize (iblk m c 8 t : Vec Ideal S1024x5632 .bf16) = x8
  generalize (iblk m c 9 t : Vec Ideal S2816x1024 .bf16) = x9
  have hmid := fun e => pay1_at x1 x2 x6 x0 x7 inb_S1024x1024_S512x1024_0_0 inb_S1024x1024_S512x1024_512_0 inb_S6x1024_S1x1024_3_0 r e
  have hpre : ∀ e, k0_pay3 (F := Ideal) (View.ld (Val := Elt Ideal) (e' := .f32) x7 (Rect.unit (s := S6x1024) ![4, 0] ![1, 1024] inb_S6x1024_S1x1024_4_0)) (k0_pay2 x1 (View.ld (Val := Elt Ideal) (e' := .bf16) x6 (Rect.unit (s := S1024x1024) ![0, 0] ![512, 1024] inb_S1024x1024_S512x1024_0_0)) x2 (View.ld (Val := Elt Ideal) (e' := .bf16) x6 (Rect.unit (s := S1024x1024) ![512, 0] ![512, 1024] inb_S1024x1024_S512x1024_512_0)) x0 (View.ld (Val := Elt Ideal) (e' := .f32) x7 (Rect.unit (s := S6x1024) ![3, 0] ![1, 1024] inb_S6x1024_S1x1024_3_0))) (ix2 r e) = pre (mid (fun e => x0 (ix2 r e)) (fun k => x1 (ix2 r k)) (fun k => x2 (ix2 r k)) (fun k e => x6 (ix2 k e)) (fun e => x7 (ix2 3 e))) (fun e => x7 (ix2 4 e)) e := fun e => by
    rw [pay3_at]
    exact congrArg₂ (fun v g => pre v g e) (funext hmid) (funext fun e => ldg 4 inb_S6x1024_S1x1024_4_0 x7 e)
  have f0 := fun (ii : Fin 256) (jj : Fin 2816) (hj : jj.val = 256 * 0 + ii.val) => (pay4_at _ _ _ r ii).trans (chunk_ld 0 0 (by omega) rfl inb_S1024x5632_S1024x512_0_0 (k0_pay3 (F := Ideal) (View.ld (Val := Elt Ideal) (e' := .f32) x7 (Rect.unit (s := S6x1024) ![4, 0] ![1, 1024] inb_S6x1024_S1x1024_4_0)) (k0_pay2 x1 (View.ld (Val := Elt Ideal) (e' := .bf16) x6 (Rect.unit (s := S1024x1024) ![0, 0] ![512, 1024] inb_S1024x1024_S512x1024_0_0)) x2 (View.ld (Val := Elt Ideal) (e' := .bf16) x6 (Rect.unit (s := S1024x1024) ![512, 0] ![512, 1024] inb_S1024x1024_S512x1024_512_0)) x0 (View.ld (Val := Elt Ideal) (e' := .f32) x7 (Rect.unit (s := S6x1024) ![3, 0] ![1, 1024] inb_S6x1024_S1x1024_3_0)))) x8 (pre (mid (fun e => x0 (ix2 r e)) (fun k => x1 (ix2 r k)) (fun k => x2 (ix2 r k)) (fun k e => x6 (ix2 k e)) (fun e => x7 (ix2 3 e))) (fun e => x7 (ix2 4 e))) r hpre ii jj hj)
  have f1 := fun (ii : Fin 256) (jj : Fin 2816) (hj : jj.val = 256 * 1 + ii.val) => (pay5_at _ _ _ r ii).trans (chunk_ld 512 1 (by omega) rfl inb_S1024x5632_S1024x512_0_512 (k0_pay3 (F := Ideal) (View.ld (Val := Elt Ideal) (e' := .f32) x7 (Rect.unit (s := S6x1024) ![4, 0] ![1, 1024] inb_S6x1024_S1x1024_4_0)) (k0_pay2 x1 (View.ld (Val := Elt Ideal) (e' := .bf16) x6 (Rect.unit (s := S1024x1024) ![0, 0] ![512, 1024] inb_S1024x1024_S512x1024_0_0)) x2 (View.ld (Val := Elt Ideal) (e' := .bf16) x6 (Rect.unit (s := S1024x1024) ![512, 0] ![512, 1024] inb_S1024x1024_S512x1024_512_0)) x0 (View.ld (Val := Elt Ideal) (e' := .f32) x7 (Rect.unit (s := S6x1024) ![3, 0] ![1, 1024] inb_S6x1024_S1x1024_3_0)))) x8 (pre (mid (fun e => x0 (ix2 r e)) (fun k => x1 (ix2 r k)) (fun k => x2 (ix2 r k)) (fun k e => x6 (ix2 k e)) (fun e => x7 (ix2 3 e))) (fun e => x7 (ix2 4 e))) r hpre ii jj hj)
  have f2 := fun (ii : Fin 256) (jj : Fin 2816) (hj : jj.val = 256 * 2 + ii.val) => (pay6_at _ _ _ r ii).trans (chunk_ld 1024 2 (by omega) rfl inb_S1024x5632_S1024x512_0_1024 (k0_pay3 (F := Ideal) (View.ld (Val := Elt Ideal) (e' := .f32) x7 (Rect.unit (s := S6x1024) ![4, 0] ![1, 1024] inb_S6x1024_S1x1024_4_0)) (k0_pay2 x1 (View.ld (Val := Elt Ideal) (e' := .bf16) x6 (Rect.unit (s := S1024x1024) ![0, 0] ![512, 1024] inb_S1024x1024_S512x1024_0_0)) x2 (View.ld (Val := Elt Ideal) (e' := .bf16) x6 (Rect.unit (s := S1024x1024) ![512, 0] ![512, 1024] inb_S1024x1024_S512x1024_512_0)) x0 (View.ld (Val := Elt Ideal) (e' := .f32) x7 (Rect.unit (s := S6x1024) ![3, 0] ![1, 1024] inb_S6x1024_S1x1024_3_0)))) x8 (pre (mid (fun e => x0 (ix2 r e)) (fun k => x1 (ix2 r k)) (fun k => x2 (ix2 r k)) (fun k e => x6 (ix2 k e)) (fun e => x7 (ix2 3 e))) (fun e => x7 (ix2 4 e))) r hpre ii jj hj)
  have f3 := fun (ii : Fin 256) (jj : Fin 2816) (hj : jj.val = 256 * 3 + ii.val) => (pay7_at _ _ r ii).trans (chunk_ld 1536 3 (by omega) rfl inb_S1024x5632_S1024x512_0_1536 (k0_pay3 (F := Ideal) (View.ld (Val := Elt Ideal) (e' := .f32) x7 (Rect.unit (s := S6x1024) ![4, 0] ![1, 1024] inb_S6x1024_S1x1024_4_0)) (k0_pay2 x1 (View.ld (Val := Elt Ideal) (e' := .bf16) x6 (Rect.unit (s := S1024x1024) ![0, 0] ![512, 1024] inb_S1024x1024_S512x1024_0_0)) x2 (View.ld (Val := Elt Ideal) (e' := .bf16) x6 (Rect.unit (s := S1024x1024) ![512, 0] ![512, 1024] inb_S1024x1024_S512x1024_512_0)) x0 (View.ld (Val := Elt Ideal) (e' := .f32) x7 (Rect.unit (s := S6x1024) ![3, 0] ![1, 1024] inb_S6x1024_S1x1024_3_0)))) x8 (pre (mid (fun e => x0 (ix2 r e)) (fun k => x1 (ix2 r k)) (fun k => x2 (ix2 r k)) (fun k e => x6 (ix2 k e)) (fun e => x7 (ix2 3 e))) (fun e => x7 (ix2 4 e))) r hpre ii jj hj)
  have f4 := fun (ii : Fin 256) (jj : Fin 2816) (hj : jj.val = 256 * 4 + ii.val) => (pay8_at _ _ r ii).trans (chunk_ld 2048 4 (by omega) rfl inb_S1024x5632_S1024x512_0_2048 (k0_pay3 (F := Ideal) (View.ld (Val := Elt Ideal) (e' := .f32) x7 (Rect.unit (s := S6x1024) ![4, 0] ![1, 1024] inb_S6x1024_S1x1024_4_0)) (k0_pay2 x1 (View.ld (Val := Elt Ideal) (e' := .bf16) x6 (Rect.unit (s := S1024x1024) ![0, 0] ![512, 1024] inb_S1024x1024_S512x1024_0_0)) x2 (View.ld (Val := Elt Ideal) (e' := .bf16) x6 (Rect.unit (s := S1024x1024) ![512, 0] ![512, 1024] inb_S1024x1024_S512x1024_512_0)) x0 (View.ld (Val := Elt Ideal) (e' := .f32) x7 (Rect.unit (s := S6x1024) ![3, 0] ![1, 1024] inb_S6x1024_S1x1024_3_0)))) x8 (pre (mid (fun e => x0 (ix2 r e)) (fun k => x1 (ix2 r k)) (fun k => x2 (ix2 r k)) (fun k e => x6 (ix2 k e)) (fun e => x7 (ix2 3 e))) (fun e => x7 (ix2 4 e))) r hpre ii jj hj)
  have f5 := fun (ii : Fin 256) (jj : Fin 2816) (hj : jj.val = 256 * 5 + ii.val) => (pay9_at _ _ r ii).trans (chunk_ld 2560 5 (by omega) rfl inb_S1024x5632_S1024x512_0_2560 (k0_pay3 (F := Ideal) (View.ld (Val := Elt Ideal) (e' := .f32) x7 (Rect.unit (s := S6x1024) ![4, 0] ![1, 1024] inb_S6x1024_S1x1024_4_0)) (k0_pay2 x1 (View.ld (Val := Elt Ideal) (e' := .bf16) x6 (Rect.unit (s := S1024x1024) ![0, 0] ![512, 1024] inb_S1024x1024_S512x1024_0_0)) x2 (View.ld (Val := Elt Ideal) (e' := .bf16) x6 (Rect.unit (s := S1024x1024) ![512, 0] ![512, 1024] inb_S1024x1024_S512x1024_512_0)) x0 (View.ld (Val := Elt Ideal) (e' := .f32) x7 (Rect.unit (s := S6x1024) ![3, 0] ![1, 1024] inb_S6x1024_S1x1024_3_0)))) x8 (pre (mid (fun e => x0 (ix2 r e)) (fun k => x1 (ix2 r k)) (fun k => x2 (ix2 r k)) (fun k e => x6 (ix2 k e)) (fun e => x7 (ix2 3 e))) (fun e => x7 (ix2 4 e))) r hpre ii jj hj)
  have f6 := fun (ii : Fin 256) (jj : Fin 2816) (hj : jj.val = 256 * 6 + ii.val) => (pay14_at _ _ r ii).trans (chunk_ld 3072 6 (by omega) rfl inb_S1024x5632_S1024x512_0_3072 (k0_pay3 (F := Ideal) (View.ld (Val := Elt Ideal) (e' := .f32) x7 (Rect.unit (s := S6x1024) ![4, 0] ![1, 1024] inb_S6x1024_S1x1024_4_0)) (k0_pay2 x1 (View.ld (Val := Elt Ideal) (e' := .bf16) x6 (Rect.unit (s := S1024x1024) ![0, 0] ![512, 1024] inb_S1024x1024_S512x1024_0_0)) x2 (View.ld (Val := Elt Ideal) (e' := .bf16) x6 (Rect.unit (s := S1024x1024) ![512, 0] ![512, 1024] inb_S1024x1024_S512x1024_512_0)) x0 (View.ld (Val := Elt Ideal) (e' := .f32) x7 (Rect.unit (s := S6x1024) ![3, 0] ![1, 1024] inb_S6x1024_S1x1024_3_0)))) x8 (pre (mid (fun e => x0 (ix2 r e)) (fun k => x1 (ix2 r k)) (fun k => x2 (ix2 r k)) (fun k e => x6 (ix2 k e)) (fun e => x7 (ix2 3 e))) (fun e => x7 (ix2 4 e))) r hpre ii jj hj)
  have f7 := fun (ii : Fin 256) (jj : Fin 2816) (hj : jj.val = 256 * 7 + ii.val) => (pay15_at _ _ r ii).trans (chunk_ld 3584 7 (by omega) rfl inb_S1024x5632_S1024x512_0_3584 (k0_pay3 (F := Ideal) (View.ld (Val := Elt Ideal) (e' := .f32) x7 (Rect.unit (s := S6x1024) ![4, 0] ![1, 1024] inb_S6x1024_S1x1024_4_0)) (k0_pay2 x1 (View.ld (Val := Elt Ideal) (e' := .bf16) x6 (Rect.unit (s := S1024x1024) ![0, 0] ![512, 1024] inb_S1024x1024_S512x1024_0_0)) x2 (View.ld (Val := Elt Ideal) (e' := .bf16) x6 (Rect.unit (s := S1024x1024) ![512, 0] ![512, 1024] inb_S1024x1024_S512x1024_512_0)) x0 (View.ld (Val := Elt Ideal) (e' := .f32) x7 (Rect.unit (s := S6x1024) ![3, 0] ![1, 1024] inb_S6x1024_S1x1024_3_0)))) x8 (pre (mid (fun e => x0 (ix2 r e)) (fun k => x1 (ix2 r k)) (fun k => x2 (ix2 r k)) (fun k e => x6 (ix2 k e)) (fun e => x7 (ix2 3 e))) (fun e => x7 (ix2 4 e))) r hpre ii jj hj)
  have f8 := fun (ii : Fin 256) (jj : Fin 2816) (hj : jj.val = 256 * 8 + ii.val) => (pay16_at _ _ r ii).trans (chunk_ld 4096 8 (by omega) rfl inb_S1024x5632_S1024x512_0_4096 (k0_pay3 (F := Ideal) (View.ld (Val := Elt Ideal) (e' := .f32) x7 (Rect.unit (s := S6x1024) ![4, 0] ![1, 1024] inb_S6x1024_S1x1024_4_0)) (k0_pay2 x1 (View.ld (Val := Elt Ideal) (e' := .bf16) x6 (Rect.unit (s := S1024x1024) ![0, 0] ![512, 1024] inb_S1024x1024_S512x1024_0_0)) x2 (View.ld (Val := Elt Ideal) (e' := .bf16) x6 (Rect.unit (s := S1024x1024) ![512, 0] ![512, 1024] inb_S1024x1024_S512x1024_512_0)) x0 (View.ld (Val := Elt Ideal) (e' := .f32) x7 (Rect.unit (s := S6x1024) ![3, 0] ![1, 1024] inb_S6x1024_S1x1024_3_0)))) x8 (pre (mid (fun e => x0 (ix2 r e)) (fun k => x1 (ix2 r k)) (fun k => x2 (ix2 r k)) (fun k e => x6 (ix2 k e)) (fun e => x7 (ix2 3 e))) (fun e => x7 (ix2 4 e))) r hpre ii jj hj)
  have f9 := fun (ii : Fin 256) (jj : Fin 2816) (hj : jj.val = 256 * 9 + ii.val) => (pay18_at _ _ r ii).trans (chunk_ld 4608 9 (by omega) rfl inb_S1024x5632_S1024x512_0_4608 (k0_pay3 (F := Ideal) (View.ld (Val := Elt Ideal) (e' := .f32) x7 (Rect.unit (s := S6x1024) ![4, 0] ![1, 1024] inb_S6x1024_S1x1024_4_0)) (k0_pay2 x1 (View.ld (Val := Elt Ideal) (e' := .bf16) x6 (Rect.unit (s := S1024x1024) ![0, 0] ![512, 1024] inb_S1024x1024_S512x1024_0_0)) x2 (View.ld (Val := Elt Ideal) (e' := .bf16) x6 (Rect.unit (s := S1024x1024) ![512, 0] ![512, 1024] inb_S1024x1024_S512x1024_512_0)) x0 (View.ld (Val := Elt Ideal) (e' := .f32) x7 (Rect.unit (s := S6x1024) ![3, 0] ![1, 1024] inb_S6x1024_S1x1024_3_0)))) x8 (pre (mid (fun e => x0 (ix2 r e)) (fun k => x1 (ix2 r k)) (fun k => x2 (ix2 r k)) (fun k e => x6 (ix2 k e)) (fun e => x7 (ix2 3 e))) (fun e => x7 (ix2 4 e))) r hpre ii jj hj)
  have f10 := fun (ii : Fin 256) (jj : Fin 2816) (hj : jj.val = 256 * 10 + ii.val) => (pay19_at _ _ r ii).trans (chunk_ld 5120 10 (by omega) rfl inb_S1024x5632_S1024x512_0_5120 (k0_pay3 (F := Ideal) (View.ld (Val := Elt Ideal) (e' := .f32) x7 (Rect.unit (s := S6x1024) ![4, 0] ![1, 1024] inb_S6x1024_S1x1024_4_0)) (k0_pay2 x1 (View.ld (Val := Elt Ideal) (e' := .bf16) x6 (Rect.unit (s := S1024x1024) ![0, 0] ![512, 1024] inb_S1024x1024_S512x1024_0_0)) x2 (View.ld (Val := Elt Ideal) (e' := .bf16) x6 (Rect.unit (s := S1024x1024) ![512, 0] ![512, 1024] inb_S1024x1024_S512x1024_512_0)) x0 (View.ld (Val := Elt Ideal) (e' := .f32) x7 (Rect.unit (s := S6x1024) ![3, 0] ![1, 1024] inb_S6x1024_S1x1024_3_0)))) x8 (pre (mid (fun e => x0 (ix2 r e)) (fun k => x1 (ix2 r k)) (fun k => x2 (ix2 r k)) (fun k e => x6 (ix2 k e)) (fun e => x7 (ix2 3 e))) (fun e => x7 (ix2 4 e))) r hpre ii jj hj)
  conv_lhs => unfold out_A
  frame_out
  rw [pay20_at]
  unfold row
  refine post_congr (funext fun e => hmid e) (funext fun jj => ?_) rfl (funext fun e => ldg 5 inb_S6x1024_S1x1024_5_0 x7 e) d
  rw [scr_at]
  have hlt := jj.isLt
  have hcc : jj.val / 256 < 11 := by omega
  have hj : jj.val = 256 * (jj.val / 256) + jj.val % 256 := by omega
  generalize hc : (⟨jj.val / 256, hcc⟩ : Fin 11) = cc
  have hv : jj.val / 256 = cc.val := congrArg Fin.val hc
  rw [hv] at hj
  match cc, hj with
  | ⟨0, _⟩, hj => exact f0 ⟨jj.val % 256, by omega⟩ jj hj
  | ⟨1, _⟩, hj => exact f1 ⟨jj.val % 256, by omega⟩ jj hj
  | ⟨2, _⟩, hj => exact f2 ⟨jj.val % 256, by omega⟩ jj hj
  | ⟨3, _⟩, hj => exact f3 ⟨jj.val % 256, by omega⟩ jj hj
  | ⟨4, _⟩, hj => exact f4 ⟨jj.val % 256, by omega⟩ jj hj
  | ⟨5, _⟩, hj => exact f5 ⟨jj.val % 256, by omega⟩ jj hj
  | ⟨6, _⟩, hj => exact f6 ⟨jj.val % 256, by omega⟩ jj hj
  | ⟨7, _⟩, hj => exact f7 ⟨jj.val % 256, by omega⟩ jj hj
  | ⟨8, _⟩, hj => exact f8 ⟨jj.val % 256, by omega⟩ jj hj
  | ⟨9, _⟩, hj => exact f9 ⟨jj.val % 256, by omega⟩ jj hj
  | ⟨10, _⟩, hj => exact f10 ⟨jj.val % 256, by omega⟩ jj hj

end Cert.Kernel2Ideal.Ffn

end
-- ==== Proof.Ffn.OutB.lean ====
/- What one run of branch B leaves in its output block. -/
module

public import proofs.«01_k».proof.Proof.Ffn.OutA

@[expose] public section

set_option maxRecDepth 16384

noncomputable section

namespace Cert.Kernel2Ideal.Ffn
open Idealize.ShloMosaic Idealize.ShloMosaic.TcCoe Idealize.SL.Sem
open Cert.Kernel2Ideal Cert.Kernel2Ideal.Gen Cert.Ffn

variable (m : (ℓ : Loc nD τ sig) → Buf (Elt Ideal) ℓ)

set_option maxHeartbeats 4000000 in
/-- Branch B's block, row by row. -/
theorem outB (c : Dev nD) (t : Fin cfg0.N) (h : 32 ≤ t.val) (r : Fin 512) (d : Fin 1024) :
    resB m c t h (ix2 r d) = row (fun e => (iblk m c 3 t : Vec Ideal S512x1024 .f32) (ix2 r e)) (fun k => (iblk m c 4 t : Vec Ideal S512x512 .f32) (ix2 r k)) (fun k => (iblk m c 5 t : Vec Ideal S512x512 .f32) (ix2 r k))
      (fun k e => (iblk m c 6 t : Vec Ideal S1024x1024 .bf16) (ix2 k e)) (fun e => (iblk m c 7 t : Vec Ideal S6x1024 .f32) (ix2 3 e)) (fun e => (iblk m c 7 t : Vec Ideal S6x1024 .f32) (ix2 4 e)) (fun e => (iblk m c 7 t : Vec Ideal S6x1024 .f32) (ix2 5 e))
      (wgOf (iblk m c 8 t)) (wuOf (iblk m c 8 t)) (fun j e => (iblk m c 9 t : Vec Ideal S2816x1024 .bf16) (ix2 j e)) d := by
  unfold resB
  generalize (iblk m c 3 t : Vec Ideal S512x1024 .f32) = x3
  generalize (iblk m c 4 t : Vec Ideal S512x512 .f32) = x4
  generalize (iblk m c 5 t : Vec Ideal S512x512 .f32) = x5
  generalize (iblk m c 6 t : Vec Ideal S1024x1024 .bf16) = x6
  generalize (iblk m c 7 t : Vec Ideal S6x1024 .f32) = x7
  generalize (iblk m c 8 t : Vec Ideal S1024x5632 .bf16) = x8
  generalize (iblk m c 9 t : Vec Ideal S2816x1024 .bf16) = x9
  have hmid := fun e => pay21_at x4 x5 x6 x3 x7 inb_S1024x1024_S512x1024_0_0 inb_S1024x1024_S512x1024_512_0 inb_S6x1024_S1x1024_3_0 r e
  have hpre : ∀ e, k0_pay23 (F := Ideal) (k0_pay21 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0))) (View.ld (Val := Elt Ideal) (e' := .f32) x7 (Rect.unit (s := S6x1024) ![4, 0] ![1, 1024] inb_S6x1024_S1x1024_4_0)) (k0_pay22 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0))) (ix2 r e) = pre (mid (fun e => x3 (ix2 r e)) (fun k => x4 (ix2 r k)) (fun k => x5 (ix2 r k)) (fun k e => x6 (ix2 k e)) (fun e => x7 (ix2 3 e))) (fun e => x7 (ix2 4 e)) e := fun e => by
    rw [pay23_at]
    exact congrArg₂ (fun v g => pre v g e) (funext hmid) (funext fun e => ldg 4 inb_S6x1024_S1x1024_4_0 x7 e)
  have f0 := fun (ii : Fin 256) (jj : Fin 2816) (hj : jj.val = 256 * 0 + ii.val) => (pay24_at _ _ _ _ r ii).trans (chunk_ld 0 0 (by omega) rfl inb_S1024x5632_S1024x512_0_0 (k0_pay23 (F := Ideal) (k0_pay21 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0))) (View.ld (Val := Elt Ideal) (e' := .f32) x7 (Rect.unit (s := S6x1024) ![4, 0] ![1, 1024] inb_S6x1024_S1x1024_4_0)) (k0_pay22 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0)))) x8 (pre (mid (fun e => x3 (ix2 r e)) (fun k => x4 (ix2 r k)) (fun k => x5 (ix2 r k)) (fun k e => x6 (ix2 k e)) (fun e => x7 (ix2 3 e))) (fun e => x7 (ix2 4 e))) r hpre ii jj hj)
  have f1 := fun (ii : Fin 256) (jj : Fin 2816) (hj : jj.val = 256 * 1 + ii.val) => (pay25_at _ _ _ _ r ii).trans (chunk_ld 512 1 (by omega) rfl inb_S1024x5632_S1024x512_0_512 (k0_pay23 (F := Ideal) (k0_pay21 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0))) (View.ld (Val := Elt Ideal) (e' := .f32) x7 (Rect.unit (s := S6x1024) ![4, 0] ![1, 1024] inb_S6x1024_S1x1024_4_0)) (k0_pay22 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0)))) x8 (pre (mid (fun e => x3 (ix2 r e)) (fun k => x4 (ix2 r k)) (fun k => x5 (ix2 r k)) (fun k e => x6 (ix2 k e)) (fun e => x7 (ix2 3 e))) (fun e => x7 (ix2 4 e))) r hpre ii jj hj)
  have f2 := fun (ii : Fin 256) (jj : Fin 2816) (hj : jj.val = 256 * 2 + ii.val) => (pay26_at _ _ _ _ r ii).trans (chunk_ld 1024 2 (by omega) rfl inb_S1024x5632_S1024x512_0_1024 (k0_pay23 (F := Ideal) (k0_pay21 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0))) (View.ld (Val := Elt Ideal) (e' := .f32) x7 (Rect.unit (s := S6x1024) ![4, 0] ![1, 1024] inb_S6x1024_S1x1024_4_0)) (k0_pay22 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0)))) x8 (pre (mid (fun e => x3 (ix2 r e)) (fun k => x4 (ix2 r k)) (fun k => x5 (ix2 r k)) (fun k e => x6 (ix2 k e)) (fun e => x7 (ix2 3 e))) (fun e => x7 (ix2 4 e))) r hpre ii jj hj)
  have f3 := fun (ii : Fin 256) (jj : Fin 2816) (hj : jj.val = 256 * 3 + ii.val) => (pay27_at _ _ r ii).trans (chunk_ld 1536 3 (by omega) rfl inb_S1024x5632_S1024x512_0_1536 (k0_pay23 (F := Ideal) (k0_pay21 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0))) (View.ld (Val := Elt Ideal) (e' := .f32) x7 (Rect.unit (s := S6x1024) ![4, 0] ![1, 1024] inb_S6x1024_S1x1024_4_0)) (k0_pay22 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0)))) x8 (pre (mid (fun e => x3 (ix2 r e)) (fun k => x4 (ix2 r k)) (fun k => x5 (ix2 r k)) (fun k e => x6 (ix2 k e)) (fun e => x7 (ix2 3 e))) (fun e => x7 (ix2 4 e))) r hpre ii jj hj)
  have f4 := fun (ii : Fin 256) (jj : Fin 2816) (hj : jj.val = 256 * 4 + ii.val) => (pay28_at _ _ r ii).trans (chunk_ld 2048 4 (by omega) rfl inb_S1024x5632_S1024x512_0_2048 (k0_pay23 (F := Ideal) (k0_pay21 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0))) (View.ld (Val := Elt Ideal) (e' := .f32) x7 (Rect.unit (s := S6x1024) ![4, 0] ![1, 1024] inb_S6x1024_S1x1024_4_0)) (k0_pay22 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0)))) x8 (pre (mid (fun e => x3 (ix2 r e)) (fun k => x4 (ix2 r k)) (fun k => x5 (ix2 r k)) (fun k e => x6 (ix2 k e)) (fun e => x7 (ix2 3 e))) (fun e => x7 (ix2 4 e))) r hpre ii jj hj)
  have f5 := fun (ii : Fin 256) (jj : Fin 2816) (hj : jj.val = 256 * 5 + ii.val) => (pay29_at _ _ r ii).trans (chunk_ld 2560 5 (by omega) rfl inb_S1024x5632_S1024x512_0_2560 (k0_pay23 (F := Ideal) (k0_pay21 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0))) (View.ld (Val := Elt Ideal) (e' := .f32) x7 (Rect.unit (s := S6x1024) ![4, 0] ![1, 1024] inb_S6x1024_S1x1024_4_0)) (k0_pay22 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0)))) x8 (pre (mid (fun e => x3 (ix2 r e)) (fun k => x4 (ix2 r k)) (fun k => x5 (ix2 r k)) (fun k e => x6 (ix2 k e)) (fun e => x7 (ix2 3 e))) (fun e => x7 (ix2 4 e))) r hpre ii jj hj)
  have f6 := fun (ii : Fin 256) (jj : Fin 2816) (hj : jj.val = 256 * 6 + ii.val) => (pay32_at _ _ r ii).trans (chunk_ld 3072 6 (by omega) rfl inb_S1024x5632_S1024x512_0_3072 (k0_pay23 (F := Ideal) (k0_pay21 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0))) (View.ld (Val := Elt Ideal) (e' := .f32) x7 (Rect.unit (s := S6x1024) ![4, 0] ![1, 1024] inb_S6x1024_S1x1024_4_0)) (k0_pay22 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0)))) x8 (pre (mid (fun e => x3 (ix2 r e)) (fun k => x4 (ix2 r k)) (fun k => x5 (ix2 r k)) (fun k e => x6 (ix2 k e)) (fun e => x7 (ix2 3 e))) (fun e => x7 (ix2 4 e))) r hpre ii jj hj)
  have f7 := fun (ii : Fin 256) (jj : Fin 2816) (hj : jj.val = 256 * 7 + ii.val) => (pay33_at _ _ r ii).trans (chunk_ld 3584 7 (by omega) rfl inb_S1024x5632_S1024x512_0_3584 (k0_pay23 (F := Ideal) (k0_pay21 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0))) (View.ld (Val := Elt Ideal) (e' := .f32) x7 (Rect.unit (s := S6x1024) ![4, 0] ![1, 1024] inb_S6x1024_S1x1024_4_0)) (k0_pay22 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0)))) x8 (pre (mid (fun e => x3 (ix2 r e)) (fun k => x4 (ix2 r k)) (fun k => x5 (ix2 r k)) (fun k e => x6 (ix2 k e)) (fun e => x7 (ix2 3 e))) (fun e => x7 (ix2 4 e))) r hpre ii jj hj)
  have f8 := fun (ii : Fin 256) (jj : Fin 2816) (hj : jj.val = 256 * 8 + ii.val) => (pay34_at _ _ r ii).trans (chunk_ld 4096 8 (by omega) rfl inb_S1024x5632_S1024x512_0_4096 (k0_pay23 (F := Ideal) (k0_pay21 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0))) (View.ld (Val := Elt Ideal) (e' := .f32) x7 (Rect.unit (s := S6x1024) ![4, 0] ![1, 1024] inb_S6x1024_S1x1024_4_0)) (k0_pay22 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0)))) x8 (pre (mid (fun e => x3 (ix2 r e)) (fun k => x4 (ix2 r k)) (fun k => x5 (ix2 r k)) (fun k e => x6 (ix2 k e)) (fun e => x7 (ix2 3 e))) (fun e => x7 (ix2 4 e))) r hpre ii jj hj)
  have f9 := fun (ii : Fin 256) (jj : Fin 2816) (hj : jj.val = 256 * 9 + ii.val) => (pay36_at _ _ r ii).trans (chunk_ld 4608 9 (by omega) rfl inb_S1024x5632_S1024x512_0_4608 (k0_pay23 (F := Ideal) (k0_pay21 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0))) (View.ld (Val := Elt Ideal) (e' := .f32) x7 (Rect.unit (s := S6x1024) ![4, 0] ![1, 1024] inb_S6x1024_S1x1024_4_0)) (k0_pay22 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0)))) x8 (pre (mid (fun e => x3 (ix2 r e)) (fun k => x4 (ix2 r k)) (fun k => x5 (ix2 r k)) (fun k e => x6 (ix2 k e)) (fun e => x7 (ix2 3 e))) (fun e => x7 (ix2 4 e))) r hpre ii jj hj)
  have f10 := fun (ii : Fin 256) (jj : Fin 2816) (hj : jj.val = 256 * 10 + ii.val) => (pay37_at _ _ r ii).trans (chunk_ld 5120 10 (by omega) rfl inb_S1024x5632_S1024x512_0_5120 (k0_pay23 (F := Ideal) (k0_pay21 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0))) (View.ld (Val := Elt Ideal) (e' := .f32) x7 (Rect.unit (s := S6x1024) ![4, 0] ![1, 1024] inb_S6x1024_S1x1024_4_0)) (k0_pay22 x4 (View.ld (Val := Elt Ideal) (e' := .bf16) x6 (Rect.unit (s := S1024x1024) ![0, 0] ![512, 1024] inb_S1024x1024_S512x1024_0_0)) x5 (View.ld (Val := Elt Ideal) (e' := .bf16) x6 (Rect.unit (s := S1024x1024) ![512, 0] ![512, 1024] inb_S1024x1024_S512x1024_512_0)) x3 (View.ld (Val := Elt Ideal) (e' := .f32) x7 (Rect.unit (s := S6x1024) ![3, 0] ![1, 1024] inb_S6x1024_S1x1024_3_0)))) x8 (pre (mid (fun e => x3 (ix2 r e)) (fun k => x4 (ix2 r k)) (fun k => x5 (ix2 r k)) (fun k e => x6 (ix2 k e)) (fun e => x7 (ix2 3 e))) (fun e => x7 (ix2 4 e))) r hpre ii jj hj)
  conv_lhs => unfold out_B
  frame_out
  rw [pay38_at]
  unfold row
  refine post_congr (funext fun e => hmid e) (funext fun jj => ?_) rfl (funext fun e => ldg 5 inb_S6x1024_S1x1024_5_0 x7 e) d
  rw [scr_at]
  have hlt := jj.isLt
  have hcc : jj.val / 256 < 11 := by omega
  have hj : jj.val = 256 * (jj.val / 256) + jj.val % 256 := by omega
  generalize hc : (⟨jj.val / 256, hcc⟩ : Fin 11) = cc
  have hv : jj.val / 256 = cc.val := congrArg Fin.val hc
  rw [hv] at hj
  match cc, hj with
  | ⟨0, _⟩, hj => exact f0 ⟨jj.val % 256, by omega⟩ jj hj
  | ⟨1, _⟩, hj => exact f1 ⟨jj.val % 256, by omega⟩ jj hj
  | ⟨2, _⟩, hj => exact f2 ⟨jj.val % 256, by omega⟩ jj hj
  | ⟨3, _⟩, hj => exact f3 ⟨jj.val % 256, by omega⟩ jj hj
  | ⟨4, _⟩, hj => exact f4 ⟨jj.val % 256, by omega⟩ jj hj
  | ⟨5, _⟩, hj => exact f5 ⟨jj.val % 256, by omega⟩ jj hj
  | ⟨6, _⟩, hj => exact f6 ⟨jj.val % 256, by omega⟩ jj hj
  | ⟨7, _⟩, hj => exact f7 ⟨jj.val % 256, by omega⟩ jj hj
  | ⟨8, _⟩, hj => exact f8 ⟨jj.val % 256, by omega⟩ jj hj
  | ⟨9, _⟩, hj => exact f9 ⟨jj.val % 256, by omega⟩ jj hj
  | ⟨10, _⟩, hj => exact f10 ⟨jj.val % 256, by omega⟩ jj hj

end Cert.Kernel2Ideal.Ffn

end
-- ==== Proof.Ffn.Arr.lean ====
/- The two arrays the call leaves, row by row. -/
module

public import proofs.«01_k».proof.Proof.Ffn.OutB

@[expose] public section

set_option maxRecDepth 16384

noncomputable section

namespace Cert.Kernel2Ideal.Ffn
open Idealize.ShloMosaic Idealize.ShloMosaic.TcCoe Idealize.SL.Sem
open Idealize.ShloMosaic.Pipeline (Dat RDat)
open Cert.Kernel2Ideal Cert.Kernel2Ideal.Gen Cert.Ffn

variable (m : (ℓ : Loc nD τ sig) → Buf (Elt Ideal) ℓ)

/-- A result row is read at equal inputs and columns. -/
theorem row_congr {x x' : Fin 1024 → EReal} {a a' b b' : Fin 512 → EReal} {wo wo' : Fin 1024 → Fin 1024 → EReal} {g3 g3' g4 g4' g5 g5' : Fin 1024 → EReal}
    {wg wg' wu wu' : Fin 1024 → Fin 2816 → EReal} {wd wd' : Fin 2816 → Fin 1024 → EReal} {d d' : Fin 1024}
    (hx : x = x') (ha : a = a') (hb : b = b') (hwo : wo = wo') (h3 : g3 = g3') (h4 : g4 = g4') (h5 : g5 = g5') (hg : wg = wg') (hu : wu = wu') (hw : wd = wd') (hd : d = d') :
    row x a b wo g3 g4 g5 wg wu wd d = row x' a' b' wo' g3' g4' g5' wg' wu' wd' d' := by
  subst hx ha hb hwo h3 h4 h5 hg hu hw hd; rfl

/-- Where each window's block lies. -/
theorem idxs : ∀ t : Fin cfg0.N, win0_0.index t = ![min t.val 31, 0] ∧ win0_1.index t = ![min t.val 31, 0] ∧ win0_2.index t = ![min t.val 31, 0] ∧
    win0_3.index t = ![t.val - 32, 0] ∧ win0_4.index t = ![t.val - 32, 0] ∧ win0_5.index t = ![t.val - 32, 0] ∧
    win0_6.index t = ![0, 0] ∧ win0_7.index t = ![0, 0] ∧ win0_8.index t = ![0, 0] ∧ win0_9.index t = ![0, 0] ∧
    win0_10.index t = ![min t.val 31, 0] ∧ win0_11.index t = ![t.val - 32, 0] ∧ t.val < 34 :=
  (by decide +kernel : ∀ t : Fin grid0.N, _)

/-- The output matrix's block is the whole matrix. -/
theorem blk6 (c : Dev nD) (t : Fin cfg0.N) : (iblk m c 6 t : Vec Ideal S1024x1024 .bf16) = V m c main_v15 := by
  obtain ⟨-, -, -, -, -, -, i, -⟩ := idxs t
  blk_ext! [iblk, i]
/-- The gains' block is all the gains. -/
theorem blk7 (c : Dev nD) (t : Fin cfg0.N) : (iblk m c 7 t : Vec Ideal S6x1024 .f32) = V m c main_arg7 := by
  obtain ⟨-, -, -, -, -, -, -, i, -⟩ := idxs t
  blk_ext! [iblk, i]
/-- The interleaved weights' block is all of them. -/
theorem blk8 (c : Dev nD) (t : Fin cfg0.N) : (iblk m c 8 t : Vec Ideal S1024x5632 .bf16) = V m c main_v16 := by
  obtain ⟨-, -, -, -, -, -, -, -, i, -⟩ := idxs t
  blk_ext! [iblk, i]
/-- The down weights' block is all of them. -/
theorem blk9 (c : Dev nD) (t : Fin cfg0.N) : (iblk m c 9 t : Vec Ideal S2816x1024 .bf16) = V m c main_v17 := by
  obtain ⟨-, -, -, -, -, -, -, -, -, i, -⟩ := idxs t
  blk_ext! [iblk, i]

/-- The prompt tile's inputs, read off their arrays. -/
theorem blk0 (c : Dev nD) (t : Fin cfg0.N) (r : Fin 512) (e : Fin 1024) (R : Fin 16384) (hR : R.val = 512 * min t.val 31 + r.val) :
    (iblk m c 0 t : Vec Ideal S512x1024 .f32) (ix2 r e) = (V m c main_v4 : Vec Ideal S16384x1024 .f32) (ix2 R e) := by
  obtain ⟨i, -⟩ := idxs t
  obtain ⟨R, hRl⟩ := R
  subst hR
  blk_ext [iblk, i]
/-- The attention rows of a prompt tile. -/
theorem blk1 (c : Dev nD) (t : Fin cfg0.N) (r : Fin 512) (e : Fin 512) (R : Fin 16384) (hR : R.val = 512 * min t.val 31 + r.val) :
    (iblk m c 1 t : Vec Ideal S512x512 .bf16) (ix2 r e) = (V m c main_v6 : Vec Ideal S16384x512 .bf16) (ix2 R e) := by
  obtain ⟨-, i, -⟩ := idxs t
  obtain ⟨R, hRl⟩ := R
  subst hR
  blk_ext [iblk, i]
/-- The other mixer's rows of a prompt tile. -/
theorem blk2 (c : Dev nD) (t : Fin cfg0.N) (r : Fin 512) (e : Fin 512) (R : Fin 16384) (hR : R.val = 512 * min t.val 31 + r.val) :
    (iblk m c 2 t : Vec Ideal S512x512 .bf16) (ix2 r e) = (V m c main_v8 : Vec Ideal S16384x512 .bf16) (ix2 R e) := by
  obtain ⟨-, -, i, -⟩ := idxs t
  obtain ⟨R, hRl⟩ := R
  subst hR
  blk_ext [iblk, i]
/-- The sample tile's inputs, read off their arrays. -/
theorem blk3 (c : Dev nD) (t : Fin cfg0.N) (r : Fin 512) (e : Fin 1024) (R : Fin 1024) (hR : R.val = 512 * (t.val - 32) + r.val) :
    (iblk m c 3 t : Vec Ideal S512x1024 .f32) (ix2 r e) = (V m c main_v10 : Vec Ideal S1024x1024 .f32) (ix2 R e) := by
  obtain ⟨-, -, -, i, -⟩ := idxs t
  obtain ⟨R, hRl⟩ := R
  subst hR
  blk_ext [iblk, i]
/-- The attention rows of a sample tile. -/
theorem blk4 (c : Dev nD) (t : Fin cfg0.N) (r : Fin 512) (e : Fin 512) (R : Fin 1024) (hR : R.val = 512 * (t.val - 32) + r.val) :
    (iblk m c 4 t : Vec Ideal S512x512 .f32) (ix2 r e) = (V m c main_v12 : Vec Ideal S1024x512 .f32) (ix2 R e) := by
  obtain ⟨-, -, -, -, i, -⟩ := idxs t
  obtain ⟨R, hRl⟩ := R
  subst hR
  blk_ext [iblk, i]
/-- The other mixer's rows of a sample tile. -/
theorem blk5 (c : Dev nD) (t : Fin cfg0.N) (r : Fin 512) (e : Fin 512) (R : Fin 1024) (hR : R.val = 512 * (t.val - 32) + r.val) :
    (iblk m c 5 t : Vec Ideal S512x512 .f32) (ix2 r e) = (V m c main_v14 : Vec Ideal S1024x512 .f32) (ix2 R e) := by
  obtain ⟨-, -, -, -, -, i, -⟩ := idxs t
  obtain ⟨R, hRl⟩ := R
  subst hR
  blk_ext [iblk, i]

/-- The prompt rows' array. -/
def arrA (c : Dev nD) (R : Fin 16384) (d : Fin 1024) : EReal :=
  row (fun e => (V m c main_v4 : Vec Ideal S16384x1024 .f32) (ix2 R e)) (fun k => (V m c main_v6 : Vec Ideal S16384x512 .bf16) (ix2 R k)) (fun k => (V m c main_v8 : Vec Ideal S16384x512 .bf16) (ix2 R k))
    (fun k e => (V m c main_v15 : Vec Ideal S1024x1024 .bf16) (ix2 k e)) (fun e => (V m c main_arg7 : Vec Ideal S6x1024 .f32) (ix2 3 e)) (fun e => (V m c main_arg7 : Vec Ideal S6x1024 .f32) (ix2 4 e))
    (fun e => (V m c main_arg7 : Vec Ideal S6x1024 .f32) (ix2 5 e)) (wgOf (V m c main_v16)) (wuOf (V m c main_v16)) (fun j e => (V m c main_v17 : Vec Ideal S2816x1024 .bf16) (ix2 j e)) d

/-- The sample rows' array. -/
def arrB (c : Dev nD) (R : Fin 1024) (d : Fin 1024) : EReal :=
  row (fun e => (V m c main_v10 : Vec Ideal S1024x1024 .f32) (ix2 R e)) (fun k => (V m c main_v12 : Vec Ideal S1024x512 .f32) (ix2 R k)) (fun k => (V m c main_v14 : Vec Ideal S1024x512 .f32) (ix2 R k))
    (fun k e => (V m c main_v15 : Vec Ideal S1024x1024 .bf16) (ix2 k e)) (fun e => (V m c main_arg7 : Vec Ideal S6x1024 .f32) (ix2 3 e)) (fun e => (V m c main_arg7 : Vec Ideal S6x1024 .f32) (ix2 4 e))
    (fun e => (V m c main_arg7 : Vec Ideal S6x1024 .f32) (ix2 5 e)) (wgOf (V m c main_v16)) (wuOf (V m c main_v16)) (fun j e => (V m c main_v17 : Vec Ideal S2816x1024 .bf16) (ix2 j e)) d

/-- A prompt tile's block at its rows of the array. -/
theorem tileA (c : Dev nD) (t : Fin cfg0.N) (h : t.val < 32) (r : Fin 512) (d : Fin 1024) (R : Fin 16384) (hR : R.val = 512 * min t.val 31 + r.val) :
    resA m c t h (ix2 r d) = arrA m c R d := by
  rw [outA]
  unfold arrA
  rw [blk6, blk7, blk8, blk9]
  exact row_congr (funext fun e => blk0 m c t r e R hR) (funext fun e => blk1 m c t r e R hR) (funext fun e => blk2 m c t r e R hR) rfl rfl rfl rfl rfl rfl rfl rfl

/-- A sample tile's block at its rows of the array. -/
theorem tileB (c : Dev nD) (t : Fin cfg0.N) (h : 32 ≤ t.val) (r : Fin 512) (d : Fin 1024) (R : Fin 1024) (hR : R.val = 512 * (t.val - 32) + r.val) :
    resB m c t h (ix2 r d) = arrB m c R d := by
  rw [outB]
  unfold arrB
  rw [blk6, blk7, blk8, blk9]
  exact row_congr (funext fun e => blk3 m c t r e R hR) (funext fun e => blk4 m c t r e R hR) (funext fun e => blk5 m c t r e R hR) rfl rfl rfl rfl rfl rfl rfl rfl

/-- The first output's array, of the exact data. -/
theorem arr10 (c : Dev nD) : (dats m 0 c).arrAt 10 cfg0.N = (fun y : S16384x1024.Idx => arrA m c (y 0) (y 1) : S16384x1024.Idx → EReal) := by
  refine (dats m 0 c).arrAt_eq_of_covers 10 _ (by decide +kernel) fun t hf y => ?_
  obtain ⟨-, -, -, -, -, -, -, -, -, -, i, -, hN⟩ := idxs t
  blk_simp
  rw [after0_10]
  idx_vars y
  refine (tileA m c (ptA t) (ptA_lt t) _ _ ⟨512 * min t.val 31 + y0.val, by omega⟩ (by show _ = 512 * min (min t.val 31) 31 + y0.val; simp)).trans ?_
  refine congrArg₂ (arrA m c) (Fin.ext ?_) (Fin.ext ?_)
  · blk_simp [i]
    show 512 * min t.val 31 + y0.val = min t.val 31 * 512 + y0.val
    omega
  · blk_simp [i] <;> try omega

/-- The second output is written back from the second branch alone. -/
theorem flush11 : ∀ t : Fin cfg0.N, (cfg0.win 11).flush t = true → 32 ≤ t.val :=
  (by decide +kernel : ∀ t : Fin grid0.N, win0_11.flush t = true → 32 ≤ t.val)

/-- The second output's array, of any exact data whose blocks are what the body may leave. -/
theorem arr11 (c : Dev nD) (after : (w' : Fin cfg0.W) → Fin cfg0.N → (cfg0.win w').block.Idx → Elt Ideal (cfg0.win w').elt)
    (hL : ∀ u : Fin cfg0.N, (cfg0.win 11).flush u = true → (rdat m c).Leaves 11 u (after 11 u)) :
    ((rdat m c).withAfter after).arrAt 11 cfg0.N = (fun y : S1024x1024.Idx => arrB m c (y 0) (y 1) : S1024x1024.Idx → EReal) := by
  refine ((rdat m c).withAfter after).arrAt_eq_of_covers 11 _ (by decide +kernel) fun t hf y => ?_
  obtain ⟨-, -, -, -, -, -, -, -, -, -, -, i, hN⟩ := idxs t
  have h32 := flush11 t hf
  have hres : (after 11 t : Vec Ideal S512x1024 .f32) = resB m c t h32 := Pipeline.Dat.toRRel_leaves (dats m 0 c) (by decide) (hL t hf) h32
  blk_simp
  rw [RDat.withAfter_after, hres]
  idx_vars y
  refine (tileB m c t h32 _ _ ⟨512 * (t.val - 32) + y0.val, by omega⟩ rfl).trans ?_
  refine congrArg₂ (arrB m c) (Fin.ext ?_) (Fin.ext ?_)
  · blk_simp [i]
    show 512 * (t.val - 32) + y0.val = (t.val - 32) * 512 + y0.val
    omega
  · blk_simp [i] <;> try omega

/-- What the run leaves in the first result. -/
theorem run10 (r : PUnit × MemSt nD τ sig (Elt Ideal)) (h : RDat.FramePost (cfgs 0) (rdat m) (V m) r) (c : Dev nD) :
    r.2.mem ((c.tc : Thread nD τ).loc main_v18_0) = (fun y : S16384x1024.Idx => arrA m c (y 0) (y 1) : S16384x1024.Idx → EReal) := by
  have h10 := (h c).1 10
  exact (((dats m 0 c).toR_arrAt_iff 10 _ _).1 ((RDat.override_arrAt (rd := (dats m 0 c).toR) rfl _ _).1 h10)).trans (arr10 m c)

/-- What the run leaves in the second result. -/
theorem run11 (r : PUnit × MemSt nD τ sig (Elt Ideal)) (h : RDat.FramePost (cfgs 0) (rdat m) (V m) r) (c : Dev nD) :
    r.2.mem ((c.tc : Thread nD τ).loc main_v18_1) = (fun y : S1024x1024.Idx => arrB m c (y 0) (y 1) : S1024x1024.Idx → EReal) := by
  obtain ⟨after, hL, hA⟩ := RDat.FramePost.exists_exact h c
  exact (hA 11).trans (arr11 m c after fun u hu => hL 11 u hu)

end Cert.Kernel2Ideal.Ffn

end
-- ==== Proof.Ffn.Host.lean ====
/- What the call's arrays hold, of the arguments. -/
module

public import proofs.«01_k».proof.Proof.Ffn.Arr
public import Idealize.ShloMosaic.Lib.Claim

@[expose] public section

set_option maxRecDepth 16384

noncomputable section

namespace Cert.Kernel2Ideal.Ffn
open Idealize.ShloMosaic Idealize.ShloMosaic.TcCoe Idealize.SL.Sem
open Cert.Kernel2Ideal Cert.Kernel2Ideal.Gen Cert.Ffn

variable (m : (ℓ : Loc nD τ sig) → Buf (Elt Ideal) ℓ)

/-- An array of four rows of eight, zeros after them. -/
theorem pad_at1024 (x : FVec Ideal S128x4x1024 .f32) (a : Fin 128) (b : Fin 8) (e : Fin 1024) :
    pad S128x8x1024 ![0, 0, 0] ![0, 4, 0] ![0, 0, 0] x (sitofp (F := Ideal) .f32 (constantI S_ 32 0#32)) pads_S128x4x1024_S128x8x1024_000_040_000 h_S_ (ix3 a b e)
      = if h : b.val < 4 then x (ix3 a ⟨b.val, h⟩ e) else (0 : EReal) := by
  have z : ∀ i, sitofp (F := Ideal) .f32 (constantI S_ 32 0#32) i = (0 : EReal) := fun i => by
    show (((0#32 : BitVec 32).toInt : ℝ) : EReal) = 0
    simp
  generalize (sitofp (F := Ideal) .f32 (constantI S_ 32 0#32)) = v at z ⊢
  pointwise
  simp only [z]

/-- An array of four rows of eight, zeros after them. -/
theorem pad_at512 (x : FVec Ideal S128x4x512 .f32) (a : Fin 128) (b : Fin 8) (e : Fin 512) :
    pad S128x8x512 ![0, 0, 0] ![0, 4, 0] ![0, 0, 0] x (sitofp (F := Ideal) .f32 (constantI S_ 32 0#32)) pads_S128x4x512_S128x8x512_000_040_000 h_S_ (ix3 a b e)
      = if h : b.val < 4 then x (ix3 a ⟨b.val, h⟩ e) else (0 : EReal) := by
  have z : ∀ i, sitofp (F := Ideal) .f32 (constantI S_ 32 0#32) i = (0 : EReal) := fun i => by
    show (((0#32 : BitVec 32).toInt : ℝ) : EReal) = 0
    simp
  generalize (sitofp (F := Ideal) .f32 (constantI S_ 32 0#32)) = v at z ⊢
  pointwise
  simp only [z]

/-- The prompts' rows. -/
theorem V_x (c : Dev nD) (R : Fin 16384) (e : Fin 1024) :
    (V m c main_v4 : Vec Ideal S16384x1024 .f32) (ix2 R e) = (m ((c : Thread nD τ).loc main_arg0) : FVec Ideal S8x2048x1024 .f32) (ix3 ⟨R.val / 2048, by omega⟩ ⟨R.val % 2048, by omega⟩ e) := by
  unfold V
  simp only [hostOps0, hostOps0_1, hostOps0_2, hostOps0_3, hostOps0_4, hostOps0_5, hostOps0_6, List.flatten_cons, List.flatten_nil, List.append_nil, List.cons_append, List.nil_append]
  entry_read
  pointwise

/-- The prompts' attention rows. -/
theorem V_a (c : Dev nD) (R : Fin 16384) (e : Fin 512) :
    (V m c main_v6 : Vec Ideal S16384x512 .bf16) (ix2 R e) = (m ((c : Thread nD τ).loc main_arg1) : FVec Ideal S8x2048x512 .f32) (ix3 ⟨R.val / 2048, by omega⟩ ⟨R.val % 2048, by omega⟩ e) := by
  unfold V
  simp only [hostOps0, hostOps0_1, hostOps0_2, hostOps0_3, hostOps0_4, hostOps0_5, hostOps0_6, List.flatten_cons, List.flatten_nil, List.append_nil, List.cons_append, List.nil_append]
  entry_read
  pointwise

/-- The prompts' other mixer's rows. -/
theorem V_b (c : Dev nD) (R : Fin 16384) (e : Fin 512) :
    (V m c main_v8 : Vec Ideal S16384x512 .bf16) (ix2 R e) = (m ((c : Thread nD τ).loc main_arg2) : FVec Ideal S8x2048x512 .f32) (ix3 ⟨R.val / 2048, by omega⟩ ⟨R.val % 2048, by omega⟩ e) := by
  unfold V
  simp only [hostOps0, hostOps0_1, hostOps0_2, hostOps0_3, hostOps0_4, hostOps0_5, hostOps0_6, List.flatten_cons, List.flatten_nil, List.append_nil, List.cons_append, List.nil_append]
  entry_read
  pointwise

/-- The samples' rows, four of eight. -/
theorem V_xs (c : Dev nD) (R : Fin 1024) (e : Fin 1024) :
    (V m c main_v10 : Vec Ideal S1024x1024 .f32) (ix2 R e) = if h : R.val % 8 < 4 then (m ((c : Thread nD τ).loc main_arg3) : FVec Ideal S128x4x1024 .f32) (ix3 ⟨R.val / 8, by omega⟩ ⟨R.val % 8, h⟩ e) else (0 : EReal) := by
  unfold V
  simp only [hostOps0, hostOps0_1, hostOps0_2, hostOps0_3, hostOps0_4, hostOps0_5, hostOps0_6, List.flatten_cons, List.flatten_nil, List.append_nil, List.cons_append, List.nil_append]
  entry_read
  pointwise
  exact pad_at1024 _ _ _ _

/-- The samples' attention rows, four of eight. -/
theorem V_as (c : Dev nD) (R : Fin 1024) (e : Fin 512) :
    (V m c main_v12 : Vec Ideal S1024x512 .f32) (ix2 R e) = if h : R.val % 8 < 4 then (m ((c : Thread nD τ).loc main_arg4) : FVec Ideal S128x4x512 .f32) (ix3 ⟨R.val / 8, by omega⟩ ⟨R.val % 8, h⟩ e) else (0 : EReal) := by
  unfold V
  simp only [hostOps0, hostOps0_1, hostOps0_2, hostOps0_3, hostOps0_4, hostOps0_5, hostOps0_6, List.flatten_cons, List.flatten_nil, List.append_nil, List.cons_append, List.nil_append]
  entry_read
  pointwise
  exact pad_at512 _ _ _ _

/-- The samples' other mixer's rows, four of eight. -/
theorem V_bs (c : Dev nD) (R : Fin 1024) (e : Fin 512) :
    (V m c main_v14 : Vec Ideal S1024x512 .f32) (ix2 R e) = if h : R.val % 8 < 4 then (m ((c : Thread nD τ).loc main_arg5) : FVec Ideal S128x4x512 .f32) (ix3 ⟨R.val / 8, by omega⟩ ⟨R.val % 8, h⟩ e) else (0 : EReal) := by
  unfold V
  simp only [hostOps0, hostOps0_1, hostOps0_2, hostOps0_3, hostOps0_4, hostOps0_5, hostOps0_6, List.flatten_cons, List.flatten_nil, List.append_nil, List.cons_append, List.nil_append]
  entry_read
  pointwise
  exact pad_at512 _ _ _ _

/-- The output matrix. -/
theorem V_wo (c : Dev nD) (R : Fin 1024) (e : Fin 1024) :
    (V m c main_v15 : Vec Ideal S1024x1024 .bf16) (ix2 R e) = (m ((c : Thread nD τ).loc main_arg6) : FVec Ideal S1024x1024 .f32) (ix2 R e) := by
  unfold V
  simp only [hostOps0, hostOps0_1, hostOps0_2, hostOps0_3, hostOps0_4, hostOps0_5, hostOps0_6, List.flatten_cons, List.flatten_nil, List.append_nil, List.cons_append, List.nil_append]
  entry_read
  pointwise

/-- The gate's weights. -/
theorem V_wg (c : Dev nD) (k : Fin 1024) (j : Fin 2816) : wgOf (V m c main_v16) k j = (m ((c : Thread nD τ).loc main_arg8) : FVec Ideal S1024x2816 .f32) (ix2 k j) := by
  unfold wgOf
  unfold V
  simp only [hostOps0, hostOps0_1, hostOps0_2, hostOps0_3, hostOps0_4, hostOps0_5, hostOps0_6, List.flatten_cons, List.flatten_nil, List.append_nil, List.cons_append, List.nil_append]
  entry_read
  pointwise
  rw [dif_pos (by omega)]
  exact congrArg (m ((c : Thread nD τ).loc main_arg8) : FVec Ideal S1024x2816 .f32) ((ix2_inj ..).2 ⟨rfl, Fin.ext (by show (512 * (j.val / 256) + j.val % 256) / 512 * 256 + (512 * (j.val / 256) + j.val % 256) % 256 = j.val; omega)⟩)

/-- The up product's weights. -/
theorem V_wu (c : Dev nD) (k : Fin 1024) (j : Fin 2816) : wuOf (V m c main_v16) k j = (m ((c : Thread nD τ).loc main_arg9) : FVec Ideal S1024x2816 .f32) (ix2 k j) := by
  unfold wuOf
  unfold V
  simp only [hostOps0, hostOps0_1, hostOps0_2, hostOps0_3, hostOps0_4, hostOps0_5, hostOps0_6, List.flatten_cons, List.flatten_nil, List.append_nil, List.cons_append, List.nil_append]
  entry_read
  pointwise
  rw [dif_neg (by omega)]
  exact congrArg (m ((c : Thread nD τ).loc main_arg9) : FVec Ideal S1024x2816 .f32) ((ix2_inj ..).2 ⟨rfl, Fin.ext (by show (512 * (j.val / 256) + (256 + j.val % 256)) / 512 * 256 + (512 * (j.val / 256) + (256 + j.val % 256)) % 256 = j.val; omega)⟩)

/-- The down weights. -/
theorem V_wd (c : Dev nD) (R : Fin 2816) (e : Fin 1024) :
    (V m c main_v17 : Vec Ideal S2816x1024 .bf16) (ix2 R e) = (m ((c : Thread nD τ).loc main_arg10) : FVec Ideal S2816x1024 .f32) (ix2 R e) := by
  unfold V
  simp only [hostOps0, hostOps0_1, hostOps0_2, hostOps0_3, hostOps0_4, hostOps0_5, hostOps0_6, List.flatten_cons, List.flatten_nil, List.append_nil, List.cons_append, List.nil_append]
  entry_read
  pointwise

/-- The gains. -/
theorem V_g (c : Dev nD) (R : Fin 6) (e : Fin 1024) :
    (V m c main_arg7 : Vec Ideal S6x1024 .f32) (ix2 R e) = (m ((c : Thread nD τ).loc main_arg7) : FVec Ideal S6x1024 .f32) (ix2 R e) :=
  congrFun (V_main_arg7 m c) (ix2 R e)

end Cert.Kernel2Ideal.Ffn

end
-- ==== Proof.Ffn.Ref.lean ====
/- The reference's two results, row by row. -/
module

public import proofs.«01_k».proof.Proof.Gen.Reference2Ideal.Read
public import proofs.«01_k».proof.Proof.Ffn.Row
public import Idealize.ShloMosaic.Lib.Pointwise

@[expose] public section

set_option maxRecDepth 16384

noncomputable section

namespace Cert.Reference2Ideal.Ffn
open Idealize.ShloMosaic Idealize.ShloMosaic.TcCoe Idealize.SL.Sem
open Cert.Reference2Ideal Cert.Reference2Ideal.Read Cert.Ffn

/-! ## prompt -/

/-- The output matrix's product of a row of the two mixers. -/
theorem prompt_mix (x0 : FVec Ideal S8x2048x1024 .f32) (x1 x2 : FVec Ideal S8x2048x512 .f32) (x6 : FVec Ideal S1024x1024 .f32) (x7 : FVec Ideal S6x1024 .f32) (x8 x9 : FVec Ideal S1024x2816 .f32) (x10 : FVec Ideal S2816x1024 .f32) (b : Fin 8) (t : Fin 2048) (d : Fin 1024) :
    val_main_v1 (F := Ideal) x1 x2 x6 (ix3 b t d) = mix (fun k => x1 (ix3 b t k)) (fun k => x2 (ix3 b t k)) (fun k e => x6 (ix2 k e)) d := by
  unfold mix
  pointwise [val_main_v1, val_main_v0]

/-- The row after the mixers. -/
theorem prompt_mid (x0 : FVec Ideal S8x2048x1024 .f32) (x1 x2 : FVec Ideal S8x2048x512 .f32) (x6 : FVec Ideal S1024x1024 .f32) (x7 : FVec Ideal S6x1024 .f32) (x8 x9 : FVec Ideal S1024x2816 .f32) (x10 : FVec Ideal S2816x1024 .f32) (b : Fin 8) (t : Fin 2048) (d : Fin 1024) :
    val_main_v17 (F := Ideal) x0 x1 x2 x6 x7 (ix3 b t d) = (mid (fun e => x0 (ix3 b t e)) (fun k => x1 (ix3 b t k)) (fun k => x2 (ix3 b t k)) (fun k e => x6 (ix2 k e)) (fun e => x7 (ix2 3 e))) d := by
  have e := prompt_mix x0 x1 x2 x6 x7 x8 x9 x10 b t
  unfold mid nrm
  simp only [← e]
  pointwise [val_main_v2, val_main_v3, val_main_v4, val_main_v5, val_main_v6, val_main_v7, val_main_v8, val_main_v9, val_main_v10, val_main_v11, val_main_v12, val_main_v13, val_main_v14, val_main_v15, val_main_v16, val_main_v17, val_main_cst, val_main_cst_0, val_main_cst_1]

/-- The normalised row. -/
theorem prompt_pre (x0 : FVec Ideal S8x2048x1024 .f32) (x1 x2 : FVec Ideal S8x2048x512 .f32) (x6 : FVec Ideal S1024x1024 .f32) (x7 : FVec Ideal S6x1024 .f32) (x8 x9 : FVec Ideal S1024x2816 .f32) (x10 : FVec Ideal S2816x1024 .f32) (b : Fin 8) (t : Fin 2048) (d : Fin 1024) :
    val_main_v52 (F := Ideal) x0 x1 x2 x6 x7 (ix3 b t d) = (pre (mid (fun e => x0 (ix3 b t e)) (fun k => x1 (ix3 b t k)) (fun k => x2 (ix3 b t k)) (fun k e => x6 (ix2 k e)) (fun e => x7 (ix2 3 e))) (fun e => x7 (ix2 4 e))) d := by
  have e := prompt_mid x0 x1 x2 x6 x7 x8 x9 x10 b t
  unfold pre nrm
  simp only [← e]
  pointwise [val_main_v36, val_main_v37, val_main_v40, val_main_v41, val_main_v42, val_main_v43, val_main_v44, val_main_v45, val_main_v46, val_main_v47, val_main_v48, val_main_v49, val_main_v50, val_main_v51, val_main_v52, val_main_cst_5, val_main_cst_6, val_main_cst_7]

/-- The activations. -/
theorem prompt_acts (x0 : FVec Ideal S8x2048x1024 .f32) (x1 x2 : FVec Ideal S8x2048x512 .f32) (x6 : FVec Ideal S1024x1024 .f32) (x7 : FVec Ideal S6x1024 .f32) (x8 x9 : FVec Ideal S1024x2816 .f32) (x10 : FVec Ideal S2816x1024 .f32) (b : Fin 8) (t : Fin 2048) (j : Fin 2816) :
    val_main_v56 (F := Ideal) x0 x1 x2 x6 x7 x8 x9 (ix3 b t j) = acts (pre (mid (fun e => x0 (ix3 b t e)) (fun k => x1 (ix3 b t k)) (fun k => x2 (ix3 b t k)) (fun k e => x6 (ix2 k e)) (fun e => x7 (ix2 3 e))) (fun e => x7 (ix2 4 e))) (fun k j => x8 (ix2 k j)) (fun k j => x9 (ix2 k j)) j := by
  have e := prompt_pre x0 x1 x2 x6 x7 x8 x9 x10 b t
  unfold acts act lin
  simp only [← e]
  pointwise [val_main_v53, val_main_v54, val_main_v55, val_main_v56, val_main_call0_v0, val_main_call0_v1, val_main_call0_cst, val_main_call0_v2, val_main_call0_v3, val_main_call0_cst_0, val_main_call0_v4, val_main_call0_v5]
  rfl

/-- The layer's last row. -/
theorem prompt_row (x0 : FVec Ideal S8x2048x1024 .f32) (x1 x2 : FVec Ideal S8x2048x512 .f32) (x6 : FVec Ideal S1024x1024 .f32) (x7 : FVec Ideal S6x1024 .f32) (x8 x9 : FVec Ideal S1024x2816 .f32) (x10 : FVec Ideal S2816x1024 .f32) (b : Fin 8) (t : Fin 2048) (d : Fin 1024) :
    val_main_v73 (F := Ideal) x0 x1 x2 x6 x7 x8 x9 x10 (ix3 b t d) = row (fun e => x0 (ix3 b t e)) (fun k => x1 (ix3 b t k)) (fun k => x2 (ix3 b t k)) (fun k e => x6 (ix2 k e)) (fun e => x7 (ix2 3 e)) (fun e => x7 (ix2 4 e)) (fun e => x7 (ix2 5 e))
      (fun k j => x8 (ix2 k j)) (fun k j => x9 (ix2 k j)) (fun j e => x10 (ix2 j e)) d := by
  have e := prompt_mid x0 x1 x2 x6 x7 x8 x9 x10 b t
  have e' := prompt_acts x0 x1 x2 x6 x7 x8 x9 x10 b t
  unfold row Cert.Ffn.post nrm lin
  simp only [← e, ← e']
  pointwise [val_main_v38, val_main_v39, val_main_v57, val_main_v58, val_main_v59, val_main_v60, val_main_v61, val_main_v62, val_main_v63, val_main_v64, val_main_v65, val_main_v66, val_main_v67, val_main_v68, val_main_v69, val_main_v70, val_main_v71, val_main_v72, val_main_v73, val_main_cst_8, val_main_cst_9, val_main_cst_10, val_main_cst_11]

/-! ## sample -/

/-- The output matrix's product of a row of the two mixers. -/
theorem sample_mix (x3 : FVec Ideal S128x4x1024 .f32) (x4 x5 : FVec Ideal S128x4x512 .f32) (x6 : FVec Ideal S1024x1024 .f32) (x7 : FVec Ideal S6x1024 .f32) (x8 x9 : FVec Ideal S1024x2816 .f32) (x10 : FVec Ideal S2816x1024 .f32) (b : Fin 128) (t : Fin 4) (d : Fin 1024) :
    val_main_v19 (F := Ideal) x4 x5 x6 (ix3 b t d) = mix (fun k => x4 (ix3 b t k)) (fun k => x5 (ix3 b t k)) (fun k e => x6 (ix2 k e)) d := by
  unfold mix
  pointwise [val_main_v19, val_main_v18]

/-- The row after the mixers. -/
theorem sample_mid (x3 : FVec Ideal S128x4x1024 .f32) (x4 x5 : FVec Ideal S128x4x512 .f32) (x6 : FVec Ideal S1024x1024 .f32) (x7 : FVec Ideal S6x1024 .f32) (x8 x9 : FVec Ideal S1024x2816 .f32) (x10 : FVec Ideal S2816x1024 .f32) (b : Fin 128) (t : Fin 4) (d : Fin 1024) :
    val_main_v35 (F := Ideal) x3 x4 x5 x6 x7 (ix3 b t d) = (mid (fun e => x3 (ix3 b t e)) (fun k => x4 (ix3 b t k)) (fun k => x5 (ix3 b t k)) (fun k e => x6 (ix2 k e)) (fun e => x7 (ix2 3 e))) d := by
  have e := sample_mix x3 x4 x5 x6 x7 x8 x9 x10 b t
  unfold mid nrm
  simp only [← e]
  pointwise [val_main_v20, val_main_v21, val_main_v22, val_main_v23, val_main_v24, val_main_v25, val_main_v26, val_main_v27, val_main_v28, val_main_v29, val_main_v30, val_main_v31, val_main_v32, val_main_v33, val_main_v34, val_main_v35, val_main_cst_2, val_main_cst_3, val_main_cst_4]

/-- The normalised row. -/
theorem sample_pre (x3 : FVec Ideal S128x4x1024 .f32) (x4 x5 : FVec Ideal S128x4x512 .f32) (x6 : FVec Ideal S1024x1024 .f32) (x7 : FVec Ideal S6x1024 .f32) (x8 x9 : FVec Ideal S1024x2816 .f32) (x10 : FVec Ideal S2816x1024 .f32) (b : Fin 128) (t : Fin 4) (d : Fin 1024) :
    val_main_v90 (F := Ideal) x3 x4 x5 x6 x7 (ix3 b t d) = (pre (mid (fun e => x3 (ix3 b t e)) (fun k => x4 (ix3 b t k)) (fun k => x5 (ix3 b t k)) (fun k e => x6 (ix2 k e)) (fun e => x7 (ix2 3 e))) (fun e => x7 (ix2 4 e))) d := by
  have e := sample_mid x3 x4 x5 x6 x7 x8 x9 x10 b t
  unfold pre nrm
  simp only [← e]
  pointwise [val_main_v74, val_main_v75, val_main_v78, val_main_v79, val_main_v80, val_main_v81, val_main_v82, val_main_v83, val_main_v84, val_main_v85, val_main_v86, val_main_v87, val_main_v88, val_main_v89, val_main_v90, val_main_cst_12, val_main_cst_13, val_main_cst_14]

/-- The activations. -/
theorem sample_acts (x3 : FVec Ideal S128x4x1024 .f32) (x4 x5 : FVec Ideal S128x4x512 .f32) (x6 : FVec Ideal S1024x1024 .f32) (x7 : FVec Ideal S6x1024 .f32) (x8 x9 : FVec Ideal S1024x2816 .f32) (x10 : FVec Ideal S2816x1024 .f32) (b : Fin 128) (t : Fin 4) (j : Fin 2816) :
    val_main_v94 (F := Ideal) x3 x4 x5 x6 x7 x8 x9 (ix3 b t j) = acts (pre (mid (fun e => x3 (ix3 b t e)) (fun k => x4 (ix3 b t k)) (fun k => x5 (ix3 b t k)) (fun k e => x6 (ix2 k e)) (fun e => x7 (ix2 3 e))) (fun e => x7 (ix2 4 e))) (fun k j => x8 (ix2 k j)) (fun k j => x9 (ix2 k j)) j := by
  have e := sample_pre x3 x4 x5 x6 x7 x8 x9 x10 b t
  unfold acts act lin
  simp only [← e]
  pointwise [val_main_v91, val_main_v92, val_main_v93, val_main_v94, val_main_call1_v0, val_main_call1_v1, val_main_call1_cst, val_main_call1_v2, val_main_call1_v3, val_main_call1_cst_0, val_main_call1_v4, val_main_call1_v5]
  rfl

/-- The layer's last row. -/
theorem sample_row (x3 : FVec Ideal S128x4x1024 .f32) (x4 x5 : FVec Ideal S128x4x512 .f32) (x6 : FVec Ideal S1024x1024 .f32) (x7 : FVec Ideal S6x1024 .f32) (x8 x9 : FVec Ideal S1024x2816 .f32) (x10 : FVec Ideal S2816x1024 .f32) (b : Fin 128) (t : Fin 4) (d : Fin 1024) :
    val_main_v111 (F := Ideal) x3 x4 x5 x6 x7 x8 x9 x10 (ix3 b t d) = row (fun e => x3 (ix3 b t e)) (fun k => x4 (ix3 b t k)) (fun k => x5 (ix3 b t k)) (fun k e => x6 (ix2 k e)) (fun e => x7 (ix2 3 e)) (fun e => x7 (ix2 4 e)) (fun e => x7 (ix2 5 e))
      (fun k j => x8 (ix2 k j)) (fun k j => x9 (ix2 k j)) (fun j e => x10 (ix2 j e)) d := by
  have e := sample_mid x3 x4 x5 x6 x7 x8 x9 x10 b t
  have e' := sample_acts x3 x4 x5 x6 x7 x8 x9 x10 b t
  unfold row Cert.Ffn.post nrm lin
  simp only [← e, ← e']
  pointwise [val_main_v76, val_main_v77, val_main_v95, val_main_v96, val_main_v97, val_main_v98, val_main_v99, val_main_v100, val_main_v101, val_main_v102, val_main_v103, val_main_v104, val_main_v105, val_main_v106, val_main_v107, val_main_v108, val_main_v109, val_main_v110, val_main_v111, val_main_cst_15, val_main_cst_16, val_main_cst_17, val_main_cst_18]

/-! ## The two results -/

/-- A row number of the prompt's result names a sequence. -/
theorem seqA (R : Fin 16384) : R.val / 2048 < 8 := by have := R.isLt; omega
/-- A row number of the prompt's result names a token of its sequence. -/
theorem tokA (R : Fin 16384) : R.val % 2048 < 2048 := Nat.mod_lt _ (by decide)
/-- A row number of the samples' result names a sequence. -/
theorem seqB (R : Fin 1024) : R.val / 8 < 128 := by have := R.isLt; omega

/-- The first result at a row and a column. -/
theorem prompt_at (x0 : FVec Ideal S8x2048x1024 .f32) (x1 x2 : FVec Ideal S8x2048x512 .f32) (x6 : FVec Ideal S1024x1024 .f32) (x7 : FVec Ideal S6x1024 .f32) (x8 x9 : FVec Ideal S1024x2816 .f32) (x10 : FVec Ideal S2816x1024 .f32) (R : Fin 16384) (d : Fin 1024) :
    val_main_v113 (F := Ideal) x0 x1 x2 x6 x7 x8 x9 x10 (ix2 R d) = row (fun e => x0 (ix3 ⟨R.val / 2048, seqA R⟩ ⟨R.val % 2048, tokA R⟩ e)) (fun e => x1 (ix3 ⟨R.val / 2048, seqA R⟩ ⟨R.val % 2048, tokA R⟩ e)) (fun e => x2 (ix3 ⟨R.val / 2048, seqA R⟩ ⟨R.val % 2048, tokA R⟩ e)) (fun k e => x6 (ix2 k e)) (fun e => x7 (ix2 3 e)) (fun e => x7 (ix2 4 e)) (fun e => x7 (ix2 5 e)) (fun k j => x8 (ix2 k j)) (fun k j => x9 (ix2 k j)) (fun j e => x10 (ix2 j e)) d := by
  rw [← prompt_row x0 x1 x2 x6 x7 x8 x9 x10]
  pointwise [val_main_v113]

/-- The second result at a row and a column: the rows past a sequence's four tokens hold zero. -/
theorem sample_at (x3 : FVec Ideal S128x4x1024 .f32) (x4 x5 : FVec Ideal S128x4x512 .f32) (x6 : FVec Ideal S1024x1024 .f32) (x7 : FVec Ideal S6x1024 .f32) (x8 x9 : FVec Ideal S1024x2816 .f32) (x10 : FVec Ideal S2816x1024 .f32) (R : Fin 1024) (d : Fin 1024) :
    val_main_v114 (F := Ideal) x3 x4 x5 x6 x7 x8 x9 x10 (ix2 R d) = if h : R.val % 8 < 4 then row (fun e => x3 (ix3 ⟨R.val / 8, seqB R⟩ ⟨R.val % 8, h⟩ e)) (fun e => x4 (ix3 ⟨R.val / 8, seqB R⟩ ⟨R.val % 8, h⟩ e)) (fun e => x5 (ix3 ⟨R.val / 8, seqB R⟩ ⟨R.val % 8, h⟩ e)) (fun k e => x6 (ix2 k e)) (fun e => x7 (ix2 3 e)) (fun e => x7 (ix2 4 e)) (fun e => x7 (ix2 5 e)) (fun k j => x8 (ix2 k j)) (fun k j => x9 (ix2 k j)) (fun j e => x10 (ix2 j e)) d else 0 := by
  simp only [← sample_row x3 x4 x5 x6 x7 x8 x9 x10]
  have z : ∀ i, val_main_call2_v0 (F := Ideal) i = 0 := by
    intro i
    show (((0#32 : BitVec 32).toInt : ℝ) : EReal) = 0
    simp
  pointwise [val_main_v114, val_main_v112]
  simp only [z]
  exact dite_congr (propext ⟨fun h => h.2, fun h => ⟨seqB R, h⟩⟩) (fun _ => rfl) (fun _ => rfl)

end Cert.Reference2Ideal.Ffn

end
-- ==== Proof.Ffn.Claims.lean ====
/- The claims about the feed-forward half layer: its reference's frame, and the equality of the two results. -/
module

public import proofs.«01_k».proof.Defs
public import proofs.«01_k».proof.Proof.Ffn.Arr
public import proofs.«01_k».proof.Proof.Ffn.Host
public import proofs.«01_k».proof.Proof.Ffn.Ref
public import Idealize.ShloMosaic.Init

@[expose] public section

set_option maxRecDepth 16384

noncomputable section

namespace Cert.Ffn
open Idealize.ShloMosaic Idealize.ShloMosaic.TcCoe Idealize.SL.Sem
open Cert.Kernel2Ideal.Ffn Cert.Reference2Ideal.Ffn

/-- The reference runs, leaves its arguments alone and ends quiet. -/
theorem frame_ref : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The kernel's prompt rows are the reference's. -/
theorem prompt_eq (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v113 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) = (fun y : Cert.Kernel2Ideal.S16384x1024.Idx => arrA m c (y 0) (y 1) : Cert.Kernel2Ideal.S16384x1024.Idx → EReal) := by
  funext y
  idx_vars y
  refine (prompt_at _ _ _ _ _ _ _ _ _ _).trans ?_
  unfold arrA
  refine (row_congr (funext fun e => V_x m c _ e) (funext fun e => V_a m c _ e) (funext fun e => V_b m c _ e)
      (funext fun k => funext fun e => V_wo m c k e) (funext fun e => V_g m c 3 e) (funext fun e => V_g m c 4 e) (funext fun e => V_g m c 5 e)
      (funext fun k => funext fun j => V_wg m c k j) (funext fun k => funext fun j => V_wu m c k j) (funext fun j => funext fun e => V_wd m c j e) rfl).symm

/-- The kernel's sample rows are the reference's: a row past a sequence's tokens is a row of zeros in both. -/
theorem sample_eq (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v114 (F := Ideal) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) = (fun y : Cert.Kernel2Ideal.S1024x1024.Idx => arrB m c (y 0) (y 1) : Cert.Kernel2Ideal.S1024x1024.Idx → EReal) := by
  funext y
  idx_vars y
  refine (sample_at _ _ _ _ _ _ _ _ _ _).trans ?_
  unfold arrB
  split
  · rename_i h
    refine (row_congr (funext fun e => (V_xs m c _ e).trans (dif_pos h)) (funext fun e => (V_as m c _ e).trans (dif_pos h)) (funext fun e => (V_bs m c _ e).trans (dif_pos h))
      (funext fun k => funext fun e => V_wo m c k e) (funext fun e => V_g m c 3 e) (funext fun e => V_g m c 4 e) (funext fun e => V_g m c 5 e)
      (funext fun k => funext fun j => V_wg m c k j) (funext fun k => funext fun j => V_wu m c k j) (funext fun j => funext fun e => V_wd m c j e) rfl).symm
  · rename_i h
    refine ((row_congr (funext fun e => (V_xs m c _ e).trans (dif_neg h)) (funext fun e => (V_as m c _ e).trans (dif_neg h)) (funext fun e => (V_bs m c _ e).trans (dif_neg h))
      rfl rfl rfl rfl rfl rfl rfl rfl).trans (row_zero _ _ _ _ _ _ _ _)).symm

/-- The kernel's two results are the reference's, of arguments that agree. -/
theorem algebraic : Cert.algebraic_Kernel2Ideal_Reference2Ideal := by
  intro m ρ m' ρ' _ hag
  refine ⟨fun c => (fun y : Cert.Kernel2Ideal.S16384x1024.Idx => arrA m c (y 0) (y 1) : Cert.Kernel2Ideal.S16384x1024.Idx → EReal),
    fun c => (fun y : Cert.Kernel2Ideal.S1024x1024.Idx => arrB m c (y 0) (y 1) : Cert.Kernel2Ideal.S1024x1024.Idx → EReal), ?_, ?_⟩
  · exact (θ_run Cert.Kernel2Ideal.defs _ _).mono (fun r h c => ⟨run10 m r h.2 c, run11 m r h.2 c, h.1 c⟩)
      (θ_run_and (Cert.Kernel2Ideal.Ffn.unchanged (F := Ideal) m ρ) (Cert.Kernel2Ideal.Ffn.run_main (F := Ideal) m ρ))
  · refine (θ_run Cert.Reference2Ideal.defs _ _).mono (fun r h c => ⟨(h c).1.trans ?_, (h c).2.1.trans ?_, (h c).2.2⟩) (Cert.Reference2Ideal.Value.run (F := Ideal) m' ρ')
    · refine (Cert.Reference2Ideal.Read.val_main_v113_eq (F := Ideal) m' c).trans ?_
      obtain ⟨g0, g1, g2, g3, g4, g5, g6, g7, g8, g9, g10⟩ := hag c
      refine Eq.trans ?_ (prompt_eq m c)
      rw [← g0, ← g1, ← g2, ← g6, ← g7, ← g8, ← g9, ← g10]
    · refine (Cert.Reference2Ideal.Read.val_main_v114_eq (F := Ideal) m' c).trans ?_
      obtain ⟨g0, g1, g2, g3, g4, g5, g6, g7, g8, g9, g10⟩ := hag c
      refine Eq.trans ?_ (sample_eq m c)
      rw [← g3, ← g4, ← g5, ← g6, ← g7, ← g8, ← g9, ← g10]

end Cert.Ffn

end
-- ==== Proof.Proj.Frame.lean ====
/- The run of the projection kernel over any float values: what one run of the body leaves, the pipeline's run, the frame. -/
module

public import proofs.«01_k».proof.Proof.Gen.Kernel3Ideal.Frame
public import proofs.«01_k».proof.Proof.Gen.Kernel3Ideal.Skeleton
public import Idealize.ShloMosaic.Lib.Claim

@[expose] public section

set_option maxRecDepth 16384

noncomputable section

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel3Ideal Cert.Kernel3Ideal.Gen

/-! ## The body's accesses -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S1x1024x3712 := Rect.unit (s := S1x1024x3712) ![0, 0, 0] S1x1024x512.size inb_S1x1024x3712_S1x1024x512_0_0_0
abbrev r0_3 : Rect S4x512x128 := Rect.unit (s := S4x512x128) ![0, 0, 0] S1x512x128.size inb_S4x512x128_S1x512x128_0_0_0
abbrev r0_4 : Rect S4x512x128 := Rect.unit (s := S4x512x128) ![1, 0, 0] S1x512x128.size inb_S4x512x128_S1x512x128_1_0_0
abbrev r0_5 : Rect S4x512x128 := Rect.unit (s := S4x512x128) ![2, 0, 0] S1x512x128.size inb_S4x512x128_S1x512x128_2_0_0
abbrev r0_6 : Rect S4x512x128 := Rect.unit (s := S4x512x128) ![3, 0, 0] S1x512x128.size inb_S4x512x128_S1x512x128_3_0_0
abbrev r0_7 : Rect S1x1024x3712 := Rect.unit (s := S1x1024x3712) ![0, 0, 512] S1x1024x512.size inb_S1x1024x3712_S1x1024x512_0_0_512
abbrev r0_8 : Rect S2048x128 := ⟨(⟨![0, 0], S512x128.size, ![4, 1], inb_S2048x128_S512x128_0_0_s_4_1⟩ : LoadRect S2048x128), spos_4_1⟩
abbrev r0_9 : Rect S2048x128 := ⟨(⟨![1, 0], S512x128.size, ![4, 1], inb_S2048x128_S512x128_1_0_s_4_1⟩ : LoadRect S2048x128), spos_4_1⟩
abbrev r0_10 : Rect S2048x128 := ⟨(⟨![2, 0], S512x128.size, ![4, 1], inb_S2048x128_S512x128_2_0_s_4_1⟩ : LoadRect S2048x128), spos_4_1⟩
abbrev r0_11 : Rect S2048x128 := ⟨(⟨![3, 0], S512x128.size, ![4, 1], inb_S2048x128_S512x128_3_0_s_4_1⟩ : LoadRect S2048x128), spos_4_1⟩
abbrev r0_12 : Rect S1x1024x3712 := Rect.unit (s := S1x1024x3712) ![0, 0, 1024] S1x1024x512.size inb_S1x1024x3712_S1x1024x512_0_0_1024
abbrev r0_13 : Rect S1x1024x3712 := Rect.unit (s := S1x1024x3712) ![0, 0, 1536] S1x1024x512.size inb_S1x1024x3712_S1x1024x512_0_0_1536
abbrev r0_14 : Rect S1x1024x3712 := Rect.unit (s := S1x1024x3712) ![0, 0, 2048] S1x1024x512.size inb_S1x1024x3712_S1x1024x512_0_0_2048
abbrev r0_15 : Rect S1x1024x3712 := Rect.unit (s := S1x1024x3712) ![0, 0, 2560] S1x1024x512.size inb_S1x1024x3712_S1x1024x512_0_0_2560
abbrev r0_16 : Rect S1x1024x3712 := Rect.unit (s := S1x1024x3712) ![0, 0, 3072] S1x1024x512.size inb_S1x1024x3712_S1x1024x512_0_0_3072
abbrev r0_17 : Rect S512x512 := Rect.unit (s := S512x512) ![0, 0] S512x512.size inb_S512x512_S512x512_0_0
abbrev r0_18 : Rect S1x1024x3712 := Rect.unit (s := S1x1024x3712) ![0, 0, 3584] S1x1024x128.size inb_S1x1024x3712_S1x1024x128_0_0_3584
abbrev r0_19 : Rect S512x128 := Rect.unit (s := S512x128) ![0, 0] S512x128.size inb_S512x128_S512x128_0_0
abbrev r0_20 : Rect S2x8x256 := Rect.unit (s := S2x8x256) ![0, 0, 0] S1x8x256.size inb_S2x8x256_S1x8x256_0_0_0
abbrev r0_21 : Rect S2x8x256 := Rect.unit (s := S2x8x256) ![1, 0, 0] S1x8x256.size inb_S2x8x256_S1x8x256_1_0_0
abbrev r0_22 : Rect S1x32x2816 := Rect.unit (s := S1x32x2816) ![0, 0, 0] S1x32x256.size inb_S1x32x2816_S1x32x256_0_0_0
abbrev r0_23 : Rect S32x5632 := Rect.unit (s := S32x5632) ![0, 0] S32x256.size inb_S32x5632_S32x256_0_0
abbrev r0_24 : Rect S32x5632 := Rect.unit (s := S32x5632) ![0, 256] S32x256.size inb_S32x5632_S32x256_0_256
abbrev r0_25 : Rect S1x32x2816 := Rect.unit (s := S1x32x2816) ![0, 0, 256] S1x32x256.size inb_S1x32x2816_S1x32x256_0_0_256
abbrev r0_26 : Rect S32x5632 := Rect.unit (s := S32x5632) ![0, 512] S32x256.size inb_S32x5632_S32x256_0_512
abbrev r0_27 : Rect S32x5632 := Rect.unit (s := S32x5632) ![0, 768] S32x256.size inb_S32x5632_S32x256_0_768
abbrev r0_28 : Rect S1x32x2816 := Rect.unit (s := S1x32x2816) ![0, 0, 512] S1x32x256.size inb_S1x32x2816_S1x32x256_0_0_512
abbrev r0_29 : Rect S32x5632 := Rect.unit (s := S32x5632) ![0, 1024] S32x256.size inb_S32x5632_S32x256_0_1024
abbrev r0_30 : Rect S32x5632 := Rect.unit (s := S32x5632) ![0, 1280] S32x256.size inb_S32x5632_S32x256_0_1280
abbrev r0_31 : Rect S1x32x2816 := Rect.unit (s := S1x32x2816) ![0, 0, 768] S1x32x256.size inb_S1x32x2816_S1x32x256_0_0_768
abbrev r0_32 : Rect S32x5632 := Rect.unit (s := S32x5632) ![0, 1536] S32x256.size inb_S32x5632_S32x256_0_1536
abbrev r0_33 : Rect S32x5632 := Rect.unit (s := S32x5632) ![0, 1792] S32x256.size inb_S32x5632_S32x256_0_1792
abbrev r0_34 : Rect S1x32x2816 := Rect.unit (s := S1x32x2816) ![0, 0, 1024] S1x32x256.size inb_S1x32x2816_S1x32x256_0_0_1024
abbrev r0_35 : Rect S32x5632 := Rect.unit (s := S32x5632) ![0, 2048] S32x256.size inb_S32x5632_S32x256_0_2048
abbrev r0_36 : Rect S32x5632 := Rect.unit (s := S32x5632) ![0, 2304] S32x256.size inb_S32x5632_S32x256_0_2304
abbrev r0_37 : Rect S1x32x2816 := Rect.unit (s := S1x32x2816) ![0, 0, 1280] S1x32x256.size inb_S1x32x2816_S1x32x256_0_0_1280
abbrev r0_38 : Rect S32x5632 := Rect.unit (s := S32x5632) ![0, 2560] S32x256.size inb_S32x5632_S32x256_0_2560
abbrev r0_39 : Rect S32x5632 := Rect.unit (s := S32x5632) ![0, 2816] S32x256.size inb_S32x5632_S32x256_0_2816
abbrev r0_40 : Rect S1x32x2816 := Rect.unit (s := S1x32x2816) ![0, 0, 1536] S1x32x256.size inb_S1x32x2816_S1x32x256_0_0_1536
abbrev r0_41 : Rect S32x5632 := Rect.unit (s := S32x5632) ![0, 3072] S32x256.size inb_S32x5632_S32x256_0_3072
abbrev r0_42 : Rect S32x5632 := Rect.unit (s := S32x5632) ![0, 3328] S32x256.size inb_S32x5632_S32x256_0_3328
abbrev r0_43 : Rect S1x32x2816 := Rect.unit (s := S1x32x2816) ![0, 0, 1792] S1x32x256.size inb_S1x32x2816_S1x32x256_0_0_1792
abbrev r0_44 : Rect S32x5632 := Rect.unit (s := S32x5632) ![0, 3584] S32x256.size inb_S32x5632_S32x256_0_3584
abbrev r0_45 : Rect S32x5632 := Rect.unit (s := S32x5632) ![0, 3840] S32x256.size inb_S32x5632_S32x256_0_3840
abbrev r0_46 : Rect S1x32x2816 := Rect.unit (s := S1x32x2816) ![0, 0, 2048] S1x32x256.size inb_S1x32x2816_S1x32x256_0_0_2048
abbrev r0_47 : Rect S32x5632 := Rect.unit (s := S32x5632) ![0, 4096] S32x256.size inb_S32x5632_S32x256_0_4096
abbrev r0_48 : Rect S32x5632 := Rect.unit (s := S32x5632) ![0, 4352] S32x256.size inb_S32x5632_S32x256_0_4352
abbrev r0_49 : Rect S1x32x2816 := Rect.unit (s := S1x32x2816) ![0, 0, 2304] S1x32x256.size inb_S1x32x2816_S1x32x256_0_0_2304
abbrev r0_50 : Rect S32x5632 := Rect.unit (s := S32x5632) ![0, 4608] S32x256.size inb_S32x5632_S32x256_0_4608
abbrev r0_51 : Rect S32x5632 := Rect.unit (s := S32x5632) ![0, 4864] S32x256.size inb_S32x5632_S32x256_0_4864
abbrev r0_52 : Rect S1x32x2816 := Rect.unit (s := S1x32x2816) ![0, 0, 2560] S1x32x256.size inb_S1x32x2816_S1x32x256_0_0_2560
abbrev r0_53 : Rect S32x5632 := Rect.unit (s := S32x5632) ![0, 5120] S32x256.size inb_S32x5632_S32x256_0_5120
abbrev r0_54 : Rect S32x5632 := Rect.unit (s := S32x5632) ![0, 5376] S32x256.size inb_S32x5632_S32x256_0_5376
abbrev r0_55 : Rect S1x176x1024 := Rect.unit (s := S1x176x1024) ![0, 0, 0] S1x176x1024.size inb_S1x176x1024_S1x176x1024_0_0_0
abbrev r0_56 : Rect S176x1024 := Rect.unit (s := S176x1024) ![0, 0] S176x1024.size inb_S176x1024_S176x1024_0_0
abbrev r0_57 : Rect S1x32x1024 := Rect.unit (s := S1x32x1024) ![0, 0, 0] S1x32x1024.size inb_S1x32x1024_S1x32x1024_0_0_0
abbrev r0_58 : Rect S32x1024 := Rect.unit (s := S32x1024) ![0, 0] S32x1024.size inb_S32x1024_S32x1024_0_0

/-! ## What the body leaves in each output window's buffer -/

/-- The normalised rows. -/
def normed (x0 : Vec F S512x1024 .f32) (x1 : Vec F S1x1024 .f32) : FVec F S512x1024 .bf16 :=
  k0_pay2 (View.ld x0 r0_0) (View.ld x1 r0_1)
/-- The scaled sixth group of columns before its last head is cut. -/
def sixth (x0 : Vec F S512x1024 .f32) (x1 : Vec F S1x1024 .f32) (x2 : Vec F S1x1024x3712 .bf16) : FVec F S512x512 .f32 :=
  k0_pay39 (normed x0 x1) (View.ld x2 r0_15)

/-- The first mixer's query heads that one run of the body leaves. -/
def out_qa (x0 : Vec F S512x1024 .f32) (x1 : Vec F S1x1024 .f32) (x2 : Vec F S1x1024x3712 .bf16) : Vec F S4x512x128 .bf16 :=
  View.canon [⟨r0_6, k0_pay8 (k0_pay7 (View.ld x0 r0_0) (View.ld x1 r0_1) (View.ld x2 r0_2))⟩,
    ⟨r0_5, k0_pay6 (View.ld x0 r0_0) (View.ld x1 r0_1) (View.ld x2 r0_2)⟩,
    ⟨r0_4, k0_pay5 (View.ld x0 r0_0) (View.ld x1 r0_1) (View.ld x2 r0_2)⟩,
    ⟨r0_3, k0_pay4 (View.ld x0 r0_0) (View.ld x1 r0_1) (View.ld x2 r0_2)⟩]

/-- The stores of such pieces cover the buffer. -/
theorem cover_heads (p0 : Vec F S1x512x128 .bf16) (p1 : Vec F S1x512x128 .bf16) (p2 : Vec F S1x512x128 .bf16) (p3 : Vec F S1x512x128 .bf16) (y : S4x512x128.Idx) :
    ∃ pc ∈ ([⟨r0_6, p0⟩, ⟨r0_5, p1⟩, ⟨r0_4, p2⟩, ⟨r0_3, p3⟩] : List (View.Piece (Elt F) S4x512x128 .bf16)), y ∈ pc.1.set :=
  View.cover_of_tiled [⟨r0_6, p0⟩, ⟨r0_5, p1⟩, ⟨r0_4, p2⟩, ⟨r0_3, p3⟩] S1x512x128.size (by rfl) y

/-- The first mixer's keys, row by row that one run of the body leaves. -/
def out_kRows (x0 : Vec F S512x1024 .f32) (x1 : Vec F S1x1024 .f32) (x2 : Vec F S1x1024x3712 .bf16) : Vec F S2048x128 .f32 :=
  View.canon [⟨r0_11, k0_pay13 (normed x0 x1) (View.ld x2 r0_7)⟩,
    ⟨r0_10, k0_pay12 (normed x0 x1) (View.ld x2 r0_7)⟩,
    ⟨r0_9, k0_pay11 (normed x0 x1) (View.ld x2 r0_7)⟩,
    ⟨r0_8, k0_pay10 (normed x0 x1) (View.ld x2 r0_7)⟩]

/-- The first mixer's values, row by row that one run of the body leaves. -/
def out_vRows (x0 : Vec F S512x1024 .f32) (x1 : Vec F S1x1024 .f32) (x2 : Vec F S1x1024x3712 .bf16) : Vec F S2048x128 .f32 :=
  View.canon [⟨r0_11, k0_pay23 (normed x0 x1) (View.ld x2 r0_12)⟩,
    ⟨r0_10, k0_pay22 (normed x0 x1) (View.ld x2 r0_12)⟩,
    ⟨r0_9, k0_pay21 (normed x0 x1) (View.ld x2 r0_12)⟩,
    ⟨r0_8, k0_pay20 (normed x0 x1) (View.ld x2 r0_12)⟩]

/-- The first mixer's key heads that one run of the body leaves. -/
def out_ka (x0 : Vec F S512x1024 .f32) (x1 : Vec F S1x1024 .f32) (x2 : Vec F S1x1024x3712 .bf16) : Vec F S4x512x128 .bf16 :=
  View.canon [⟨r0_6, k0_pay18 (k0_pay9 (normed x0 x1) (View.ld x2 r0_7))⟩,
    ⟨r0_5, k0_pay17 (k0_pay16 (normed x0 x1) (View.ld x2 r0_7))⟩,
    ⟨r0_4, k0_pay15 (normed x0 x1) (View.ld x2 r0_7)⟩,
    ⟨r0_3, k0_pay14 (normed x0 x1) (View.ld x2 r0_7)⟩]

/-- The first mixer's value heads that one run of the body leaves. -/
def out_va (x0 : Vec F S512x1024 .f32) (x1 : Vec F S1x1024 .f32) (x2 : Vec F S1x1024x3712 .bf16) : Vec F S4x512x128 .bf16 :=
  View.canon [⟨r0_6, k0_pay28 (k0_pay19 (normed x0 x1) (View.ld x2 r0_12))⟩,
    ⟨r0_5, k0_pay27 (k0_pay26 (normed x0 x1) (View.ld x2 r0_12))⟩,
    ⟨r0_4, k0_pay25 (normed x0 x1) (View.ld x2 r0_12)⟩,
    ⟨r0_3, k0_pay24 (normed x0 x1) (View.ld x2 r0_12)⟩]

/-- The second mixer's query heads that one run of the body leaves. -/
def out_qm (x0 : Vec F S512x1024 .f32) (x1 : Vec F S1x1024 .f32) (x2 : Vec F S1x1024x3712 .bf16) : Vec F S4x512x128 .bf16 :=
  View.canon [⟨r0_6, k0_pay33 (normed x0 x1) (View.ld x2 r0_13)⟩,
    ⟨r0_5, k0_pay32 (normed x0 x1) (View.ld x2 r0_13)⟩,
    ⟨r0_4, k0_pay31 (normed x0 x1) (View.ld x2 r0_13)⟩,
    ⟨r0_3, k0_pay30 (normed x0 x1) (View.ld x2 r0_13)⟩]

/-- The second mixer's scaled key heads that one run of the body leaves. -/
def out_km (x0 : Vec F S512x1024 .f32) (x1 : Vec F S1x1024 .f32) (x2 : Vec F S1x1024x3712 .bf16) : Vec F S4x512x128 .bf16 :=
  View.canon [⟨r0_6, k0_pay38 (normed x0 x1) (View.ld x2 r0_14)⟩,
    ⟨r0_5, k0_pay37 (normed x0 x1) (View.ld x2 r0_14)⟩,
    ⟨r0_4, k0_pay36 (normed x0 x1) (View.ld x2 r0_14)⟩,
    ⟨r0_3, k0_pay35 (normed x0 x1) (View.ld x2 r0_14)⟩]

/-- The second mixer's value heads that one run of the body leaves. -/
def out_vm (x0 : Vec F S512x1024 .f32) (x1 : Vec F S1x1024 .f32) (x2 : Vec F S1x1024x3712 .bf16) : Vec F S4x512x128 .bf16 :=
  View.canon [⟨r0_6, k0_pay44 (sixth x0 x1 x2)⟩,
    ⟨r0_5, k0_pay43 (sixth x0 x1 x2)⟩,
    ⟨r0_4, k0_pay42 (k0_pay41 (normed x0 x1) (View.ld x2 r0_15))⟩,
    ⟨r0_3, k0_pay40 (normed x0 x1) (View.ld x2 r0_15)⟩]

/-- The second mixer's output gate that one run of the body leaves. -/
def out_om (x0 : Vec F S512x1024 .f32) (x1 : Vec F S1x1024 .f32) (x2 : Vec F S1x1024x3712 .bf16) : Vec F S512x512 .f32 :=
  View.canon [⟨r0_17, k0_pay45 (normed x0 x1) (View.ld x2 r0_16)⟩]

/-- The stores of such pieces cover the buffer. -/
theorem cover_om (p0 : Vec F S512x512 .f32) (y : S512x512.Idx) :
    ∃ pc ∈ ([⟨r0_17, p0⟩] : List (View.Piece (Elt F) S512x512 .f32)), y ∈ pc.1.set :=
  View.cover_of_tiled [⟨r0_17, p0⟩] S512x512.size (by rfl) y

/-- The gates that one run of the body leaves. -/
def out_gates (x0 : Vec F S512x1024 .f32) (x1 : Vec F S1x1024 .f32) (x2 : Vec F S1x1024x3712 .bf16) : Vec F S512x128 .f32 :=
  View.canon [⟨r0_19, k0_pay46 (normed x0 x1) (View.ld x2 r0_18)⟩]

/-- The stores of such pieces cover the buffer. -/
theorem cover_gates (p0 : Vec F S512x128 .f32) (y : S512x128.Idx) :
    ∃ pc ∈ ([⟨r0_19, p0⟩] : List (View.Piece (Elt F) S512x128 .f32)), y ∈ pc.1.set :=
  View.cover_of_tiled [⟨r0_19, p0⟩] S512x128.size (by rfl) y

/-- The gates, rows along the last axis that one run of the body leaves. -/
def out_gatesT (x0 : Vec F S512x1024 .f32) (x1 : Vec F S1x1024 .f32) (x2 : Vec F S1x1024x3712 .bf16) : Vec F S2x8x256 .f32 :=
  View.canon [⟨r0_21, k0_pay50 (k0_pay49 (normed x0 x1) (View.ld x2 r0_18))⟩,
    ⟨r0_20, k0_pay48 (normed x0 x1) (View.ld x2 r0_18)⟩]

/-- The stores of such pieces cover the buffer. -/
theorem cover_gatesT (p0 : Vec F S1x8x256 .f32) (p1 : Vec F S1x8x256 .f32) (y : S2x8x256.Idx) :
    ∃ pc ∈ ([⟨r0_21, p0⟩, ⟨r0_20, p1⟩] : List (View.Piece (Elt F) S2x8x256 .f32)), y ∈ pc.1.set :=
  View.cover_of_tiled [⟨r0_21, p0⟩, ⟨r0_20, p1⟩] S1x8x256.size (by rfl) y

/-- The gate and up weights, cast that one run of the body leaves. -/
def out_wgu (x3 : Vec F S1x32x2816 .f32) (x4 : Vec F S1x32x2816 .f32) : Vec F S32x5632 .bf16 :=
  View.canon [⟨r0_54, k0_pay72 (View.ld x4 r0_52)⟩,
    ⟨r0_53, k0_pay71 (View.ld x3 r0_52)⟩,
    ⟨r0_51, k0_pay70 (View.ld x4 r0_49)⟩,
    ⟨r0_50, k0_pay69 (View.ld x3 r0_49)⟩,
    ⟨r0_48, k0_pay68 (View.ld x4 r0_46)⟩,
    ⟨r0_47, k0_pay67 (View.ld x3 r0_46)⟩,
    ⟨r0_45, k0_pay66 (View.ld x4 r0_43)⟩,
    ⟨r0_44, k0_pay65 (View.ld x3 r0_43)⟩,
    ⟨r0_42, k0_pay64 (View.ld x4 r0_40)⟩,
    ⟨r0_41, k0_pay63 (View.ld x3 r0_40)⟩,
    ⟨r0_39, k0_pay62 (View.ld x4 r0_37)⟩,
    ⟨r0_38, k0_pay61 (View.ld x3 r0_37)⟩,
    ⟨r0_36, k0_pay60 (View.ld x4 r0_34)⟩,
    ⟨r0_35, k0_pay59 (View.ld x3 r0_34)⟩,
    ⟨r0_33, k0_pay58 (View.ld x4 r0_31)⟩,
    ⟨r0_32, k0_pay57 (View.ld x3 r0_31)⟩,
    ⟨r0_30, k0_pay56 (View.ld x4 r0_28)⟩,
    ⟨r0_29, k0_pay55 (View.ld x3 r0_28)⟩,
    ⟨r0_27, k0_pay54 (View.ld x4 r0_25)⟩,
    ⟨r0_26, k0_pay53 (View.ld x3 r0_25)⟩,
    ⟨r0_24, k0_pay52 (View.ld x4 r0_22)⟩,
    ⟨r0_23, k0_pay51 (View.ld x3 r0_22)⟩]

/-- The stores of such pieces cover the buffer. -/
theorem cover_wgu (p0 : Vec F S32x256 .bf16) (p1 : Vec F S32x256 .bf16) (p2 : Vec F S32x256 .bf16) (p3 : Vec F S32x256 .bf16) (p4 : Vec F S32x256 .bf16) (p5 : Vec F S32x256 .bf16) (p6 : Vec F S32x256 .bf16) (p7 : Vec F S32x256 .bf16) (p8 : Vec F S32x256 .bf16) (p9 : Vec F S32x256 .bf16) (p10 : Vec F S32x256 .bf16) (p11 : Vec F S32x256 .bf16) (p12 : Vec F S32x256 .bf16) (p13 : Vec F S32x256 .bf16) (p14 : Vec F S32x256 .bf16) (p15 : Vec F S32x256 .bf16) (p16 : Vec F S32x256 .bf16) (p17 : Vec F S32x256 .bf16) (p18 : Vec F S32x256 .bf16) (p19 : Vec F S32x256 .bf16) (p20 : Vec F S32x256 .bf16) (p21 : Vec F S32x256 .bf16) (y : S32x5632.Idx) :
    ∃ pc ∈ ([⟨r0_54, p0⟩, ⟨r0_53, p1⟩, ⟨r0_51, p2⟩, ⟨r0_50, p3⟩, ⟨r0_48, p4⟩, ⟨r0_47, p5⟩, ⟨r0_45, p6⟩, ⟨r0_44, p7⟩, ⟨r0_42, p8⟩, ⟨r0_41, p9⟩, ⟨r0_39, p10⟩, ⟨r0_38, p11⟩, ⟨r0_36, p12⟩, ⟨r0_35, p13⟩, ⟨r0_33, p14⟩, ⟨r0_32, p15⟩, ⟨r0_30, p16⟩, ⟨r0_29, p17⟩, ⟨r0_27, p18⟩, ⟨r0_26, p19⟩, ⟨r0_24, p20⟩, ⟨r0_23, p21⟩] : List (View.Piece (Elt F) S32x5632 .bf16)), y ∈ pc.1.set :=
  View.cover_of_tiled [⟨r0_54, p0⟩, ⟨r0_53, p1⟩, ⟨r0_51, p2⟩, ⟨r0_50, p3⟩, ⟨r0_48, p4⟩, ⟨r0_47, p5⟩, ⟨r0_45, p6⟩, ⟨r0_44, p7⟩, ⟨r0_42, p8⟩, ⟨r0_41, p9⟩, ⟨r0_39, p10⟩, ⟨r0_38, p11⟩, ⟨r0_36, p12⟩, ⟨r0_35, p13⟩, ⟨r0_33, p14⟩, ⟨r0_32, p15⟩, ⟨r0_30, p16⟩, ⟨r0_29, p17⟩, ⟨r0_27, p18⟩, ⟨r0_26, p19⟩, ⟨r0_24, p20⟩, ⟨r0_23, p21⟩] S32x256.size (by rfl) y

/-- The down weights, cast that one run of the body leaves. -/
def out_wd (x5 : Vec F S1x176x1024 .f32) : Vec F S176x1024 .bf16 :=
  View.canon [⟨r0_56, k0_pay73 (View.ld x5 r0_55)⟩]

/-- The stores of such pieces cover the buffer. -/
theorem cover_wd (p0 : Vec F S176x1024 .bf16) (y : S176x1024.Idx) :
    ∃ pc ∈ ([⟨r0_56, p0⟩] : List (View.Piece (Elt F) S176x1024 .bf16)), y ∈ pc.1.set :=
  View.cover_of_tiled [⟨r0_56, p0⟩] S176x1024.size (by rfl) y

/-- The output weights, cast that one run of the body leaves. -/
def out_wo (x6 : Vec F S1x32x1024 .f32) : Vec F S32x1024 .bf16 :=
  View.canon [⟨r0_58, k0_pay1 (View.ld x6 r0_57)⟩]

/-- The stores of such pieces cover the buffer. -/
theorem cover_wo (p0 : Vec F S32x1024 .bf16) (y : S32x1024.Idx) :
    ∃ pc ∈ ([⟨r0_58, p0⟩] : List (View.Piece (Elt F) S32x1024 .bf16)), y ∈ pc.1.set :=
  View.cover_of_tiled [⟨r0_58, p0⟩] S32x1024.size (by rfl) y

/-- The four heads' rows, each at every fourth row, cover the buffer. -/
theorem cover_rows (p0 : Vec F S512x128 .f32) (p1 : Vec F S512x128 .f32) (p2 : Vec F S512x128 .f32) (p3 : Vec F S512x128 .f32) (y : S2048x128.Idx) :
    ∃ pc ∈ ([⟨r0_11, p0⟩, ⟨r0_10, p1⟩, ⟨r0_9, p2⟩, ⟨r0_8, p3⟩] : List (View.Piece (Elt F) S2048x128 .f32)), y ∈ pc.1.set := by
  obtain ⟨h, r, hy⟩ : ∃ (h : Fin 4) (r : Fin 512), (y 0).val = h.val + 4 * r.val := by
    have := (y 0).isLt
    change (y 0).val < 2048 at this
    exact ⟨⟨(y 0).val % 4, by omega⟩, ⟨(y 0).val / 4, by omega⟩, by simp only; omega⟩
  have key : ∀ R : Rect S2048x128, R.off = ![h.val, 0] → R.size = S512x128.size → R.stride = ![4, 1] → y ∈ R.set := by
    intro R ho hs ht
    refine R.mem_set.mpr fun a => ?_
    rw [ho, hs, ht]
    match a with
    | ⟨0, _⟩ => exact ⟨r.val, r.isLt, hy⟩
    | ⟨1, _⟩ => exact ⟨(y 1).val, (y 1).isLt, by change (y 1).val = 0 + 1 * (y 1).val; omega⟩
  match h, key with
  | ⟨0, _⟩, key => exact ⟨⟨r0_8, p3⟩, by simp, key _ rfl rfl rfl⟩
  | ⟨1, _⟩, key => exact ⟨⟨r0_9, p2⟩, by simp, key _ rfl rfl rfl⟩
  | ⟨2, _⟩, key => exact ⟨⟨r0_10, p1⟩, by simp, key _ rfl rfl rfl⟩
  | ⟨3, _⟩, key => exact ⟨⟨r0_11, p0⟩, by simp, key _ rfl rfl rfl⟩

/-! ## The body's triple -/

set_option maxHeartbeats 1000000 in
/-- The kernel body on whole staging memrefs, the inputs' at read contents `xW` and the outputs' at anything, runs to
    the continuation holding the inputs' as they were and each output's at the named results of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1x1024x3712 .bf16) (harg3 : arg3.IsWhole) (arg4 : Memref sig .tc .vmem S1x32x2816 .f32) (harg4 : arg4.IsWhole) (arg5 : Memref sig .tc .vmem S1x32x2816 .f32) (harg5 : arg5.IsWhole) (arg6 : Memref sig .tc .vmem S1x176x1024 .f32) (harg6 : arg6.IsWhole) (arg7 : Memref sig .tc .vmem S1x32x1024 .f32) (harg7 : arg7.IsWhole) (arg8 : Memref sig .tc .vmem S4x512x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S4x512x128 .bf16) (harg11 : arg11.IsWhole) (arg12 : Memref sig .tc .vmem S4x512x128 .bf16) (harg12 : arg12.IsWhole) (arg13 : Memref sig .tc .vmem S4x512x128 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S512x512 .f32) (harg16 : arg16.IsWhole) (arg17 : Memref sig .tc .vmem S512x128 .f32) (harg17 : arg17.IsWhole) (arg18 : Memref sig .tc .vmem S2x8x256 .f32) (harg18 : arg18.IsWhole) (arg19 : Memref sig .tc .vmem S32x5632 .bf16) (harg19 : arg19.IsWhole) (arg20 : Memref sig .tc .vmem S176x1024 .bf16) (harg20 : arg20.IsWhole) (arg21 : Memref sig .tc .vmem S32x1024 .bf16) (harg21 : arg21.IsWhole)
    (x0 : Vec F S512x1024 .f32) (x1 : Vec F S1x1024 .f32) (x2 : Vec F S1x1024x3712 .bf16) (x3 : Vec F S1x32x2816 .f32) (x4 : Vec F S1x32x2816 .f32) (x5 : Vec F S1x176x1024 .f32) (x6 : Vec F S1x32x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out_qa x0 x1 x2) ∗ owns (c : Thread nD τ) arg9 fullShare (out_kRows x0 x1 x2) ∗ owns (c : Thread nD τ) arg10 fullShare (out_vRows x0 x1 x2) ∗ owns (c : Thread nD τ) arg11 fullShare (out_ka x0 x1 x2) ∗ owns (c : Thread nD τ) arg12 fullShare (out_va x0 x1 x2) ∗ owns (c : Thread nD τ) arg13 fullShare (out_qm x0 x1 x2) ∗ owns (c : Thread nD τ) arg14 fullShare (out_km x0 x1 x2) ∗ owns (c : Thread nD τ) arg15 fullShare (out_vm x0 x1 x2) ∗ owns (c : Thread nD τ) arg16 fullShare (out_om x0 x1 x2) ∗ owns (c : Thread nD τ) arg17 fullShare (out_gates x0 x1 x2) ∗ owns (c : Thread nD τ) arg18 fullShare (out_gatesT x0 x1 x2) ∗ owns (c : Thread nD τ) arg19 fullShare (out_wgu x3 x4) ∗ owns (c : Thread nD τ) arg20 fullShare (out_wd x5) ∗ owns (c : Thread nD τ) arg21 fullShare (out_wo x6)) -∗ K ⟨⟩))
      ⊢ wp frame (wpE (defs₀ (F := F)) Variants.none c none) E (cc0_proj_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_proj_prompt_eq_skeleton]; unfold cc0_proj_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover_heads _ _ _ _)).trans ?_
    rfl
  isplitl [H8]
  · iexists _; isplitr
    swap; · iexact H8
    ipureintro
    refine (View.read_writes_eq_canon _ _ _ (cover_rows _ _ _ _)).trans ?_
    rfl
  isplitl [H9]
  · iexists _; isplitr
    swap; · iexact H9
    ipureintro
    refine (View.read_writes_eq_canon _ _ _ (cover_rows _ _ _ _)).trans ?_
    rfl
  isplitl [H10]
  · iexists _; isplitr
    swap; · iexact H10
    ipureintro
    refine (View.read_writes_eq_canon _ _ _ (cover_heads _ _ _ _)).trans ?_
    rfl
  isplitl [H11]
  · iexists _; isplitr
    swap; · iexact H11
    ipureintro
    refine (View.read_writes_eq_canon _ _ _ (cover_heads _ _ _ _)).trans ?_
    rfl
  isplitl [H12]
  · iexists _; isplitr
    swap; · iexact H12
    ipureintro
    refine (View.read_writes_eq_canon _ _ _ (cover_heads _ _ _ _)).trans ?_
    rfl
  isplitl [H13]
  · iexists _; isplitr
    swap; · iexact H13
    ipureintro
    refine (View.read_writes_eq_canon _ _ _ (cover_heads _ _ _ _)).trans ?_
    rfl
  isplitl [H14]
  · iexists _; isplitr
    swap; · iexact H14
    ipureintro
    refine (View.read_writes_eq_canon _ _ _ (cover_heads _ _ _ _)).trans ?_
    rfl
  isplitl [H15]
  · iexists _; isplitr
    swap; · iexact H15
    ipureintro
    refine (View.read_writes_eq_canon _ _ _ (cover_om _)).trans ?_
    rfl
  isplitl [H16]
  · iexists _; isplitr
    swap; · iexact H16
    ipureintro
    refine (View.read_writes_eq_canon _ _ _ (cover_gates _)).trans ?_
    rfl
  isplitl [H17]
  · iexists _; isplitr
    swap; · iexact H17
    ipureintro
    refine (View.read_writes_eq_canon _ _ _ (cover_gatesT _ _)).trans ?_
    rfl
  isplitl [H18]
  · iexists _; isplitr
    swap; · iexact H18
    ipureintro
    refine (View.read_writes_eq_canon _ _ _ (cover_wgu _ _ _ _ _ _ _ _ _ _ _ _ _ _ _ _ _ _ _ _ _ _)).trans ?_
    rfl
  isplitl [H19]
  · iexists _; isplitr
    swap; · iexact H19
    ipureintro
    refine (View.read_writes_eq_canon _ _ _ (cover_wd _)).trans ?_
    rfl
  iexists _; isplitr
  swap; · iexact H20
  ipureintro
  refine (View.read_writes_eq_canon _ _ _ (cover_wo _)).trans ?_
  rfl

/-! ## The pipeline's proof data -/

/-- The proof data of the one pipeline on core `c`: the arrays as the region finds them (`V`); after the body at
    point `t` each input's buffer at its block and each output's at the named results of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out_qa (iblk m c 0 t) (iblk m c 1 t) (iblk m c 2 t)
    | ⟨8, _⟩ => out_kRows (iblk m c 0 t) (iblk m c 1 t) (iblk m c 2 t)
    | ⟨9, _⟩ => out_vRows (iblk m c 0 t) (iblk m c 1 t) (iblk m c 2 t)
    | ⟨10, _⟩ => out_ka (iblk m c 0 t) (iblk m c 1 t) (iblk m c 2 t)
    | ⟨11, _⟩ => out_va (iblk m c 0 t) (iblk m c 1 t) (iblk m c 2 t)
    | ⟨12, _⟩ => out_qm (iblk m c 0 t) (iblk m c 1 t) (iblk m c 2 t)
    | ⟨13, _⟩ => out_km (iblk m c 0 t) (iblk m c 1 t) (iblk m c 2 t)
    | ⟨14, _⟩ => out_vm (iblk m c 0 t) (iblk m c 1 t) (iblk m c 2 t)
    | ⟨15, _⟩ => out_om (iblk m c 0 t) (iblk m c 1 t) (iblk m c 2 t)
    | ⟨16, _⟩ => out_gates (iblk m c 0 t) (iblk m c 1 t) (iblk m c 2 t)
    | ⟨17, _⟩ => out_gatesT (iblk m c 0 t) (iblk m c 1 t) (iblk m c 2 t)
    | ⟨18, _⟩ => out_wgu (iblk m c 3 t) (iblk m c 4 t)
    | ⟨19, _⟩ => out_wd (iblk m c 5 t)
    | ⟨20, _⟩ => out_wo (iblk m c 6 t)
    | ⟨_ + 21, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out_qa (iblk m c 0 t) (iblk m c 1 t) (iblk m c 2 t) := by dsimp only [dats]
theorem after0_8 (c : Dev nD) (t : Fin cfg0.N) : (dats m 0 c).after 8 t = out_kRows (iblk m c 0 t) (iblk m c 1 t) (iblk m c 2 t) := by dsimp only [dats]
theorem after0_9 (c : Dev nD) (t : Fin cfg0.N) : (dats m 0 c).after 9 t = out_vRows (iblk m c 0 t) (iblk m c 1 t) (iblk m c 2 t) := by dsimp only [dats]
theorem after0_10 (c : Dev nD) (t : Fin cfg0.N) : (dats m 0 c).after 10 t = out_ka (iblk m c 0 t) (iblk m c 1 t) (iblk m c 2 t) := by dsimp only [dats]
theorem after0_11 (c : Dev nD) (t : Fin cfg0.N) : (dats m 0 c).after 11 t = out_va (iblk m c 0 t) (iblk m c 1 t) (iblk m c 2 t) := by dsimp only [dats]
theorem after0_12 (c : Dev nD) (t : Fin cfg0.N) : (dats m 0 c).after 12 t = out_qm (iblk m c 0 t) (iblk m c 1 t) (iblk m c 2 t) := by dsimp only [dats]
theorem after0_13 (c : Dev nD) (t : Fin cfg0.N) : (dats m 0 c).after 13 t = out_km (iblk m c 0 t) (iblk m c 1 t) (iblk m c 2 t) := by dsimp only [dats]
theorem after0_14 (c : Dev nD) (t : Fin cfg0.N) : (dats m 0 c).after 14 t = out_vm (iblk m c 0 t) (iblk m c 1 t) (iblk m c 2 t) := by dsimp only [dats]
theorem after0_15 (c : Dev nD) (t : Fin cfg0.N) : (dats m 0 c).after 15 t = out_om (iblk m c 0 t) (iblk m c 1 t) (iblk m c 2 t) := by dsimp only [dats]
theorem after0_16 (c : Dev nD) (t : Fin cfg0.N) : (dats m 0 c).after 16 t = out_gates (iblk m c 0 t) (iblk m c 1 t) (iblk m c 2 t) := by dsimp only [dats]
theorem after0_17 (c : Dev nD) (t : Fin cfg0.N) : (dats m 0 c).after 17 t = out_gatesT (iblk m c 0 t) (iblk m c 1 t) (iblk m c 2 t) := by dsimp only [dats]
theorem after0_18 (c : Dev nD) (t : Fin cfg0.N) : (dats m 0 c).after 18 t = out_wgu (iblk m c 3 t) (iblk m c 4 t) := by dsimp only [dats]
theorem after0_19 (c : Dev nD) (t : Fin cfg0.N) : (dats m 0 c).after 19 t = out_wd (iblk m c 5 t) := by dsimp only [dats]
theorem after0_20 (c : Dev nD) (t : Fin cfg0.N) : (dats m 0 c).after 20 t = out_wo (iblk m c 6 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel c Set.univ (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_Kernel3Ideal`'s statement (Defs.lean) at any `F` — Proof.lean cites it at `Bits`:
    `theorem Cert.Proof.claim : Cert.Claim := ⟨Cert.Kernel3Ideal.Gen.facts, fun m ρ _ => Cert.Kernel3Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel3Ideal.Proj

end
-- ==== Proof.Proj.FrameBits.lean ====
/- The frame of the kernel over bits, from the run over any float values. -/
module

public import proofs.«01_k».proof.Defs
public import proofs.«01_k».proof.Proof.Gen.Kernel3
public import proofs.«01_k».proof.Proof.Proj.Frame

@[expose] public section

set_option maxRecDepth 16384

noncomputable section

namespace Cert.Proj

open Idealize.ShloMosaic Idealize.ShloMosaic.TcCoe Idealize.ShloMosaic.Tactic Idealize.SL.Sem
open Cert.Kernel3Ideal

/-- The kernel's program is the one whose run is proved over any float values, so its frame claim is that program's over bits. -/
theorem frame_same : Cert.quiescent_Kernel3 (hKernel3 := Cert.Kernel3.Gen.facts) = (
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)) := by
  sl_kernel_rfl

/-- The kernel over bits runs, leaves its arguments alone and ends with every counter at zero. -/
theorem frame_kernel : Cert.quiescent_Kernel3 (hKernel3 := Cert.Kernel3.Gen.facts) :=
  frame_same.mpr fun m ρ _ => Cert.Kernel3Ideal.Proj.frame (F := Bits) m ρ

end Cert.Proj

end
-- ==== Proof.Proj.Pay.lean ====
/- The projection kernel's arithmetic, entry by entry. -/
module

public import proofs.«01_k».proof.Proof.Proj.Frame
public import proofs.«01_k».proof.Proof.Ffn.Row
public import Idealize.ShloMosaic.Lib.Pointwise
public import Idealize.ShloMosaic.Lib.Pipeline.ValueKit

@[expose] public section

set_option maxRecDepth 16384

noncomputable section

namespace Cert.Kernel3Ideal.Proj
open Idealize.ShloMosaic Idealize.ShloMosaic.TcCoe Idealize.SL.Sem
open Cert.Kernel3Ideal Cert.Kernel3Ideal.Gen Cert.Ffn

/-- One entry of the projection of a tile's rows. -/
def prod (x : Vec Ideal S512x1024 .f32) (g : Vec Ideal S1x1024 .f32) (w : Vec Ideal S1x1024x3712 .bf16) (r : Fin 512) (j : Fin 3712) : EReal :=
  lin (pre (fun e => x (ix2 r e)) (fun e => g (ix2 0 e))) (fun k j => w (ix3 0 k j)) j

/-- The normalised rows. -/
theorem normed_at (x : Vec Ideal S512x1024 .f32) (g : Vec Ideal S1x1024 .f32) (r : Fin 512) (e : Fin 1024) :
    normed (F := Ideal) x g (ix2 r e) = pre (fun e => x (ix2 r e)) (fun e => g (ix2 0 e)) e := by
  unfold pre nrm
  pointwise [normed, k0_pay2]

/-- A group of columns, read off the weights. -/
theorem ldw (n o : ℕ) (inb : ∀ a, (![0, 0, o] : Fin 3 → ℕ) a + (![1, 1024, n] : Fin 3 → ℕ) a ≤ S1x1024x3712.size a)
    (w : Vec Ideal S1x1024x3712 .bf16) (k : Fin 1024) (i : Fin n) (h : o + (i : ℕ) < 3712) :
    View.ld (Val := Elt Ideal) (e' := .bf16) w (Rect.unit (s := S1x1024x3712) ![0, 0, o] ![1, 1024, n] inb) (ix3 0 k i) = w (ix3 0 k ⟨o + (i : ℕ), h⟩) := by
  refine congrArg w (funext fun a => ?_)
  match a with
  | ⟨0, _⟩ => exact Fin.ext (by show 0 + 1 * 0 = 0; omega)
  | ⟨1, _⟩ => exact Fin.ext (by show 0 + 1 * (k : ℕ) = k; omega)
  | ⟨2, _⟩ => exact Fin.ext (by show o + 1 * (i : ℕ) = o + i; omega)

/-- A group of 512 columns of the projection. -/
theorem group_at (o : ℕ) (ho : o + 512 ≤ 3712) (inb : ∀ a, (![0, 0, o] : Fin 3 → ℕ) a + (![1, 1024, 512] : Fin 3 → ℕ) a ≤ S1x1024x3712.size a)
    (x : Vec Ideal S512x1024 .f32) (g : Vec Ideal S1x1024 .f32) (w : Vec Ideal S1x1024x3712 .bf16) (r : Fin 512) (i : Fin 512) :
    k0_pay9 (F := Ideal) (normed x g) (View.ld (Val := Elt Ideal) (e' := .bf16) w (Rect.unit (s := S1x1024x3712) ![0, 0, o] ![1, 1024, 512] inb)) (ix2 r i)
      = prod x g w r ⟨o + i.val, by omega⟩ := by
  have e := normed_at x g r
  have e' := fun k => ldw 512 o inb w k i (by omega)
  unfold prod lin
  simp only [← e, ← e']
  generalize (View.ld (Val := Elt Ideal) (e' := .bf16) w (Rect.unit (s := S1x1024x3712) ![0, 0, o] ![1, 1024, 512] inb)) = v
  generalize normed (F := Ideal) x g = h
  pointwise [k0_pay9]

/-- The last group's columns of the projection. -/
theorem last_at (inb : ∀ a, (![0, 0, 3584] : Fin 3 → ℕ) a + (![1, 1024, 128] : Fin 3 → ℕ) a ≤ S1x1024x3712.size a)
    (x : Vec Ideal S512x1024 .f32) (g : Vec Ideal S1x1024 .f32) (w : Vec Ideal S1x1024x3712 .bf16) (r : Fin 512) (i : Fin 128) :
    k0_pay46 (F := Ideal) (normed x g) (View.ld (Val := Elt Ideal) (e' := .bf16) w (Rect.unit (s := S1x1024x3712) ![0, 0, 3584] ![1, 1024, 128] inb)) (ix2 r i)
      = prod x g w r ⟨3584 + i.val, by omega⟩ := by
  have e := normed_at x g r
  have e' := fun k => ldw 128 3584 inb w k i (by omega)
  unfold prod lin
  simp only [← e, ← e']
  generalize (View.ld (Val := Elt Ideal) (e' := .bf16) w (Rect.unit (s := S1x1024x3712) ![0, 0, 3584] ![1, 1024, 128] inb)) = v
  generalize normed (F := Ideal) x g = h
  pointwise [k0_pay46]

/-- A head cut from a group of columns. -/
theorem head_at (v : FVec Ideal S512x512 .f32) (o : ℕ) (ho : o + 128 ≤ 512) (hs) (r : Fin 512) (d : Fin 128) :
    shapeCast S1x512x128 (truncf .bf16 (extractStridedSlice S512x128 ![0, o] v hs) bitsLt_bf16_f32) shapeCasts_S512x128_S1x512x128 (ix3 0 r d)
      = v (ix2 r ⟨o + d.val, by omega⟩) := by
  pointwise

/-- A head's rows cut from a group of columns. -/
theorem cut_at (v : FVec Ideal S512x512 .f32) (o : ℕ) (ho : o + 128 ≤ 512) (hs) (r : Fin 512) (d : Fin 128) :
    extractStridedSlice S512x128 ![0, o] v hs (ix2 r d) = v (ix2 r ⟨o + d.val, by omega⟩) := by
  pointwise

/-- Four stored heads, read at an index. -/
theorem heads_at (p0 p1 p2 p3 : Vec Ideal S1x512x128 .bf16) (f : Fin 512 → Fin 512 → EReal)
    (h0 : ∀ r d, p0 (ix3 0 r d) = f r ⟨0 + d.val, by omega⟩) (h1 : ∀ r d, p1 (ix3 0 r d) = f r ⟨128 + d.val, by omega⟩)
    (h2 : ∀ r d, p2 (ix3 0 r d) = f r ⟨256 + d.val, by omega⟩) (h3 : ∀ r d, p3 (ix3 0 r d) = f r ⟨384 + d.val, by omega⟩)
    (h : Fin 4) (r : Fin 512) (d : Fin 128) :
    View.canon (Val := Elt Ideal) [⟨r0_6, p3⟩, ⟨r0_5, p2⟩, ⟨r0_4, p1⟩, ⟨r0_3, p0⟩] (ix3 h r d) = f r ⟨128 * h.val + d.val, by omega⟩ := by
  canon_tiles x hx using cover_heads ..
  all_goals
    idx_vars x
    obtain rfl : x0 = 0 := Subsingleton.elim _ _
  · refine (h3 _ _).trans (congrArg₂ f (Fin.ext ?_) (Fin.ext ?_))
    all_goals simp [ix3, ix2] at *
    all_goals omega
  · refine (h2 _ _).trans (congrArg₂ f (Fin.ext ?_) (Fin.ext ?_))
    all_goals simp [ix3, ix2] at *
    all_goals omega
  · refine (h1 _ _).trans (congrArg₂ f (Fin.ext ?_) (Fin.ext ?_))
    all_goals simp [ix3, ix2] at *
    all_goals omega
  · refine (h0 _ _).trans (congrArg₂ f (Fin.ext ?_) (Fin.ext ?_))
    all_goals simp [ix3, ix2] at *
    all_goals omega

/-- Four stored heads' rows, every fourth row one head, read at an index. -/
theorem rows_at (p0 p1 p2 p3 : Vec Ideal S512x128 .f32) (f : Fin 512 → Fin 512 → EReal)
    (h0 : ∀ r d, p0 (ix2 r d) = f r ⟨0 + d.val, by omega⟩) (h1 : ∀ r d, p1 (ix2 r d) = f r ⟨128 + d.val, by omega⟩)
    (h2 : ∀ r d, p2 (ix2 r d) = f r ⟨256 + d.val, by omega⟩) (h3 : ∀ r d, p3 (ix2 r d) = f r ⟨384 + d.val, by omega⟩)
    (R : Fin 2048) (d : Fin 128) :
    View.canon (Val := Elt Ideal) [⟨r0_11, p3⟩, ⟨r0_10, p2⟩, ⟨r0_9, p1⟩, ⟨r0_8, p0⟩] (ix2 R d) = f ⟨R.val / 4, by omega⟩ ⟨128 * (R.val % 4) + d.val, by omega⟩ := by
  refine View.canon_eq_of_allAt _ _ _ (cover_rows ..) (View.allAt_cons _ _ _ ?_ (View.allAt_cons _ _ _ ?_ (View.allAt_cons _ _ _ ?_ (View.allAt_cons _ _ _ ?_ (View.allAt_nil _ _)))))
  all_goals
    intro x hx
    have ha := congrArg Fin.val (congrFun hx 0)
    have hb := congrArg Fin.val (congrFun hx 1)
    rw [Rect.emb_apply] at ha hb
    idx_vars x
  · change 3 + 4 * x0.val = R.val at ha
    change 0 + 1 * x1.val = d.val at hb
    exact (h3 _ _).trans (congrArg₂ f (Fin.ext (by show x0.val = R.val / 4; omega)) (Fin.ext (by show 384 + x1.val = 128 * (R.val % 4) + d.val; omega)))
  · change 2 + 4 * x0.val = R.val at ha
    change 0 + 1 * x1.val = d.val at hb
    exact (h2 _ _).trans (congrArg₂ f (Fin.ext (by show x0.val = R.val / 4; omega)) (Fin.ext (by show 256 + x1.val = 128 * (R.val % 4) + d.val; omega)))
  · change 1 + 4 * x0.val = R.val at ha
    change 0 + 1 * x1.val = d.val at hb
    exact (h1 _ _).trans (congrArg₂ f (Fin.ext (by show x0.val = R.val / 4; omega)) (Fin.ext (by show 128 + x1.val = 128 * (R.val % 4) + d.val; omega)))
  · change 0 + 4 * x0.val = R.val at ha
    change 0 + 1 * x1.val = d.val at hb
    exact (h0 _ _).trans (congrArg₂ f (Fin.ext (by show x0.val = R.val / 4; omega)) (Fin.ext (by show 0 + x1.val = 128 * (R.val % 4) + d.val; omega)))

end Cert.Kernel3Ideal.Proj

end
-- ==== Proof.Proj.Out.lean ====
/- What one run of the projection kernel's body leaves in each result block, entry by entry. -/
module

public import proofs.«01_k».proof.Proof.Proj.Pay

@[expose] public section

set_option maxRecDepth 16384

noncomputable section

namespace Cert.Kernel3Ideal.Proj
open Idealize.ShloMosaic Idealize.ShloMosaic.TcCoe Idealize.SL.Sem
open Cert.Kernel3Ideal Cert.Kernel3Ideal.Gen Cert.Ffn

/-- The scale of the second mixer's keys. -/
def scl : EReal := (Scalar.ofBits .f32 0x3DB504F3#32 : Ideal .f32)

/-- The heads cut from one group of columns. -/
theorem heads_of (v : FVec Ideal S512x512 .f32) (f : Fin 512 → Fin 512 → EReal) (hv : ∀ r i, v (ix2 r i) = f r i) (h : Fin 4) (r : Fin 512) (d : Fin 128) :
    View.canon (Val := Elt Ideal) (s := S4x512x128) (e := .bf16) [⟨r0_6, shapeCast S1x512x128 (truncf .bf16 (extractStridedSlice S512x128 ![0, 384] v slices_S512x512_o0_384_S512x128) bitsLt_bf16_f32) shapeCasts_S512x128_S1x512x128⟩,
      ⟨r0_5, shapeCast S1x512x128 (truncf .bf16 (extractStridedSlice S512x128 ![0, 256] v slices_S512x512_o0_256_S512x128) bitsLt_bf16_f32) shapeCasts_S512x128_S1x512x128⟩,
      ⟨r0_4, shapeCast S1x512x128 (truncf .bf16 (extractStridedSlice S512x128 ![0, 128] v slices_S512x512_o0_128_S512x128) bitsLt_bf16_f32) shapeCasts_S512x128_S1x512x128⟩,
      ⟨r0_3, shapeCast S1x512x128 (truncf .bf16 (extractStridedSlice S512x128 ![0, 0] v slices_S512x512_o0_0_S512x128) bitsLt_bf16_f32) shapeCasts_S512x128_S1x512x128⟩] (ix3 h r d)
      = f r ⟨128 * h.val + d.val, by omega⟩ :=
  heads_at _ _ _ _ f (fun r d => (head_at v 0 (by decide) _ r d).trans (hv _ _)) (fun r d => (head_at v 128 (by decide) _ r d).trans (hv _ _))
    (fun r d => (head_at v 256 (by decide) _ r d).trans (hv _ _)) (fun r d => (head_at v 384 (by decide) _ r d).trans (hv _ _)) h r d

/-- The heads' rows cut from one group of columns. -/
theorem rows_of (v : FVec Ideal S512x512 .f32) (f : Fin 512 → Fin 512 → EReal) (hv : ∀ r i, v (ix2 r i) = f r i) (R : Fin 2048) (d : Fin 128) :
    View.canon (Val := Elt Ideal) (s := S2048x128) (e := .f32) [⟨r0_11, extractStridedSlice S512x128 ![0, 384] v slices_S512x512_o0_384_S512x128⟩,
      ⟨r0_10, extractStridedSlice S512x128 ![0, 256] v slices_S512x512_o0_256_S512x128⟩,
      ⟨r0_9, extractStridedSlice S512x128 ![0, 128] v slices_S512x512_o0_128_S512x128⟩,
      ⟨r0_8, extractStridedSlice S512x128 ![0, 0] v slices_S512x512_o0_0_S512x128⟩] (ix2 R d)
      = f ⟨R.val / 4, by omega⟩ ⟨128 * (R.val % 4) + d.val, by omega⟩ :=
  rows_at _ _ _ _ f (fun r d => (cut_at v 0 (by decide) _ r d).trans (hv _ _)) (fun r d => (cut_at v 128 (by decide) _ r d).trans (hv _ _))
    (fun r d => (cut_at v 256 (by decide) _ r d).trans (hv _ _)) (fun r d => (cut_at v 384 (by decide) _ r d).trans (hv _ _)) R d

variable (x : Vec Ideal S512x1024 .f32) (g : Vec Ideal S1x1024 .f32) (w : Vec Ideal S1x1024x3712 .bf16)

/-- The first mixer's query heads. -/
theorem qa_at (h : Fin 4) (r : Fin 512) (d : Fin 128) : out_qa (F := Ideal) x g w (ix3 h r d) = prod x g w r ⟨0 + (128 * h.val + d.val), by omega⟩ :=
  heads_of (k0_pay9 (normed x g) (View.ld w r0_2)) (fun r i => prod x g w r ⟨0 + i.val, by omega⟩) (group_at 0 (by decide) _ x g w) h r d
/-- The first mixer's keys, row by row. -/
theorem kRows_at (R : Fin 2048) (d : Fin 128) : out_kRows (F := Ideal) x g w (ix2 R d) = prod x g w ⟨R.val / 4, by omega⟩ ⟨512 + (128 * (R.val % 4) + d.val), by omega⟩ :=
  rows_of (k0_pay9 (normed x g) (View.ld w r0_7)) (fun r i => prod x g w r ⟨512 + i.val, by omega⟩) (group_at 512 (by decide) _ x g w) R d
/-- The first mixer's values, row by row. -/
theorem vRows_at (R : Fin 2048) (d : Fin 128) : out_vRows (F := Ideal) x g w (ix2 R d) = prod x g w ⟨R.val / 4, by omega⟩ ⟨1024 + (128 * (R.val % 4) + d.val), by omega⟩ :=
  rows_of (k0_pay9 (normed x g) (View.ld w r0_12)) (fun r i => prod x g w r ⟨1024 + i.val, by omega⟩) (group_at 1024 (by decide) _ x g w) R d
/-- The first mixer's key heads. -/
theorem ka_at (h : Fin 4) (r : Fin 512) (d : Fin 128) : out_ka (F := Ideal) x g w (ix3 h r d) = prod x g w r ⟨512 + (128 * h.val + d.val), by omega⟩ :=
  heads_of (k0_pay9 (normed x g) (View.ld w r0_7)) (fun r i => prod x g w r ⟨512 + i.val, by omega⟩) (group_at 512 (by decide) _ x g w) h r d
/-- The first mixer's value heads. -/
theorem va_at (h : Fin 4) (r : Fin 512) (d : Fin 128) : out_va (F := Ideal) x g w (ix3 h r d) = prod x g w r ⟨1024 + (128 * h.val + d.val), by omega⟩ :=
  heads_of (k0_pay9 (normed x g) (View.ld w r0_12)) (fun r i => prod x g w r ⟨1024 + i.val, by omega⟩) (group_at 1024 (by decide) _ x g w) h r d
/-- The second mixer's query heads. -/
theorem qm_at (h : Fin 4) (r : Fin 512) (d : Fin 128) : out_qm (F := Ideal) x g w (ix3 h r d) = prod x g w r ⟨1536 + (128 * h.val + d.val), by omega⟩ :=
  heads_of (k0_pay9 (normed x g) (View.ld w r0_13)) (fun r i => prod x g w r ⟨1536 + i.val, by omega⟩) (group_at 1536 (by decide) _ x g w) h r d
/-- The second mixer's scaled key heads. -/
theorem km_at (h : Fin 4) (r : Fin 512) (d : Fin 128) : out_km (F := Ideal) x g w (ix3 h r d) = prod x g w r ⟨2048 + (128 * h.val + d.val), by omega⟩ * scl :=
  heads_of (k0_pay34 (normed x g) (View.ld w r0_14)) (fun r i => prod x g w r ⟨2048 + i.val, by omega⟩ * scl) (fun r i => congrArg (· * scl) (group_at 2048 (by decide) _ x g w r i)) h r d
/-- The second mixer's value heads. -/
theorem vm_at (h : Fin 4) (r : Fin 512) (d : Fin 128) : out_vm (F := Ideal) x g w (ix3 h r d) = prod x g w r ⟨2560 + (128 * h.val + d.val), by omega⟩ :=
  heads_of (k0_pay9 (normed x g) (View.ld w r0_15)) (fun r i => prod x g w r ⟨2560 + i.val, by omega⟩) (group_at 2560 (by decide) _ x g w) h r d
/-- The second mixer's output gate. -/
theorem om_at (r : Fin 512) (i : Fin 512) : out_om (F := Ideal) x g w (ix2 r i) = prod x g w r ⟨3072 + i.val, by omega⟩ := by
  unfold out_om
  canon_tiles y hy using cover_om ..
  idx_vars y
  obtain rfl : y0 = r := Fin.ext (by simpa [ix2] using hy0.symm)
  obtain rfl : y1 = i := Fin.ext (by simpa [ix2] using hy1.symm)
  exact group_at 3072 (by decide) _ x g w _ _
/-- The gates. -/
theorem gates_at (r : Fin 512) (i : Fin 128) : out_gates (F := Ideal) x g w (ix2 r i) = prod x g w r ⟨3584 + i.val, by omega⟩ := by
  unfold out_gates
  canon_tiles y hy using cover_gates ..
  idx_vars y
  obtain rfl : y0 = r := Fin.ext (by simpa [ix2] using hy0.symm)
  obtain rfl : y1 = i := Fin.ext (by simpa [ix2] using hy1.symm)
  exact last_at _ x g w _ _

/-- The first half of a tile's gates, turned. -/
theorem turn0 (n : FVec Ideal S512x1024 .bf16) (v : Vec Ideal S1x1024x128 .bf16) (j : Fin 8) (c : Fin 256) :
    k0_pay48 (F := Ideal) n v (ix3 0 j c) = k0_pay46 (F := Ideal) n v (ix2 ⟨c.val, by omega⟩ ⟨j.val, by omega⟩) := by
  unfold k0_pay48 k0_pay47
  generalize k0_pay46 (F := Ideal) n v = q
  pointwise
/-- The second half of a tile's gates, turned. -/
theorem turn1 (n : FVec Ideal S512x1024 .bf16) (v : Vec Ideal S1x1024x128 .bf16) (j : Fin 8) (c : Fin 256) :
    k0_pay50 (k0_pay49 (F := Ideal) n v) (ix3 0 j c) = k0_pay46 (F := Ideal) n v (ix2 ⟨256 + c.val, by omega⟩ ⟨j.val, by omega⟩) := by
  unfold k0_pay50 k0_pay49 k0_pay47
  generalize k0_pay46 (F := Ideal) n v = q
  pointwise

/-- The gates, rows along the last axis. -/
theorem gatesT_at (b : Fin 2) (j : Fin 8) (c : Fin 256) :
    out_gatesT (F := Ideal) x g w (ix3 b j c) = prod x g w ⟨256 * b.val + c.val, by omega⟩ ⟨3584 + j.val, by omega⟩ := by
  unfold out_gatesT
  canon_tiles y hy using cover_gatesT ..
  all_goals
    idx_vars y
    obtain rfl : y0 = 0 := Subsingleton.elim _ _
    obtain rfl : y1 = j := Fin.ext (by simpa [ix3] using hy1.symm)
    obtain rfl : y2 = c := Fin.ext (by simpa [ix3] using hy2.symm)
  · refine (turn1 _ _ _ _).trans ((last_at _ x g w _ _).trans (congrArg₂ (prod x g w) (Fin.ext ?_) rfl))
    simp [ix3] at *
    omega
  · refine (turn0 _ _ _ _).trans ((last_at _ x g w _ _).trans (congrArg₂ (prod x g w) (Fin.ext ?_) rfl))
    simp [ix3] at *
    omega

end Cert.Kernel3Ideal.Proj

end
-- ==== Proof.Proj.Arr.lean ====
/- The arrays the projection call leaves, row by row. -/
module

public import proofs.«01_k».proof.Proof.Proj.Out

@[expose] public section

set_option maxRecDepth 16384

noncomputable section

namespace Cert.Kernel3Ideal.Proj
open Idealize.ShloMosaic Idealize.ShloMosaic.TcCoe Idealize.SL.Sem
open Idealize.ShloMosaic.Pipeline (Dat)
open Cert.Kernel3Ideal Cert.Kernel3Ideal.Gen Cert.Ffn

variable (m : (ℓ : Loc nD τ sig) → Buf (Elt Ideal) ℓ)

/-- A projected entry is read at equal inputs and columns. -/
theorem lin_congr {x x' g g' : Fin 1024 → EReal} {w w' : Fin 1024 → Fin 3712 → EReal} {j j' : Fin 3712}
    (hx : x = x') (hg : g = g') (hw : w = w') (hj : j = j') : lin (pre x g) w j = lin (pre x' g') w' j' := by
  subst hx hg hw hj; rfl

/-- Where each window's block lies. -/
theorem idxs : ∀ t : Fin cfg0.N, win0_0.index t = ![t.val, 0] ∧ win0_1.index t = ![0, 0] ∧ win0_2.index t = ![0, 0, 0] ∧
    win0_7.index t = ![0, t.val, 0] ∧ win0_8.index t = ![t.val, 0] ∧ win0_9.index t = ![t.val, 0] ∧ win0_10.index t = ![0, t.val, 0] ∧
    win0_11.index t = ![0, t.val, 0] ∧ win0_12.index t = ![0, t.val, 0] ∧ win0_13.index t = ![0, t.val, 0] ∧ win0_14.index t = ![0, t.val, 0] ∧
    win0_15.index t = ![t.val, 0] ∧ win0_16.index t = ![t.val, 0] ∧ win0_17.index t = ![t.val, 0, 0] ∧ t.val < 32 :=
  (by decide +kernel : ∀ t : Fin grid0.N, _)

/-- The gains' block is all the gains. -/
theorem blk1 (c : Dev nD) (t : Fin cfg0.N) : (iblk m c 1 t : Vec Ideal S1x1024 .f32) = V m c main_v4 := by
  obtain ⟨-, i, -⟩ := idxs t
  blk_ext! [iblk, i]
/-- The weights' block is all of them. -/
theorem blk2 (c : Dev nD) (t : Fin cfg0.N) : (iblk m c 2 t : Vec Ideal S1x1024x3712 .bf16) = V m c main_v2 := by
  obtain ⟨-, -, i, -⟩ := idxs t
  blk_ext! [iblk, i]
/-- The tile's rows, read off their array. -/
theorem blk0 (c : Dev nD) (t : Fin cfg0.N) (r : Fin 512) (e : Fin 1024) (R : Fin 16384) (hR : R.val = 512 * t.val + r.val) :
    (iblk m c 0 t : Vec Ideal S512x1024 .f32) (ix2 r e) = (V m c main_v3 : Vec Ideal S16384x1024 .f32) (ix2 R e) := by
  obtain ⟨i, -⟩ := idxs t
  obtain ⟨R, hRl⟩ := R
  subst hR
  blk_ext [iblk, i]

/-- An entry of the projection of all the rows. -/
def arr (c : Dev nD) (R : Fin 16384) (j : Fin 3712) : EReal :=
  lin (pre (fun e => (V m c main_v3 : Vec Ideal S16384x1024 .f32) (ix2 R e)) (fun e => (V m c main_v4 : Vec Ideal S1x1024 .f32) (ix2 0 e)))
    (fun k j => (V m c main_v2 : Vec Ideal S1x1024x3712 .bf16) (ix3 0 k j)) j

/-- A tile's entry is the entry of its row of the array. -/
theorem tile (c : Dev nD) (t : Fin cfg0.N) (r : Fin 512) (j : Fin 3712) (R : Fin 16384) (j' : Fin 3712) (hR : R.val = 512 * t.val + r.val) (hj : j.val = j'.val) :
    prod (iblk m c 0 t) (iblk m c 1 t) (iblk m c 2 t) r j = arr m c R j' := by
  unfold prod arr
  rw [blk1, blk2]
  exact lin_congr (funext fun e => blk0 m c t r e R hR) rfl rfl (Fin.ext hj)

/-- The heads of a group of columns. -/
def heads (c : Dev nD) (o : ℕ) (ho : o + 512 ≤ 3712) (y : S4x16384x128.Idx) : EReal :=
  arr m c (y 1) ⟨o + (128 * (y 0).val + (y 2).val), by have := (y 0).isLt; have := (y 2).isLt; change (y 0).val < 4 at *; change (y 2).val < 128 at *; omega⟩
/-- The heads' rows of a group of columns. -/
def rows (c : Dev nD) (o : ℕ) (ho : o + 512 ≤ 3712) (y : S65536x128.Idx) : EReal :=
  arr m c ⟨(y 0).val / 4, by have := (y 0).isLt; change (y 0).val < 65536 at *; omega⟩
    ⟨o + (128 * ((y 0).val % 4) + (y 1).val), by have := (y 1).isLt; change (y 1).val < 128 at *; omega⟩
/-- The output gate. -/
def gateO (c : Dev nD) (y : S16384x512.Idx) : EReal :=
  arr m c (y 0) ⟨3072 + (y 1).val, by have := (y 1).isLt; change (y 1).val < 512 at *; omega⟩
/-- The gates. -/
def gates (c : Dev nD) (y : S16384x128.Idx) : EReal :=
  arr m c (y 0) ⟨3584 + (y 1).val, by have := (y 1).isLt; change (y 1).val < 128 at *; omega⟩
/-- The gates, 256 rows along the last axis. -/
def gatesT (c : Dev nD) (y : S64x8x256.Idx) : EReal :=
  arr m c ⟨256 * (y 0).val + (y 2).val, by have := (y 0).isLt; have := (y 2).isLt; change (y 0).val < 64 at *; change (y 2).val < 256 at *; omega⟩
    ⟨3584 + (y 1).val, by have := (y 1).isLt; change (y 1).val < 8 at *; omega⟩

/-- The first mixer's query heads' array. -/
theorem arr7 (c : Dev nD) : (dats m 0 c).arrAt 7 cfg0.N = (heads m c 0 (by decide) : S4x16384x128.Idx → EReal) := by
  refine (dats m 0 c).arrAt_eq_of_covers 7 _ (by decide +kernel) fun t hf y => ?_
  obtain ⟨-, -, -, i, -, -, -, -, -, -, -, -, -, -, hN⟩ := idxs t
  blk_simp
  rw [after0_7]
  idx_vars y
  refine (qa_at _ _ _ _ _ _).trans (tile m c t _ _ _ _ ?_ ?_)
  all_goals blk_simp [i]
  all_goals try dsimp only
  all_goals omega

/-- The first mixer's keys' array. -/
theorem arr8 (c : Dev nD) : (dats m 0 c).arrAt 8 cfg0.N = (rows m c 512 (by decide) : S65536x128.Idx → EReal) := by
  refine (dats m 0 c).arrAt_eq_of_covers 8 _ (by decide +kernel) fun t hf y => ?_
  obtain ⟨-, -, -, -, i, -, -, -, -, -, -, -, -, -, hN⟩ := idxs t
  blk_simp
  rw [after0_8]
  idx_vars y
  refine (kRows_at _ _ _ _ _).trans (tile m c t _ _ _ _ ?_ ?_)
  all_goals blk_simp [i]
  all_goals try dsimp only
  all_goals omega

/-- The first mixer's values' array. -/
theorem arr9 (c : Dev nD) : (dats m 0 c).arrAt 9 cfg0.N = (rows m c 1024 (by decide) : S65536x128.Idx → EReal) := by
  refine (dats m 0 c).arrAt_eq_of_covers 9 _ (by decide +kernel) fun t hf y => ?_
  obtain ⟨-, -, -, -, -, i, -, -, -, -, -, -, -, -, hN⟩ := idxs t
  blk_simp
  rw [after0_9]
  idx_vars y
  refine (vRows_at _ _ _ _ _).trans (tile m c t _ _ _ _ ?_ ?_)
  all_goals blk_simp [i]
  all_goals try dsimp only
  all_goals omega

/-- The first mixer's key heads' array. -/
theorem arr10 (c : Dev nD) : (dats m 0 c).arrAt 10 cfg0.N = (heads m c 512 (by decide) : S4x16384x128.Idx → EReal) := by
  refine (dats m 0 c).arrAt_eq_of_covers 10 _ (by decide +kernel) fun t hf y => ?_
  obtain ⟨-, -, -, -, -, -, i, -, -, -, -, -, -, -, hN⟩ := idxs t
  blk_simp
  rw [after0_10]
  idx_vars y
  refine (ka_at _ _ _ _ _ _).trans (tile m c t _ _ _ _ ?_ ?_)
  all_goals blk_simp [i]
  all_goals try dsimp only
  all_goals omega

/-- The first mixer's value heads' array. -/
theorem arr11 (c : Dev nD) : (dats m 0 c).arrAt 11 cfg0.N = (heads m c 1024 (by decide) : S4x16384x128.Idx → EReal) := by
  refine (dats m 0 c).arrAt_eq_of_covers 11 _ (by decide +kernel) fun t hf y => ?_
  obtain ⟨-, -, -, -, -, -, -, i, -, -, -, -, -, -, hN⟩ := idxs t
  blk_simp
  rw [after0_11]
  idx_vars y
  refine (va_at _ _ _ _ _ _).trans (tile m c t _ _ _ _ ?_ ?_)
  all_goals blk_simp [i]
  all_goals try dsimp only
  all_goals omega

/-- The second mixer's query heads' array. -/
theorem arr12 (c : Dev nD) : (dats m 0 c).arrAt 12 cfg0.N = (heads m c 1536 (by decide) : S4x16384x128.Idx → EReal) := by
  refine (dats m 0 c).arrAt_eq_of_covers 12 _ (by decide +kernel) fun t hf y => ?_
  obtain ⟨-, -, -, -, -, -, -, -, i, -, -, -, -, -, hN⟩ := idxs t
  blk_simp
  rw [after0_12]
  idx_vars y
  refine (qm_at _ _ _ _ _ _).trans (tile m c t _ _ _ _ ?_ ?_)
  all_goals blk_simp [i]
  all_goals try dsimp only
  all_goals omega

/-- The second mixer's key heads' array. -/
theorem arr13 (c : Dev nD) : (dats m 0 c).arrAt 13 cfg0.N = (fun y => heads m c 2048 (by decide) y * scl : S4x16384x128.Idx → EReal) := by
  refine (dats m 0 c).arrAt_eq_of_covers 13 _ (by decide +kernel) fun t hf y => ?_
  obtain ⟨-, -, -, -, -, -, -, -, -, i, -, -, -, -, hN⟩ := idxs t
  blk_simp
  rw [after0_13]
  idx_vars y
  refine (km_at _ _ _ _ _ _).trans (congrArg (· * scl) (tile m c t _ _ _ _ ?_ ?_))
  all_goals blk_simp [i]
  all_goals try dsimp only
  all_goals omega

/-- The second mixer's value heads' array. -/
theorem arr14 (c : Dev nD) : (dats m 0 c).arrAt 14 cfg0.N = (heads m c 2560 (by decide) : S4x16384x128.Idx → EReal) := by
  refine (dats m 0 c).arrAt_eq_of_covers 14 _ (by decide +kernel) fun t hf y => ?_
  obtain ⟨-, -, -, -, -, -, -, -, -, -, i, -, -, -, hN⟩ := idxs t
  blk_simp
  rw [after0_14]
  idx_vars y
  refine (vm_at _ _ _ _ _ _).trans (tile m c t _ _ _ _ ?_ ?_)
  all_goals blk_simp [i]
  all_goals try dsimp only
  all_goals omega

/-- The output gate's array. -/
theorem arr15 (c : Dev nD) : (dats m 0 c).arrAt 15 cfg0.N = (gateO m c : S16384x512.Idx → EReal) := by
  refine (dats m 0 c).arrAt_eq_of_covers 15 _ (by decide +kernel) fun t hf y => ?_
  obtain ⟨-, -, -, -, -, -, -, -, -, -, -, i, -, -, hN⟩ := idxs t
  blk_simp
  rw [after0_15]
  idx_vars y
  refine (om_at _ _ _ _ _).trans (tile m c t _ _ _ _ ?_ ?_)
  all_goals blk_simp [i]
  all_goals try dsimp only
  all_goals omega

/-- The gates' array. -/
theorem arr16 (c : Dev nD) : (dats m 0 c).arrAt 16 cfg0.N = (gates m c : S16384x128.Idx → EReal) := by
  refine (dats m 0 c).arrAt_eq_of_covers 16 _ (by decide +kernel) fun t hf y => ?_
  obtain ⟨-, -, -, -, -, -, -, -, -, -, -, -, i, -, hN⟩ := idxs t
  blk_simp
  rw [after0_16]
  idx_vars y
  refine (gates_at _ _ _ _ _).trans (tile m c t _ _ _ _ ?_ ?_)
  all_goals blk_simp [i]
  all_goals try dsimp only
  all_goals omega

/-- The turned gates' array. -/
theorem arr17 (c : Dev nD) : (dats m 0 c).arrAt 17 cfg0.N = (gatesT m c : S64x8x256.Idx → EReal) := by
  refine (dats m 0 c).arrAt_eq_of_covers 17 _ (by decide +kernel) fun t hf y => ?_
  obtain ⟨-, -, -, -, -, -, -, -, -, -, -, -, -, i, hN⟩ := idxs t
  blk_simp
  rw [after0_17]
  idx_vars y
  refine (gatesT_at _ _ _ _ _ _).trans (tile m c t _ _ _ _ ?_ ?_)
  all_goals blk_simp [i]
  all_goals try dsimp only
  all_goals omega

/-- What the run leaves in the call's results. -/
theorem run_at (r : PUnit × MemSt nD τ sig (Elt Ideal)) (h : Pipeline.FramePost cfgs (dats m) 0 (V m) r) (c : Dev nD) :
    r.2.mem ((c.tc : Thread nD τ).loc main_v5_0) = (heads m c 0 (by decide) : S4x16384x128.Idx → EReal)
    ∧ r.2.mem ((c.tc : Thread nD τ).loc main_v5_1) = (rows m c 512 (by decide) : S65536x128.Idx → EReal)
    ∧ r.2.mem ((c.tc : Thread nD τ).loc main_v5_2) = (rows m c 1024 (by decide) : S65536x128.Idx → EReal)
    ∧ r.2.mem ((c.tc : Thread nD τ).loc main_v5_3) = (heads m c 512 (by decide) : S4x16384x128.Idx → EReal)
    ∧ r.2.mem ((c.tc : Thread nD τ).loc main_v5_4) = (heads m c 1024 (by decide) : S4x16384x128.Idx → EReal)
    ∧ r.2.mem ((c.tc : Thread nD τ).loc main_v5_5) = (heads m c 1536 (by decide) : S4x16384x128.Idx → EReal)
    ∧ r.2.mem ((c.tc : Thread nD τ).loc main_v5_6) = (fun y => heads m c 2048 (by decide) y * scl : S4x16384x128.Idx → EReal)
    ∧ r.2.mem ((c.tc : Thread nD τ).loc main_v5_7) = (heads m c 2560 (by decide) : S4x16384x128.Idx → EReal)
    ∧ r.2.mem ((c.tc : Thread nD τ).loc main_v5_8) = (gateO m c : S16384x512.Idx → EReal)
    ∧ r.2.mem ((c.tc : Thread nD τ).loc main_v5_9) = (gates m c : S16384x128.Idx → EReal)
    ∧ r.2.mem ((c.tc : Thread nD τ).loc main_v5_10) = (gatesT m c : S64x8x256.Idx → EReal) :=
  ⟨((h c).1 7).trans (arr7 m c), ((h c).1 8).trans (arr8 m c), ((h c).1 9).trans (arr9 m c), ((h c).1 10).trans (arr10 m c), ((h c).1 11).trans (arr11 m c), ((h c).1 12).trans (arr12 m c), ((h c).1 13).trans (arr13 m c), ((h c).1 14).trans (arr14 m c), ((h c).1 15).trans (arr15 m c), ((h c).1 16).trans (arr16 m c), ((h c).1 17).trans (arr17 m c)⟩

end Cert.Kernel3Ideal.Proj

end
-- ==== Proof.Proj.Row.lean ====
/- The projection of the normalised rows, as functions of the arguments. -/
module

public import proofs.«01_k».proof.Proof.Ffn.Row
public import Idealize.ShloMosaic.Lib.Pointwise

@[expose] public section

noncomputable section

namespace Cert.Proj
open Idealize.ShloMosaic Cert.Ffn

/-- A row number names a sequence. -/
theorem seq (R : Fin 16384) : R.val / 2048 < 8 := by have := R.isLt; omega
/-- A row number names a token of its sequence. -/
theorem tok (R : Fin 16384) : R.val % 2048 < 2048 := Nat.mod_lt _ (by decide)

/-- An entry of the projection of a row. -/
def proj (x : (⟨3, ![8, 2048, 1024]⟩ : Shape).Idx → EReal) (g : (⟨2, ![6, 1024]⟩ : Shape).Idx → EReal) (w : (⟨2, ![1024, 3592]⟩ : Shape).Idx → EReal)
    (R : Fin 16384) (j : Fin 3592) : EReal :=
  lin (pre (fun e => x (ix3 ⟨R.val / 2048, seq R⟩ ⟨R.val % 2048, tok R⟩ e)) (fun e => g (ix2 2 e))) (fun k j => w (ix2 k j)) j

end Cert.Proj

end
-- ==== Proof.Proj.Host.lean ====
/- What the projection call's arrays hold, of the arguments. -/
module

public import proofs.«01_k».proof.Proof.Proj.Arr
public import proofs.«01_k».proof.Proof.Proj.Row
public import Idealize.ShloMosaic.Lib.Claim

@[expose] public section

set_option maxRecDepth 16384

noncomputable section

namespace Cert.Kernel3Ideal.Proj
open Idealize.ShloMosaic Idealize.ShloMosaic.TcCoe Idealize.SL.Sem
open Cert.Kernel3Ideal Cert.Kernel3Ideal.Gen Cert.Ffn Cert.Proj

variable (m : (ℓ : Loc nD τ sig) → Buf (Elt Ideal) ℓ)

/-- Columns padded with zeros. -/
theorem pad_at (x : FVec Ideal S1024x3592 .f32) (k : Fin 1024) (j : Fin 3712) :
    pad S1024x3712 ![0, 0] ![0, 120] ![0, 0] x (sitofp (F := Ideal) .f32 (constantI S_ 32 0#32)) pads_S1024x3592_S1024x3712_000_01200 h_S_ (ix2 k j)
      = if h : j.val < 3592 then x (ix2 k ⟨j.val, h⟩) else (0 : EReal) := by
  have z : ∀ i, sitofp (F := Ideal) .f32 (constantI S_ 32 0#32) i = (0 : EReal) := fun i => by
    show (((0#32 : BitVec 32).toInt : ℝ) : EReal) = 0
    simp
  generalize (sitofp (F := Ideal) .f32 (constantI S_ 32 0#32)) = v at z ⊢
  pointwise
  simp only [z]

/-- The rows. -/
theorem V_x (c : Dev nD) (R : Fin 16384) (e : Fin 1024) :
    (V m c main_v3 : Vec Ideal S16384x1024 .f32) (ix2 R e) = (m ((c : Thread nD τ).loc main_arg0) : FVec Ideal S8x2048x1024 .f32) (ix3 ⟨R.val / 2048, seq R⟩ ⟨R.val % 2048, tok R⟩ e) := by
  unfold V
  simp only [hostOps0, hostOps0_1, hostOps0_2, List.flatten_cons, List.flatten_nil, List.append_nil, List.cons_append, List.nil_append]
  entry_read
  pointwise

/-- The gains. -/
theorem V_g (c : Dev nD) (e : Fin 1024) :
    (V m c main_v4 : Vec Ideal S1x1024 .f32) (ix2 0 e) = (m ((c : Thread nD τ).loc main_arg1) : FVec Ideal S6x1024 .f32) (ix2 2 e) := by
  unfold V
  simp only [hostOps0, hostOps0_1, hostOps0_2, List.flatten_cons, List.flatten_nil, List.append_nil, List.cons_append, List.nil_append]
  entry_read
  pointwise

/-- The weights, zero columns after them. -/
theorem V_w (c : Dev nD) (k : Fin 1024) (j : Fin 3712) :
    (V m c main_v2 : Vec Ideal S1x1024x3712 .bf16) (ix3 0 k j) = if h : j.val < 3592 then (m ((c : Thread nD τ).loc main_arg2) : FVec Ideal S1024x3592 .f32) (ix2 k ⟨j.val, h⟩) else (0 : EReal) := by
  unfold V
  simp only [hostOps0, hostOps0_1, hostOps0_2, List.flatten_cons, List.flatten_nil, List.append_nil, List.cons_append, List.nil_append]
  entry_read
  pointwise
  exact pad_at _ _ _

/-- An entry of the kernel's projection, of the arguments. -/
theorem arr_of (c : Dev nD) (R : Fin 16384) (j : Fin 3712) (h : j.val < 3592) :
    arr m c R j = proj (m ((c : Thread nD τ).loc main_arg0)) (m ((c : Thread nD τ).loc main_arg1)) (m ((c : Thread nD τ).loc main_arg2)) R ⟨j.val, h⟩ := by
  unfold arr proj lin
  refine Finset.sum_congr rfl fun k _ => congrArg₂ (· * ·) (congrArg₂ (fun a b => pre a b k) (funext fun e => V_x m c R e) (funext fun e => V_g m c e)) ?_
  exact (V_w m c k j).trans (dif_pos h)

/-- A column past the weights' is zero. -/
theorem arr_zero (c : Dev nD) (R : Fin 16384) (j : Fin 3712) (h : ¬ j.val < 3592) : arr m c R j = 0 := by
  unfold arr lin
  exact Finset.sum_eq_zero fun k _ => (congrArg (pre _ _ k * ·) ((V_w m c k j).trans (dif_neg h))).trans (mul_zero _)

end Cert.Kernel3Ideal.Proj

end
-- ==== Proof.Proj.Ref.lean ====
/- The reference's results, entry by entry. -/
module

public import proofs.«01_k».proof.Proof.Gen.Reference3Ideal.Read
public import proofs.«01_k».proof.Proof.Proj.Row
public import Idealize.ShloMosaic.Lib.Pointwise

@[expose] public section

set_option maxRecDepth 16384

noncomputable section

namespace Cert.Reference3Ideal.Proj
open Idealize.ShloMosaic Idealize.ShloMosaic.TcCoe Idealize.SL.Sem
open Cert.Reference3Ideal Cert.Reference3Ideal.Read Cert.Ffn Cert.Proj

variable (x : FVec Ideal S8x2048x1024 .f32) (g : FVec Ideal S6x1024 .f32) (w : FVec Ideal S1024x3592 .f32)

/-- The normalised rows. -/
theorem ref_pre (b : Fin 8) (t : Fin 2048) (e : Fin 1024) :
    val_main_v14 (F := Ideal) x g (ix3 b t e) = pre (fun e => x (ix3 b t e)) (fun e => g (ix2 2 e)) e := by
  unfold pre nrm
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]

/-- The projection. -/
theorem ref_proj (R : Fin 16384) (j : Fin 3592) :
    val_main_v15 (F := Ideal) x g w (ix3 ⟨R.val / 2048, seq R⟩ ⟨R.val % 2048, tok R⟩ j) = proj x g w R j := by
  have e := ref_pre x g ⟨R.val / 2048, seq R⟩ ⟨R.val % 2048, tok R⟩
  unfold proj lin
  simp only [← e]
  pointwise [val_main_v15]

/-- The projection is read at equal coordinates. -/
theorem at_eq {b b' : Fin 8} {t t' : Fin 2048} {j j' : Fin 3592} (hb : b.val = b'.val) (ht : t.val = t'.val) (hj : j.val = j'.val) :
    val_main_v15 (F := Ideal) x g w (ix3 b t j) = val_main_v15 (F := Ideal) x g w (ix3 b' t' j') := by
  obtain rfl := Fin.ext hb; obtain rfl := Fin.ext ht; obtain rfl := Fin.ext hj; rfl

/-- The first mixer's query heads. -/
theorem ref_qa (h : Fin 4) (R : Fin 16384) (d : Fin 128) :
    val_main_v26 (F := Ideal) x g w (ix3 h R d) = proj x g w R ⟨0 + (128 * h.val + d.val), by omega⟩ := by
  rw [← ref_proj]
  pointwise [val_main_v26, val_main_v25, val_main_v24, val_main_v16]
  exact at_eq x g w (by dsimp only <;> omega) (by dsimp only <;> omega) (by dsimp only <;> omega)
/-- The first mixer's keys, row by row. -/
theorem ref_kRows (Y : Fin 65536) (d : Fin 128) :
    val_main_v27 (F := Ideal) x g w (ix2 Y d) = proj x g w ⟨Y.val / 4, by omega⟩ ⟨512 + (128 * (Y.val % 4) + d.val), by omega⟩ := by
  rw [← ref_proj]
  pointwise [val_main_v27, val_main_v17]
  exact at_eq x g w (by dsimp only <;> omega) (by dsimp only <;> omega) (by dsimp only <;> omega)
/-- The first mixer's values, row by row. -/
theorem ref_vRows (Y : Fin 65536) (d : Fin 128) :
    val_main_v28 (F := Ideal) x g w (ix2 Y d) = proj x g w ⟨Y.val / 4, by omega⟩ ⟨1024 + (128 * (Y.val % 4) + d.val), by omega⟩ := by
  rw [← ref_proj]
  pointwise [val_main_v28, val_main_v18]
  exact at_eq x g w (by dsimp only <;> omega) (by dsimp only <;> omega) (by dsimp only <;> omega)
/-- The first mixer's key heads. -/
theorem ref_ka (h : Fin 4) (R : Fin 16384) (d : Fin 128) :
    val_main_v31 (F := Ideal) x g w (ix3 h R d) = proj x g w R ⟨512 + (128 * h.val + d.val), by omega⟩ := by
  rw [← ref_proj]
  pointwise [val_main_v31, val_main_v30, val_main_v29, val_main_v17]
  exact at_eq x g w (by dsimp only <;> omega) (by dsimp only <;> omega) (by dsimp only <;> omega)
/-- The first mixer's value heads. -/
theorem ref_va (h : Fin 4) (R : Fin 16384) (d : Fin 128) :
    val_main_v34 (F := Ideal) x g w (ix3 h R d) = proj x g w R ⟨1024 + (128 * h.val + d.val), by omega⟩ := by
  rw [← ref_proj]
  pointwise [val_main_v34, val_main_v33, val_main_v32, val_main_v18]
  exact at_eq x g w (by dsimp only <;> omega) (by dsimp only <;> omega) (by dsimp only <;> omega)
/-- The second mixer's query heads. -/
theorem ref_qm (h : Fin 4) (R : Fin 16384) (d : Fin 128) :
    val_main_v37 (F := Ideal) x g w (ix3 h R d) = proj x g w R ⟨1536 + (128 * h.val + d.val), by omega⟩ := by
  rw [← ref_proj]
  pointwise [val_main_v37, val_main_v36, val_main_v35, val_main_v19]
  exact at_eq x g w (by dsimp only <;> omega) (by dsimp only <;> omega) (by dsimp only <;> omega)
/-- The second mixer's scaled key heads. -/
theorem ref_km (h : Fin 4) (R : Fin 16384) (d : Fin 128) :
    val_main_v42 (F := Ideal) x g w (ix3 h R d) = proj x g w R ⟨2048 + (128 * h.val + d.val), by omega⟩ * (Scalar.ofBits .f32 0x3DB504F3#32 : Ideal .f32) := by
  rw [← ref_proj]
  pointwise [val_main_v42, val_main_v41, val_main_v40, val_main_v39, val_main_v38, val_main_cst_2, val_main_v20]
  exact congrArg (· * Ideal.ofBits .f32 0x3DB504F3#32) (at_eq x g w (by dsimp only <;> omega) (by dsimp only <;> omega) (by dsimp only <;> omega))
/-- The second mixer's value heads. -/
theorem ref_vm (h : Fin 4) (R : Fin 16384) (d : Fin 128) :
    val_main_v45 (F := Ideal) x g w (ix3 h R d) = proj x g w R ⟨2560 + (128 * h.val + d.val), by omega⟩ := by
  rw [← ref_proj]
  pointwise [val_main_v45, val_main_v44, val_main_v43, val_main_v21]
  exact at_eq x g w (by dsimp only <;> omega) (by dsimp only <;> omega) (by dsimp only <;> omega)
/-- The second mixer's output gate. -/
theorem ref_om (R : Fin 16384) (i : Fin 512) :
    val_main_v46 (F := Ideal) x g w (ix2 R i) = proj x g w R ⟨3072 + i.val, by omega⟩ := by
  rw [← ref_proj]
  pointwise [val_main_v46, val_main_v22]
/-- The gates, zero columns after them. -/
theorem ref_gates (R : Fin 16384) (i : Fin 128) :
    val_main_v48 (F := Ideal) x g w (ix2 R i) = if h : i.val < 8 then proj x g w R ⟨3584 + i.val, by omega⟩ else 0 := by
  simp only [← ref_proj]
  have z : ∀ i, val_main_call0_v0 (F := Ideal) i = 0 := by
    intro i
    show (((0#32 : BitVec 32).toInt : ℝ) : EReal) = 0
    simp
  pointwise [val_main_v48, val_main_v47, val_main_v23]
  simp only [z]
/-- The gates, 256 rows along the last axis. -/
theorem ref_gatesT (a : Fin 64) (j : Fin 8) (q : Fin 256) :
    val_main_v50 (F := Ideal) x g w (ix3 a j q) = proj x g w ⟨256 * a.val + q.val, by omega⟩ ⟨3584 + j.val, by omega⟩ := by
  rw [← ref_proj]
  pointwise [val_main_v50, val_main_v49, val_main_v23]
  exact at_eq x g w (by dsimp only <;> omega) (by dsimp only <;> omega) (by dsimp only <;> omega)

end Cert.Reference3Ideal.Proj

end
-- ==== Proof.Proj.Claims.lean ====
/- The claims about the projection: its reference's frame, and the equality of the eleven results. -/
module

public import proofs.«01_k».proof.Defs
public import proofs.«01_k».proof.Proof.Proj.Host
public import proofs.«01_k».proof.Proof.Proj.Ref
public import Idealize.ShloMosaic.Init

@[expose] public section

set_option maxRecDepth 16384

noncomputable section

namespace Cert.Proj
open Idealize.ShloMosaic Idealize.ShloMosaic.TcCoe Idealize.SL.Sem
open Cert.Kernel3Ideal (main_arg0 main_arg1 main_arg2)
open Cert.Kernel3Ideal.Proj Cert.Reference3Ideal.Proj Cert.Reference3Ideal.Read

/-- The reference runs, leaves its arguments alone and ends quiet. -/
theorem frame_ref : Cert.quiescent_Reference3Ideal := fun m ρ _ =>
  (θ_run Cert.Reference3Ideal.defs _ _).mono (fun r h => ⟨fun c => (h c).2.2.2.2.2.2.2.2.2.2.2, sem_eq_zero_of_no_sems (by decide) r.2⟩)
    (Cert.Reference3Ideal.Value.run (F := Ideal) m ρ)

variable (m : (ℓ : Loc Cert.Kernel3Ideal.nD Cert.Kernel3Ideal.τ Cert.Kernel3Ideal.sig) → Buf (Elt Ideal) ℓ) (c : Dev Cert.Kernel3Ideal.nD)

/-- The rows given. -/
abbrev argX : FVec Ideal Cert.Reference3Ideal.S8x2048x1024 .f32 := m ((c.tc : Thread Cert.Kernel3Ideal.nD Cert.Kernel3Ideal.τ).loc main_arg0)
/-- The gains given. -/
abbrev argG : FVec Ideal Cert.Reference3Ideal.S6x1024 .f32 := m ((c.tc : Thread Cert.Kernel3Ideal.nD Cert.Kernel3Ideal.τ).loc main_arg1)
/-- The weights given. -/
abbrev argW : FVec Ideal Cert.Reference3Ideal.S1024x3592 .f32 := m ((c.tc : Thread Cert.Kernel3Ideal.nD Cert.Kernel3Ideal.τ).loc main_arg2)

/-- The first mixer's query heads agree. -/
theorem qa_eq : val_main_v26 (F := Ideal) (argX m c) (argG m c) (argW m c) = (heads m c 0 (by decide) : Cert.Kernel3Ideal.S4x16384x128.Idx → EReal) := by
  funext y
  idx_vars y
  refine (ref_qa _ _ _ _ _ _).trans (Eq.symm ?_)
  exact arr_of m c _ _ _

/-- The first mixer's keys agree. -/
theorem kRows_eq : val_main_v27 (F := Ideal) (argX m c) (argG m c) (argW m c) = (rows m c 512 (by decide) : Cert.Kernel3Ideal.S65536x128.Idx → EReal) := by
  funext y
  idx_vars y
  refine (ref_kRows _ _ _ _ _).trans (Eq.symm ?_)
  exact arr_of m c _ _ _

/-- The first mixer's values agree. -/
theorem vRows_eq : val_main_v28 (F := Ideal) (argX m c) (argG m c) (argW m c) = (rows m c 1024 (by decide) : Cert.Kernel3Ideal.S65536x128.Idx → EReal) := by
  funext y
  idx_vars y
  refine (ref_vRows _ _ _ _ _).trans (Eq.symm ?_)
  exact arr_of m c _ _ _

/-- The first mixer's key heads agree. -/
theorem ka_eq : val_main_v31 (F := Ideal) (argX m c) (argG m c) (argW m c) = (heads m c 512 (by decide) : Cert.Kernel3Ideal.S4x16384x128.Idx → EReal) := by
  funext y
  idx_vars y
  refine (ref_ka _ _ _ _ _ _).trans (Eq.symm ?_)
  exact arr_of m c _ _ _

/-- The first mixer's value heads agree. -/
theorem va_eq : val_main_v34 (F := Ideal) (argX m c) (argG m c) (argW m c) = (heads m c 1024 (by decide) : Cert.Kernel3Ideal.S4x16384x128.Idx → EReal) := by
  funext y
  idx_vars y
  refine (ref_va _ _ _ _ _ _).trans (Eq.symm ?_)
  exact arr_of m c _ _ _

/-- The second mixer's query heads agree. -/
theorem qm_eq : val_main_v37 (F := Ideal) (argX m c) (argG m c) (argW m c) = (heads m c 1536 (by decide) : Cert.Kernel3Ideal.S4x16384x128.Idx → EReal) := by
  funext y
  idx_vars y
  refine (ref_qm _ _ _ _ _ _).trans (Eq.symm ?_)
  exact arr_of m c _ _ _

/-- The second mixer's key heads agree. -/
theorem km_eq : val_main_v42 (F := Ideal) (argX m c) (argG m c) (argW m c) = (fun y => heads m c 2048 (by decide) y * scl : Cert.Kernel3Ideal.S4x16384x128.Idx → EReal) := by
  funext y
  idx_vars y
  refine (ref_km _ _ _ _ _ _).trans (congrArg (· * scl) (Eq.symm ?_))
  exact arr_of m c _ _ _

/-- The second mixer's value heads agree. -/
theorem vm_eq : val_main_v45 (F := Ideal) (argX m c) (argG m c) (argW m c) = (heads m c 2560 (by decide) : Cert.Kernel3Ideal.S4x16384x128.Idx → EReal) := by
  funext y
  idx_vars y
  refine (ref_vm _ _ _ _ _ _).trans (Eq.symm ?_)
  exact arr_of m c _ _ _

/-- The output gates agree. -/
theorem om_eq : val_main_v46 (F := Ideal) (argX m c) (argG m c) (argW m c) = (gateO m c : Cert.Kernel3Ideal.S16384x512.Idx → EReal) := by
  funext y
  idx_vars y
  refine (ref_om _ _ _ _ _).trans (Eq.symm ?_)
  exact arr_of m c _ _ _

/-- The gates agree: a column past theirs is zero in both. -/
theorem gates_eq : val_main_v48 (F := Ideal) (argX m c) (argG m c) (argW m c) = (gates m c : Cert.Kernel3Ideal.S16384x128.Idx → EReal) := by
  funext y
  idx_vars y
  refine (ref_gates _ _ _ _ _).trans ?_
  unfold gates
  split
  · refine Eq.symm ?_
    exact arr_of m c _ _ _
  · rename_i h
    refine (arr_zero m c _ _ ?_).symm
    show ¬ 3584 + y1.val < 3592
    omega

/-- The turned gates agree. -/
theorem gatesT_eq : val_main_v50 (F := Ideal) (argX m c) (argG m c) (argW m c) = (gatesT m c : Cert.Kernel3Ideal.S64x8x256.Idx → EReal) := by
  funext y
  idx_vars y
  refine (ref_gatesT _ _ _ _ _ _).trans (Eq.symm ?_)
  exact arr_of m c _ _ _

/-- The kernel's results are the reference's, of arguments that agree. -/
theorem algebraic : Cert.algebraic_Kernel3Ideal_Reference3Ideal := by
  intro m ρ m' ρ' _ hag
  refine ⟨fun c => (heads m c 0 (by decide) : Cert.Kernel3Ideal.S4x16384x128.Idx → EReal),
    fun c => (rows m c 512 (by decide) : Cert.Kernel3Ideal.S65536x128.Idx → EReal),
    fun c => (rows m c 1024 (by decide) : Cert.Kernel3Ideal.S65536x128.Idx → EReal),
    fun c => (heads m c 512 (by decide) : Cert.Kernel3Ideal.S4x16384x128.Idx → EReal),
    fun c => (heads m c 1024 (by decide) : Cert.Kernel3Ideal.S4x16384x128.Idx → EReal),
    fun c => (heads m c 1536 (by decide) : Cert.Kernel3Ideal.S4x16384x128.Idx → EReal),
    fun c => (fun y => heads m c 2048 (by decide) y * scl : Cert.Kernel3Ideal.S4x16384x128.Idx → EReal),
    fun c => (heads m c 2560 (by decide) : Cert.Kernel3Ideal.S4x16384x128.Idx → EReal),
    fun c => (gateO m c : Cert.Kernel3Ideal.S16384x512.Idx → EReal),
    fun c => (gates m c : Cert.Kernel3Ideal.S16384x128.Idx → EReal),
    fun c => (gatesT m c : Cert.Kernel3Ideal.S64x8x256.Idx → EReal), ?_, ?_⟩
  · refine (θ_run Cert.Kernel3Ideal.defs _ _).mono (fun r h c => ?_)
      (θ_run_and (Cert.Kernel3Ideal.Proj.unchanged (F := Ideal) m ρ) (Cert.Kernel3Ideal.Proj.run_main (F := Ideal) m ρ))
    obtain ⟨e0, e1, e2, e3, e4, e5, e6, e7, e8, e9, e10⟩ := run_at m r h.2 c
    exact ⟨e0, e1, e2, e3, e4, e5, e6, e7, e8, e9, e10, h.1 c⟩
  · refine (θ_run Cert.Reference3Ideal.defs _ _).mono (fun r h c => ?_) (Cert.Reference3Ideal.Value.run (F := Ideal) m' ρ')
    obtain ⟨g0, g1, g2, -⟩ := hag c
    obtain ⟨e0, e1, e2, e3, e4, e5, e6, e7, e8, e9, e10, hu⟩ := h c
    refine ⟨e0.trans ((val_main_v26_eq (F := Ideal) _ _ _).trans (Eq.trans ?_ (qa_eq m c))),
      e1.trans ((val_main_v27_eq (F := Ideal) _ _ _).trans (Eq.trans ?_ (kRows_eq m c))),
      e2.trans ((val_main_v28_eq (F := Ideal) _ _ _).trans (Eq.trans ?_ (vRows_eq m c))),
      e3.trans ((val_main_v31_eq (F := Ideal) _ _ _).trans (Eq.trans ?_ (ka_eq m c))),
      e4.trans ((val_main_v34_eq (F := Ideal) _ _ _).trans (Eq.trans ?_ (va_eq m c))),
      e5.trans ((val_main_v37_eq (F := Ideal) _ _ _).trans (Eq.trans ?_ (qm_eq m c))),
      e6.trans ((val_main_v42_eq (F := Ideal) _ _ _).trans (Eq.trans ?_ (km_eq m c))),
      e7.trans ((val_main_v45_eq (F := Ideal) _ _ _).trans (Eq.trans ?_ (vm_eq m c))),
      e8.trans ((val_main_v46_eq (F := Ideal) _ _ _).trans (Eq.trans ?_ (om_eq m c))),
      e9.trans ((val_main_v48_eq (F := Ideal) _ _ _).trans (Eq.trans ?_ (gates_eq m c))),
      e10.trans ((val_main_v50_eq (F := Ideal) _ _ _).trans (Eq.trans ?_ (gatesT_eq m c))), hu⟩
    all_goals rw [g0, g1, g2]

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_args
public import proofs.«01_k».proof.Proof.Attn.Claims
public import proofs.«01_k».proof.Proof.Ffn.FrameBits
public import proofs.«01_k».proof.Proof.Ffn.Ideal.Frame
public import proofs.«01_k».proof.Proof.Ffn.Claims
public import proofs.«01_k».proof.Proof.Proj.FrameBits
public import proofs.«01_k».proof.Proof.Proj.Claims
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite_args.Gen.facts,
  fun m ρ _ => Cert.Kernel.Gen.frame m ρ, fun m ρ _ => Cert.KernelIdeal.Gen.frame m ρ, fun m ρ _ => Cert.KernelIdeal.Gen.frame m ρ,
  Cert.Attn.frame_ref, fun m ρ _ => Cert.Attn.frame_ref m ρ trivial,
  Cert.Ffn.frame_kernel, fun m ρ _ => Cert.Kernel2Ideal.Ffn.frame m ρ, Cert.Ffn.frame_ref,
  Cert.Proj.frame_kernel, fun m ρ _ => Cert.Kernel3Ideal.Proj.frame m ρ, Cert.Proj.frame_ref,
  Cert.Attn.preserved, Cert.Attn.algebraic, trivial, Cert.Ffn.algebraic, trivial, Cert.Proj.algebraic⟩

end Cert.Proof

end
